-- ==== Defs.lean ====
def Pre_WAttn (m : (ℓ : Loc Cert.WAttn.nD Cert.WAttn.τ Cert.WAttn.sig) → Buf (Elt Bits) ℓ) : Prop :=
  True

def Pre_WAttnIdeal (m : (ℓ : Loc Cert.WAttnIdeal.nD Cert.WAttnIdeal.τ Cert.WAttnIdeal.sig) → Buf (Elt Ideal) ℓ) : Prop :=
  True

def Pre_WAttnIdeal_finite_scores_w [hPre_finite_scores_w : Cert.Pre_finite_scores_w.Facts] (m : (ℓ : Loc Cert.WAttnIdeal.nD Cert.WAttnIdeal.τ Cert.WAttnIdeal.sig) → Buf (Elt Ideal) ℓ) : Prop :=
  ∀ c : Dev Cert.WAttnIdeal.nD,
    (Cert.Pre_finite_scores_w.fn (F := Ideal) (m ((c.tc : Thread Cert.WAttnIdeal.nD Cert.WAttnIdeal.τ).loc Cert.WAttnIdeal.main_arg0)) (m ((c.tc : Thread Cert.WAttnIdeal.nD Cert.WAttnIdeal.τ).loc Cert.WAttnIdeal.main_arg1)) (m ((c.tc : Thread Cert.WAttnIdeal.nD Cert.WAttnIdeal.τ).loc Cert.WAttnIdeal.main_arg2))).1 = (fun _ => 1#1)
    ∧ (Cert.Pre_finite_scores_w.fn (F := Ideal) (m ((c.tc : Thread Cert.WAttnIdeal.nD Cert.WAttnIdeal.τ).loc Cert.WAttnIdeal.main_arg0)) (m ((c.tc : Thread Cert.WAttnIdeal.nD Cert.WAttnIdeal.τ).loc Cert.WAttnIdeal.main_arg1)) (m ((c.tc : Thread Cert.WAttnIdeal.nD Cert.WAttnIdeal.τ).loc Cert.WAttnIdeal.main_arg2))).2.1 = (fun _ => 1#1)
    ∧ (Cert.Pre_finite_scores_w.fn (F := Ideal) (m ((c.tc : Thread Cert.WAttnIdeal.nD Cert.WAttnIdeal.τ).loc Cert.WAttnIdeal.main_arg0)) (m ((c.tc : Thread Cert.WAttnIdeal.nD Cert.WAttnIdeal.τ).loc Cert.WAttnIdeal.main_arg1)) (m ((c.tc : Thread Cert.WAttnIdeal.nD Cert.WAttnIdeal.τ).loc Cert.WAttnIdeal.main_arg2))).2.2.1 = (fun _ => 1#1)
    ∧ (Cert.Pre_finite_scores_w.fn (F := Ideal) (m ((c.tc : Thread Cert.WAttnIdeal.nD Cert.WAttnIdeal.τ).loc Cert.WAttnIdeal.main_arg0)) (m ((c.tc : Thread Cert.WAttnIdeal.nD Cert.WAttnIdeal.τ).loc Cert.WAttnIdeal.main_arg1)) (m ((c.tc : Thread Cert.WAttnIdeal.nD Cert.WAttnIdeal.τ).loc Cert.WAttnIdeal.main_arg2))).2.2.2 = (fun _ => 1#1)

def Pre_WAttnRefIdeal (m : (ℓ : Loc Cert.WAttnRefIdeal.nD Cert.WAttnRefIdeal.τ Cert.WAttnRefIdeal.sig) → Buf (Elt Ideal) ℓ) : Prop :=
  True

def Pre_WAttnRefIdeal_finite_scores_w [hPre_finite_scores_w : Cert.Pre_finite_scores_w.Facts] (m : (ℓ : Loc Cert.WAttnRefIdeal.nD Cert.WAttnRefIdeal.τ Cert.WAttnRefIdeal.sig) → Buf (Elt Ideal) ℓ) : Prop :=
  ∀ c : Dev Cert.WAttnRefIdeal.nD,
    (Cert.Pre_finite_scores_w.fn (F := Ideal) (m ((c.tc : Thread Cert.WAttnRefIdeal.nD Cert.WAttnRefIdeal.τ).loc Cert.WAttnRefIdeal.main_arg0)) (m ((c.tc : Thread Cert.WAttnRefIdeal.nD Cert.WAttnRefIdeal.τ).loc Cert.WAttnRefIdeal.main_arg1)) (m ((c.tc : Thread Cert.WAttnRefIdeal.nD Cert.WAttnRefIdeal.τ).loc Cert.WAttnRefIdeal.main_arg2))).1 = (fun _ => 1#1)
    ∧ (Cert.Pre_finite_scores_w.fn (F := Ideal) (m ((c.tc : Thread Cert.WAttnRefIdeal.nD Cert.WAttnRefIdeal.τ).loc Cert.WAttnRefIdeal.main_arg0)) (m ((c.tc : Thread Cert.WAttnRefIdeal.nD Cert.WAttnRefIdeal.τ).loc Cert.WAttnRefIdeal.main_arg1)) (m ((c.tc : Thread Cert.WAttnRefIdeal.nD Cert.WAttnRefIdeal.τ).loc Cert.WAttnRefIdeal.main_arg2))).2.1 = (fun _ => 1#1)
    ∧ (Cert.Pre_finite_scores_w.fn (F := Ideal) (m ((c.tc : Thread Cert.WAttnRefIdeal.nD Cert.WAttnRefIdeal.τ).loc Cert.WAttnRefIdeal.main_arg0)) (m ((c.tc : Thread Cert.WAttnRefIdeal.nD Cert.WAttnRefIdeal.τ).loc Cert.WAttnRefIdeal.main_arg1)) (m ((c.tc : Thread Cert.WAttnRefIdeal.nD Cert.WAttnRefIdeal.τ).loc Cert.WAttnRefIdeal.main_arg2))).2.2.1 = (fun _ => 1#1)
    ∧ (Cert.Pre_finite_scores_w.fn (F := Ideal) (m ((c.tc : Thread Cert.WAttnRefIdeal.nD Cert.WAttnRefIdeal.τ).loc Cert.WAttnRefIdeal.main_arg0)) (m ((c.tc : Thread Cert.WAttnRefIdeal.nD Cert.WAttnRefIdeal.τ).loc Cert.WAttnRefIdeal.main_arg1)) (m ((c.tc : Thread Cert.WAttnRefIdeal.nD Cert.WAttnRefIdeal.τ).loc Cert.WAttnRefIdeal.main_arg2))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MAttn (m : (ℓ : Loc Cert.MAttn.nD Cert.MAttn.τ Cert.MAttn.sig) → Buf (Elt Bits) ℓ) : Prop :=
  True

def Pre_MAttnIdeal (m : (ℓ : Loc Cert.MAttnIdeal.nD Cert.MAttnIdeal.τ Cert.MAttnIdeal.sig) → Buf (Elt Ideal) ℓ) : Prop :=
  True

def Pre_MAttnIdeal_finite_scores_m [hPre_finite_scores_m : Cert.Pre_finite_scores_m.Facts] (m : (ℓ : Loc Cert.MAttnIdeal.nD Cert.MAttnIdeal.τ Cert.MAttnIdeal.sig) → Buf (Elt Ideal) ℓ) : Prop :=
  ∀ c : Dev Cert.MAttnIdeal.nD,
    (Cert.Pre_finite_scores_m.fn (F := Ideal) (m ((c.tc : Thread Cert.MAttnIdeal.nD Cert.MAttnIdeal.τ).loc Cert.MAttnIdeal.main_arg0)) (m ((c.tc : Thread Cert.MAttnIdeal.nD Cert.MAttnIdeal.τ).loc Cert.MAttnIdeal.main_arg1))).1 = (fun _ => 1#1)
    ∧ (Cert.Pre_finite_scores_m.fn (F := Ideal) (m ((c.tc : Thread Cert.MAttnIdeal.nD Cert.MAttnIdeal.τ).loc Cert.MAttnIdeal.main_arg0)) (m ((c.tc : Thread Cert.MAttnIdeal.nD Cert.MAttnIdeal.τ).loc Cert.MAttnIdeal.main_arg1))).2 = (fun _ => 1#1)

def Pre_MAttnRefIdeal (m : (ℓ : Loc Cert.MAttnRefIdeal.nD Cert.MAttnRefIdeal.τ Cert.MAttnRefIdeal.sig) → Buf (Elt Ideal) ℓ) : Prop :=
  True

def Pre_MAttnRefIdeal_finite_scores_m [hPre_finite_scores_m : Cert.Pre_finite_scores_m.Facts] (m : (ℓ : Loc Cert.MAttnRefIdeal.nD Cert.MAttnRefIdeal.τ Cert.MAttnRefIdeal.sig) → Buf (Elt Ideal) ℓ) : Prop :=
  ∀ c : Dev Cert.MAttnRefIdeal.nD,
    (Cert.Pre_finite_scores_m.fn (F := Ideal) (m ((c.tc : Thread Cert.MAttnRefIdeal.nD Cert.MAttnRefIdeal.τ).loc Cert.MAttnRefIdeal.main_arg0)) (m ((c.tc : Thread Cert.MAttnRefIdeal.nD Cert.MAttnRefIdeal.τ).loc Cert.MAttnRefIdeal.main_arg1))).1 = (fun _ => 1#1)
    ∧ (Cert.Pre_finite_scores_m.fn (F := Ideal) (m ((c.tc : Thread Cert.MAttnRefIdeal.nD Cert.MAttnRefIdeal.τ).loc Cert.MAttnRefIdeal.main_arg0)) (m ((c.tc : Thread Cert.MAttnRefIdeal.nD Cert.MAttnRefIdeal.τ).loc Cert.MAttnRefIdeal.main_arg1))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_WAttn [hWAttn : Cert.WAttn.Facts] : Prop :=
  ∀ (m : (ℓ : Loc Cert.WAttn.nD Cert.WAttn.τ Cert.WAttn.sig) → Buf (Elt Bits) ℓ) (g : Dev Cert.WAttn.nD → PrngReg), Pre_WAttn m →
    θ_run (Cert.WAttn.defs (F := Bits)) (onTc (τ := Cert.WAttn.τ) (Cert.WAttn.main (F := Bits))) ⟨m, fun _ => 0, g⟩ (fun r => (∀ c : Dev Cert.WAttn.nD,
      r.2.mem ((c.tc : Thread Cert.WAttn.nD Cert.WAttn.τ).loc Cert.WAttn.main_arg0) = m ((c.tc : Thread Cert.WAttn.nD Cert.WAttn.τ).loc Cert.WAttn.main_arg0)
      ∧ r.2.mem ((c.tc : Thread Cert.WAttn.nD Cert.WAttn.τ).loc Cert.WAttn.main_arg1) = m ((c.tc : Thread Cert.WAttn.nD Cert.WAttn.τ).loc Cert.WAttn.main_arg1)
      ∧ r.2.mem ((c.tc : Thread Cert.WAttn.nD Cert.WAttn.τ).loc Cert.WAttn.main_arg2) = m ((c.tc : Thread Cert.WAttn.nD Cert.WAttn.τ).loc Cert.WAttn.main_arg2))
      ∧ r.2.sem = fun _ => 0)

def quiescent_WAttnIdeal [hWAttnIdeal : Cert.WAttnIdeal.Facts] : Prop :=
  ∀ (m : (ℓ : Loc Cert.WAttnIdeal.nD Cert.WAttnIdeal.τ Cert.WAttnIdeal.sig) → Buf (Elt Ideal) ℓ) (g : Dev Cert.WAttnIdeal.nD → PrngReg), Pre_WAttnIdeal m →
    θ_run (Cert.WAttnIdeal.defs (F := Ideal)) (onTc (τ := Cert.WAttnIdeal.τ) (Cert.WAttnIdeal.main (F := Ideal))) ⟨m, fun _ => 0, g⟩ (fun r => (∀ c : Dev Cert.WAttnIdeal.nD,
      r.2.mem ((c.tc : Thread Cert.WAttnIdeal.nD Cert.WAttnIdeal.τ).loc Cert.WAttnIdeal.main_arg0) = m ((c.tc : Thread Cert.WAttnIdeal.nD Cert.WAttnIdeal.τ).loc Cert.WAttnIdeal.main_arg0)
      ∧ r.2.mem ((c.tc : Thread Cert.WAttnIdeal.nD Cert.WAttnIdeal.τ).loc Cert.WAttnIdeal.main_arg1) = m ((c.tc : Thread Cert.WAttnIdeal.nD Cert.WAttnIdeal.τ).loc Cert.WAttnIdeal.main_arg1)
      ∧ r.2.mem ((c.tc : Thread Cert.WAttnIdeal.nD Cert.WAttnIdeal.τ).loc Cert.WAttnIdeal.main_arg2) = m ((c.tc : Thread Cert.WAttnIdeal.nD Cert.WAttnIdeal.τ).loc Cert.WAttnIdeal.main_arg2))
      ∧ r.2.sem = fun _ => 0)

def quiescent_WAttnIdeal_pre_finite_scores_w [hWAttnIdeal : Cert.WAttnIdeal.Facts] [hPre_finite_scores_w : Cert.Pre_finite_scores_w.Facts] : Prop :=
  ∀ (m : (ℓ : Loc Cert.WAttnIdeal.nD Cert.WAttnIdeal.τ Cert.WAttnIdeal.sig) → Buf (Elt Ideal) ℓ) (g : Dev Cert.WAttnIdeal.nD → PrngReg), Pre_WAttnIdeal_finite_scores_w m →
    θ_run (Cert.WAttnIdeal.defs (F := Ideal)) (onTc (τ := Cert.WAttnIdeal.τ) (Cert.WAttnIdeal.main (F := Ideal))) ⟨m, fun _ => 0, g⟩ (fun r => (∀ c : Dev Cert.WAttnIdeal.nD,
      r.2.mem ((c.tc : Thread Cert.WAttnIdeal.nD Cert.WAttnIdeal.τ).loc Cert.WAttnIdeal.main_arg0) = m ((c.tc : Thread Cert.WAttnIdeal.nD Cert.WAttnIdeal.τ).loc Cert.WAttnIdeal.main_arg0)
      ∧ r.2.mem ((c.tc : Thread Cert.WAttnIdeal.nD Cert.WAttnIdeal.τ).loc Cert.WAttnIdeal.main_arg1) = m ((c.tc : Thread Cert.WAttnIdeal.nD Cert.WAttnIdeal.τ).loc Cert.WAttnIdeal.main_arg1)
      ∧ r.2.mem ((c.tc : Thread Cert.WAttnIdeal.nD Cert.WAttnIdeal.τ).loc Cert.WAttnIdeal.main_arg2) = m ((c.tc : Thread Cert.WAttnIdeal.nD Cert.WAttnIdeal.τ).loc Cert.WAttnIdeal.main_arg2))
      ∧ r.2.sem = fun _ => 0)

def quiescent_WAttnRefIdeal [hWAttnRefIdeal : Cert.WAttnRefIdeal.Facts] : Prop :=
  ∀ (m : (ℓ : Loc Cert.WAttnRefIdeal.nD Cert.WAttnRefIdeal.τ Cert.WAttnRefIdeal.sig) → Buf (Elt Ideal) ℓ) (g : Dev Cert.WAttnRefIdeal.nD → PrngReg), Pre_WAttnRefIdeal m →
    θ_run (Cert.WAttnRefIdeal.defs (F := Ideal)) (onTc (τ := Cert.WAttnRefIdeal.τ) (Cert.WAttnRefIdeal.main (F := Ideal))) ⟨m, fun _ => 0, g⟩ (fun r => (∀ c : Dev Cert.WAttnRefIdeal.nD,
      r.2.mem ((c.tc : Thread Cert.WAttnRefIdeal.nD Cert.WAttnRefIdeal.τ).loc Cert.WAttnRefIdeal.main_arg0) = m ((c.tc : Thread Cert.WAttnRefIdeal.nD Cert.WAttnRefIdeal.τ).loc Cert.WAttnRefIdeal.main_arg0)
      ∧ r.2.mem ((c.tc : Thread Cert.WAttnRefIdeal.nD Cert.WAttnRefIdeal.τ).loc Cert.WAttnRefIdeal.main_arg1) = m ((c.tc : Thread Cert.WAttnRefIdeal.nD Cert.WAttnRefIdeal.τ).loc Cert.WAttnRefIdeal.main_arg1)
      ∧ r.2.mem ((c.tc : Thread Cert.WAttnRefIdeal.nD Cert.WAttnRefIdeal.τ).loc Cert.WAttnRefIdeal.main_arg2) = m ((c.tc : Thread Cert.WAttnRefIdeal.nD Cert.WAttnRefIdeal.τ).loc Cert.WAttnRefIdeal.main_arg2))
      ∧ r.2.sem = fun _ => 0)

def quiescent_WAttnRefIdeal_pre_finite_scores_w [hWAttnRefIdeal : Cert.WAttnRefIdeal.Facts] [hPre_finite_scores_w : Cert.Pre_finite_scores_w.Facts] : Prop :=
  ∀ (m : (ℓ : Loc Cert.WAttnRefIdeal.nD Cert.WAttnRefIdeal.τ Cert.WAttnRefIdeal.sig) → Buf (Elt Ideal) ℓ) (g : Dev Cert.WAttnRefIdeal.nD → PrngReg), Pre_WAttnRefIdeal_finite_scores_w m →
    θ_run (Cert.WAttnRefIdeal.defs (F := Ideal)) (onTc (τ := Cert.WAttnRefIdeal.τ) (Cert.WAttnRefIdeal.main (F := Ideal))) ⟨m, fun _ => 0, g⟩ (fun r => (∀ c : Dev Cert.WAttnRefIdeal.nD,
      r.2.mem ((c.tc : Thread Cert.WAttnRefIdeal.nD Cert.WAttnRefIdeal.τ).loc Cert.WAttnRefIdeal.main_arg0) = m ((c.tc : Thread Cert.WAttnRefIdeal.nD Cert.WAttnRefIdeal.τ).loc Cert.WAttnRefIdeal.main_arg0)
      ∧ r.2.mem ((c.tc : Thread Cert.WAttnRefIdeal.nD Cert.WAttnRefIdeal.τ).loc Cert.WAttnRefIdeal.main_arg1) = m ((c.tc : Thread Cert.WAttnRefIdeal.nD Cert.WAttnRefIdeal.τ).loc Cert.WAttnRefIdeal.main_arg1)
      ∧ r.2.mem ((c.tc : Thread Cert.WAttnRefIdeal.nD Cert.WAttnRefIdeal.τ).loc Cert.WAttnRefIdeal.main_arg2) = m ((c.tc : Thread Cert.WAttnRefIdeal.nD Cert.WAttnRefIdeal.τ).loc Cert.WAttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MAttn [hMAttn : Cert.MAttn.Facts] : Prop :=
  ∀ (m : (ℓ : Loc Cert.MAttn.nD Cert.MAttn.τ Cert.MAttn.sig) → Buf (Elt Bits) ℓ) (g : Dev Cert.MAttn.nD → PrngReg), Pre_MAttn m →
    θ_run (Cert.MAttn.defs (F := Bits)) (onTc (τ := Cert.MAttn.τ) (Cert.MAttn.main (F := Bits))) ⟨m, fun _ => 0, g⟩ (fun r => (∀ c : Dev Cert.MAttn.nD,
      r.2.mem ((c.tc : Thread Cert.MAttn.nD Cert.MAttn.τ).loc Cert.MAttn.main_arg0) = m ((c.tc : Thread Cert.MAttn.nD Cert.MAttn.τ).loc Cert.MAttn.main_arg0)
      ∧ r.2.mem ((c.tc : Thread Cert.MAttn.nD Cert.MAttn.τ).loc Cert.MAttn.main_arg1) = m ((c.tc : Thread Cert.MAttn.nD Cert.MAttn.τ).loc Cert.MAttn.main_arg1))
      ∧ r.2.sem = fun _ => 0)

def quiescent_MAttnIdeal [hMAttnIdeal : Cert.MAttnIdeal.Facts] : Prop :=
  ∀ (m : (ℓ : Loc Cert.MAttnIdeal.nD Cert.MAttnIdeal.τ Cert.MAttnIdeal.sig) → Buf (Elt Ideal) ℓ) (g : Dev Cert.MAttnIdeal.nD → PrngReg), Pre_MAttnIdeal m →
    θ_run (Cert.MAttnIdeal.defs (F := Ideal)) (onTc (τ := Cert.MAttnIdeal.τ) (Cert.MAttnIdeal.main (F := Ideal))) ⟨m, fun _ => 0, g⟩ (fun r => (∀ c : Dev Cert.MAttnIdeal.nD,
      r.2.mem ((c.tc : Thread Cert.MAttnIdeal.nD Cert.MAttnIdeal.τ).loc Cert.MAttnIdeal.main_arg0) = m ((c.tc : Thread Cert.MAttnIdeal.nD Cert.MAttnIdeal.τ).loc Cert.MAttnIdeal.main_arg0)
      ∧ r.2.mem ((c.tc : Thread Cert.MAttnIdeal.nD Cert.MAttnIdeal.τ).loc Cert.MAttnIdeal.main_arg1) = m ((c.tc : Thread Cert.MAttnIdeal.nD Cert.MAttnIdeal.τ).loc Cert.MAttnIdeal.main_arg1))
      ∧ r.2.sem = fun _ => 0)

def quiescent_MAttnIdeal_pre_finite_scores_m [hMAttnIdeal : Cert.MAttnIdeal.Facts] [hPre_finite_scores_m : Cert.Pre_finite_scores_m.Facts] : Prop :=
  ∀ (m : (ℓ : Loc Cert.MAttnIdeal.nD Cert.MAttnIdeal.τ Cert.MAttnIdeal.sig) → Buf (Elt Ideal) ℓ) (g : Dev Cert.MAttnIdeal.nD → PrngReg), Pre_MAttnIdeal_finite_scores_m m →
    θ_run (Cert.MAttnIdeal.defs (F := Ideal)) (onTc (τ := Cert.MAttnIdeal.τ) (Cert.MAttnIdeal.main (F := Ideal))) ⟨m, fun _ => 0, g⟩ (fun r => (∀ c : Dev Cert.MAttnIdeal.nD,
      r.2.mem ((c.tc : Thread Cert.MAttnIdeal.nD Cert.MAttnIdeal.τ).loc Cert.MAttnIdeal.main_arg0) = m ((c.tc : Thread Cert.MAttnIdeal.nD Cert.MAttnIdeal.τ).loc Cert.MAttnIdeal.main_arg0)
      ∧ r.2.mem ((c.tc : Thread Cert.MAttnIdeal.nD Cert.MAttnIdeal.τ).loc Cert.MAttnIdeal.main_arg1) = m ((c.tc : Thread Cert.MAttnIdeal.nD Cert.MAttnIdeal.τ).loc Cert.MAttnIdeal.main_arg1))
      ∧ r.2.sem = fun _ => 0)

def quiescent_MAttnRefIdeal [hMAttnRefIdeal : Cert.MAttnRefIdeal.Facts] : Prop :=
  ∀ (m : (ℓ : Loc Cert.MAttnRefIdeal.nD Cert.MAttnRefIdeal.τ Cert.MAttnRefIdeal.sig) → Buf (Elt Ideal) ℓ) (g : Dev Cert.MAttnRefIdeal.nD → PrngReg), Pre_MAttnRefIdeal m →
    θ_run (Cert.MAttnRefIdeal.defs (F := Ideal)) (onTc (τ := Cert.MAttnRefIdeal.τ) (Cert.MAttnRefIdeal.main (F := Ideal))) ⟨m, fun _ => 0, g⟩ (fun r => (∀ c : Dev Cert.MAttnRefIdeal.nD,
      r.2.mem ((c.tc : Thread Cert.MAttnRefIdeal.nD Cert.MAttnRefIdeal.τ).loc Cert.MAttnRefIdeal.main_arg0) = m ((c.tc : Thread Cert.MAttnRefIdeal.nD Cert.MAttnRefIdeal.τ).loc Cert.MAttnRefIdeal.main_arg0)
      ∧ r.2.mem ((c.tc : Thread Cert.MAttnRefIdeal.nD Cert.MAttnRefIdeal.τ).loc Cert.MAttnRefIdeal.main_arg1) = m ((c.tc : Thread Cert.MAttnRefIdeal.nD Cert.MAttnRefIdeal.τ).loc Cert.MAttnRefIdeal.main_arg1))
      ∧ r.2.sem = fun _ => 0)

def quiescent_MAttnRefIdeal_pre_finite_scores_m [hMAttnRefIdeal : Cert.MAttnRefIdeal.Facts] [hPre_finite_scores_m : Cert.Pre_finite_scores_m.Facts] : Prop :=
  ∀ (m : (ℓ : Loc Cert.MAttnRefIdeal.nD Cert.MAttnRefIdeal.τ Cert.MAttnRefIdeal.sig) → Buf (Elt Ideal) ℓ) (g : Dev Cert.MAttnRefIdeal.nD → PrngReg), Pre_MAttnRefIdeal_finite_scores_m m →
    θ_run (Cert.MAttnRefIdeal.defs (F := Ideal)) (onTc (τ := Cert.MAttnRefIdeal.τ) (Cert.MAttnRefIdeal.main (F := Ideal))) ⟨m, fun _ => 0, g⟩ (fun r => (∀ c : Dev Cert.MAttnRefIdeal.nD,
      r.2.mem ((c.tc : Thread Cert.MAttnRefIdeal.nD Cert.MAttnRefIdeal.τ).loc Cert.MAttnRefIdeal.main_arg0) = m ((c.tc : Thread Cert.MAttnRefIdeal.nD Cert.MAttnRefIdeal.τ).loc Cert.MAttnRefIdeal.main_arg0)
      ∧ r.2.mem ((c.tc : Thread Cert.MAttnRefIdeal.nD Cert.MAttnRefIdeal.τ).loc Cert.MAttnRefIdeal.main_arg1) = m ((c.tc : Thread Cert.MAttnRefIdeal.nD Cert.MAttnRefIdeal.τ).loc Cert.MAttnRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_WAttn_WAttnIdeal : Prop :=
  IdealRules.named_const.Statement Cert.WAttnIdeal.κ "mask" .f32 0xF149F2CA#32 ⊥

def algebraic_WAttnIdeal_WAttnRefIdeal_pre_finite_scores_w [hWAttnIdeal : Cert.WAttnIdeal.Facts] [hWAttnRefIdeal : Cert.WAttnRefIdeal.Facts] [hPre_finite_scores_w : Cert.Pre_finite_scores_w.Facts] : Prop :=
  ∀ (m : (ℓ : Loc Cert.WAttnIdeal.nD Cert.WAttnIdeal.τ Cert.WAttnIdeal.sig) → Buf (Elt Ideal) ℓ) (g : Dev Cert.WAttnIdeal.nD → PrngReg)
    (m' : (ℓ : Loc Cert.WAttnRefIdeal.nD Cert.WAttnRefIdeal.τ Cert.WAttnRefIdeal.sig) → Buf (Elt Ideal) ℓ) (g' : Dev Cert.WAttnRefIdeal.nD → PrngReg), Pre_WAttnIdeal_finite_scores_w m →
    (∀ c : Dev Cert.WAttnIdeal.nD,
      m' ((c.tc : Thread Cert.WAttnRefIdeal.nD Cert.WAttnRefIdeal.τ).loc Cert.WAttnRefIdeal.main_arg0) = m ((c.tc : Thread Cert.WAttnIdeal.nD Cert.WAttnIdeal.τ).loc Cert.WAttnIdeal.main_arg0)
      ∧ m' ((c.tc : Thread Cert.WAttnRefIdeal.nD Cert.WAttnRefIdeal.τ).loc Cert.WAttnRefIdeal.main_arg1) = m ((c.tc : Thread Cert.WAttnIdeal.nD Cert.WAttnIdeal.τ).loc Cert.WAttnIdeal.main_arg1)
      ∧ m' ((c.tc : Thread Cert.WAttnRefIdeal.nD Cert.WAttnRefIdeal.τ).loc Cert.WAttnRefIdeal.main_arg2) = m ((c.tc : Thread Cert.WAttnIdeal.nD Cert.WAttnIdeal.τ).loc Cert.WAttnIdeal.main_arg2)) →
    ∃ (v0 : (c : Dev Cert.WAttnIdeal.nD) → Buf (Elt Ideal) ((c.tc : Thread Cert.WAttnIdeal.nD Cert.WAttnIdeal.τ).loc Cert.WAttnIdeal.main_v0)),
      θ_run (Cert.WAttnIdeal.defs (F := Ideal)) (onTc (τ := Cert.WAttnIdeal.τ) (Cert.WAttnIdeal.main (F := Ideal))) ⟨m, fun _ => 0, g⟩ (fun r => ∀ c : Dev Cert.WAttnIdeal.nD,
          r.2.mem ((c.tc : Thread Cert.WAttnIdeal.nD Cert.WAttnIdeal.τ).loc Cert.WAttnIdeal.main_v0) = v0 c
          ∧ r.2.mem ((c.tc : Thread Cert.WAttnIdeal.nD Cert.WAttnIdeal.τ).loc Cert.WAttnIdeal.main_arg0) = m ((c.tc : Thread Cert.WAttnIdeal.nD Cert.WAttnIdeal.τ).loc Cert.WAttnIdeal.main_arg0)
          ∧ r.2.mem ((c.tc : Thread Cert.WAttnIdeal.nD Cert.WAttnIdeal.τ).loc Cert.WAttnIdeal.main_arg1) = m ((c.tc : Thread Cert.WAttnIdeal.nD Cert.WAttnIdeal.τ).loc Cert.WAttnIdeal.main_arg1)
          ∧ r.2.mem ((c.tc : Thread Cert.WAttnIdeal.nD Cert.WAttnIdeal.τ).loc Cert.WAttnIdeal.main_arg2) = m ((c.tc : Thread Cert.WAttnIdeal.nD Cert.WAttnIdeal.τ).loc Cert.WAttnIdeal.main_arg2))
      ∧ θ_run (Cert.WAttnRefIdeal.defs (F := Ideal)) (onTc (τ := Cert.WAttnRefIdeal.τ) (Cert.WAttnRefIdeal.main (F := Ideal))) ⟨m', fun _ => 0, g'⟩ (fun r => ∀ c : Dev Cert.WAttnRefIdeal.nD,
          r.2.mem ((c.tc : Thread Cert.WAttnRefIdeal.nD Cert.WAttnRefIdeal.τ).loc Cert.WAttnRefIdeal.main_v68) = v0 c
          ∧ r.2.mem ((c.tc : Thread Cert.WAttnRefIdeal.nD Cert.WAttnRefIdeal.τ).loc Cert.WAttnRefIdeal.main_arg0) = m' ((c.tc : Thread Cert.WAttnRefIdeal.nD Cert.WAttnRefIdeal.τ).loc Cert.WAttnRefIdeal.main_arg0)
          ∧ r.2.mem ((c.tc : Thread Cert.WAttnRefIdeal.nD Cert.WAttnRefIdeal.τ).loc Cert.WAttnRefIdeal.main_arg1) = m' ((c.tc : Thread Cert.WAttnRefIdeal.nD Cert.WAttnRefIdeal.τ).loc Cert.WAttnRefIdeal.main_arg1)
          ∧ r.2.mem ((c.tc : Thread Cert.WAttnRefIdeal.nD Cert.WAttnRefIdeal.τ).loc Cert.WAttnRefIdeal.main_arg2) = m' ((c.tc : Thread Cert.WAttnRefIdeal.nD Cert.WAttnRefIdeal.τ).loc Cert.WAttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_MAttn_MAttnIdeal : Prop :=
  IdealRules.named_const.Statement Cert.MAttnIdeal.κ "s" .f32 0x3DB504F3#32 (((Real.sqrt 128)⁻¹ : ℝ) : EReal)

def algebraic_MAttnIdeal_MAttnRefIdeal_pre_finite_scores_m [hMAttnIdeal : Cert.MAttnIdeal.Facts] [hMAttnRefIdeal : Cert.MAttnRefIdeal.Facts] [hPre_finite_scores_m : Cert.Pre_finite_scores_m.Facts] : Prop :=
  ∀ (m : (ℓ : Loc Cert.MAttnIdeal.nD Cert.MAttnIdeal.τ Cert.MAttnIdeal.sig) → Buf (Elt Ideal) ℓ) (g : Dev Cert.MAttnIdeal.nD → PrngReg)
    (m' : (ℓ : Loc Cert.MAttnRefIdeal.nD Cert.MAttnRefIdeal.τ Cert.MAttnRefIdeal.sig) → Buf (Elt Ideal) ℓ) (g' : Dev Cert.MAttnRefIdeal.nD → PrngReg), Pre_MAttnIdeal_finite_scores_m m →
    (∀ c : Dev Cert.MAttnIdeal.nD,
      m' ((c.tc : Thread Cert.MAttnRefIdeal.nD Cert.MAttnRefIdeal.τ).loc Cert.MAttnRefIdeal.main_arg0) = m ((c.tc : Thread Cert.MAttnIdeal.nD Cert.MAttnIdeal.τ).loc Cert.MAttnIdeal.main_arg0)
      ∧ m' ((c.tc : Thread Cert.MAttnRefIdeal.nD Cert.MAttnRefIdeal.τ).loc Cert.MAttnRefIdeal.main_arg1) = m ((c.tc : Thread Cert.MAttnIdeal.nD Cert.MAttnIdeal.τ).loc Cert.MAttnIdeal.main_arg1)) →
    ∃ (v0 : (c : Dev Cert.MAttnIdeal.nD) → Buf (Elt Ideal) ((c.tc : Thread Cert.MAttnIdeal.nD Cert.MAttnIdeal.τ).loc Cert.MAttnIdeal.main_v0)),
      θ_run (Cert.MAttnIdeal.defs (F := Ideal)) (onTc (τ := Cert.MAttnIdeal.τ) (Cert.MAttnIdeal.main (F := Ideal))) ⟨m, fun _ => 0, g⟩ (fun r => ∀ c : Dev Cert.MAttnIdeal.nD,
          r.2.mem ((c.tc : Thread Cert.MAttnIdeal.nD Cert.MAttnIdeal.τ).loc Cert.MAttnIdeal.main_v0) = v0 c
          ∧ r.2.mem ((c.tc : Thread Cert.MAttnIdeal.nD Cert.MAttnIdeal.τ).loc Cert.MAttnIdeal.main_arg0) = m ((c.tc : Thread Cert.MAttnIdeal.nD Cert.MAttnIdeal.τ).loc Cert.MAttnIdeal.main_arg0)
          ∧ r.2.mem ((c.tc : Thread Cert.MAttnIdeal.nD Cert.MAttnIdeal.τ).loc Cert.MAttnIdeal.main_arg1) = m ((c.tc : Thread Cert.MAttnIdeal.nD Cert.MAttnIdeal.τ).loc Cert.MAttnIdeal.main_arg1))
      ∧ θ_run (Cert.MAttnRefIdeal.defs (F := Ideal)) (onTc (τ := Cert.MAttnRefIdeal.τ) (Cert.MAttnRefIdeal.main (F := Ideal))) ⟨m', fun _ => 0, g'⟩ (fun r => ∀ c : Dev Cert.MAttnRefIdeal.nD,
          r.2.mem ((c.tc : Thread Cert.MAttnRefIdeal.nD Cert.MAttnRefIdeal.τ).loc Cert.MAttnRefIdeal.main_v27) = v0 c
          ∧ r.2.mem ((c.tc : Thread Cert.MAttnRefIdeal.nD Cert.MAttnRefIdeal.τ).loc Cert.MAttnRefIdeal.main_arg0) = m' ((c.tc : Thread Cert.MAttnRefIdeal.nD Cert.MAttnRefIdeal.τ).loc Cert.MAttnRefIdeal.main_arg0)
          ∧ r.2.mem ((c.tc : Thread Cert.MAttnRefIdeal.nD Cert.MAttnRefIdeal.τ).loc Cert.MAttnRefIdeal.main_arg1) = m' ((c.tc : Thread Cert.MAttnRefIdeal.nD Cert.MAttnRefIdeal.τ).loc Cert.MAttnRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v28)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v28) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v75) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v6)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v6) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v32) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Bias_BiasIdeal : Prop :=
  IdealRules.named_const.Statement Cert.BiasIdeal.κ "mask" .f32 0xF149F2CA#32 ⊥

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v67) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hWAttn : Cert.WAttn.Facts) (hWAttnIdeal : Cert.WAttnIdeal.Facts) (hWAttnRefIdeal : Cert.WAttnRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMAttn : Cert.MAttn.Facts) (hMAttnIdeal : Cert.MAttnIdeal.Facts) (hMAttnRefIdeal : Cert.MAttnRefIdeal.Facts) (hProj : Cert.Proj.Facts) (hProjIdeal : Cert.ProjIdeal.Facts) (hProjRefIdeal : Cert.ProjRefIdeal.Facts) (hMemKv : Cert.MemKv.Facts) (hMemKvIdeal : Cert.MemKvIdeal.Facts) (hMemKvRefIdeal : Cert.MemKvRefIdeal.Facts) (hBias : Cert.Bias.Facts) (hBiasIdeal : Cert.BiasIdeal.Facts) (hBiasRefIdeal : Cert.BiasRefIdeal.Facts) (hPre_finite_scores_w : Cert.Pre_finite_scores_w.Facts) (hPre_finite_scores_m : Cert.Pre_finite_scores_m.Facts),
    quiescent_WAttn (hWAttn := hWAttn)
    ∧ quiescent_WAttnIdeal (hWAttnIdeal := hWAttnIdeal)
    ∧ quiescent_WAttnIdeal_pre_finite_scores_w (hWAttnIdeal := hWAttnIdeal) (hPre_finite_scores_w := hPre_finite_scores_w)
    ∧ quiescent_WAttnRefIdeal (hWAttnRefIdeal := hWAttnRefIdeal)
    ∧ quiescent_WAttnRefIdeal_pre_finite_scores_w (hWAttnRefIdeal := hWAttnRefIdeal) (hPre_finite_scores_w := hPre_finite_scores_w)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_MAttn (hMAttn := hMAttn)
    ∧ quiescent_MAttnIdeal (hMAttnIdeal := hMAttnIdeal)
    ∧ quiescent_MAttnIdeal_pre_finite_scores_m (hMAttnIdeal := hMAttnIdeal) (hPre_finite_scores_m := hPre_finite_scores_m)
    ∧ quiescent_MAttnRefIdeal (hMAttnRefIdeal := hMAttnRefIdeal)
    ∧ quiescent_MAttnRefIdeal_pre_finite_scores_m (hMAttnRefIdeal := hMAttnRefIdeal) (hPre_finite_scores_m := hPre_finite_scores_m)
    ∧ quiescent_Proj (hProj := hProj)
    ∧ quiescent_ProjIdeal (hProjIdeal := hProjIdeal)
    ∧ quiescent_ProjRefIdeal (hProjRefIdeal := hProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Bias (hBias := hBias)
    ∧ quiescent_BiasIdeal (hBiasIdeal := hBiasIdeal)
    ∧ quiescent_BiasRefIdeal (hBiasRefIdeal := hBiasRefIdeal)
    ∧ preserves_WAttn_WAttnIdeal
    ∧ algebraic_WAttnIdeal_WAttnRefIdeal_pre_finite_scores_w (hWAttnIdeal := hWAttnIdeal) (hWAttnRefIdeal := hWAttnRefIdeal) (hPre_finite_scores_w := hPre_finite_scores_w)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_MAttn_MAttnIdeal
    ∧ algebraic_MAttnIdeal_MAttnRefIdeal_pre_finite_scores_m (hMAttnIdeal := hMAttnIdeal) (hMAttnRefIdeal := hMAttnRefIdeal) (hPre_finite_scores_m := hPre_finite_scores_m)
    ∧ preserves_Proj_ProjIdeal
    ∧ algebraic_ProjIdeal_ProjRefIdeal (hProjIdeal := hProjIdeal) (hProjRefIdeal := hProjRefIdeal)
    ∧ preserves_MemKv_MemKvIdeal
    ∧ algebraic_MemKvIdeal_MemKvRefIdeal (hMemKvIdeal := hMemKvIdeal) (hMemKvRefIdeal := hMemKvRefIdeal)
    ∧ preserves_Bias_BiasIdeal
    ∧ algebraic_BiasIdeal_BiasRefIdeal (hBiasIdeal := hBiasIdeal) (hBiasRefIdeal := hBiasRefIdeal)
-- ==== Pre_finite_scores_m.lean ====
abbrev S32768x6016 : Shape := ⟨2, ![32768, 6016]⟩
abbrev S2048x1024 : Shape := ⟨2, ![2048, 1024]⟩
abbrev S32768x512 : Shape := ⟨2, ![32768, 512]⟩
abbrev S_ : Shape := ⟨0, ![]⟩
abbrev S2048x512 : Shape := ⟨2, ![2048, 512]⟩

class Facts : Prop where
  slices_S32768x6016_S32768x512_0_3584 : S32768x6016.Slices ![0, 3584] S32768x512
  bitsLt_bf16_f32 : FTy.bits .bf16 < FTy.bits .f32
  bcast_S_S32768x512 : S_.BroadcastsInDim S32768x512 (![] : Fin 0 → Fin S32768x512.rank)
  slices_S2048x1024_S2048x512_0_0 : S2048x1024.Slices ![0, 0] S2048x512
  bcast_S_S2048x512 : S_.BroadcastsInDim S2048x512 (![] : Fin 0 → Fin S2048x512.rank)

variable [Facts]

def fn {F : FTy → Type} [FloatOps F] (main_arg0 : FVec F S32768x6016 .bf16) (main_arg1 : FVec F S2048x1024 .bf16) : IVec S32768x512 1 × IVec S2048x512 1 :=
  let main_v0 : FVec F S32768x512 .bf16 := (extractStridedSlice S32768x512 ![0, 3584] · slices_S32768x6016_S32768x512_0_3584) main_arg0
  let main_v1 : FVec F S32768x512 .f32 := (extf .f32 · bitsLt_bf16_f32) main_v0
  let main_v2 : FVec F S32768x512 .f32 := Host.absf main_v1
  let main_cst : FVec F S_ .f32 := constant S_ .f32 0x7F800000#32
  let main_v3 : FVec F S32768x512 .f32 := broadcastInDim S32768x512 ![] bcast_S_S32768x512 main_cst
  let main_v4 : IVec S32768x512 1 := cmpf .olt main_v2 main_v3
  let main_v5 : FVec F S2048x512 .bf16 := (extractStridedSlice S2048x512 ![0, 0] · slices_S2048x1024_S2048x512_0_0) main_arg1
  let main_v6 : FVec F S2048x512 .f32 := (extf .f32 · bitsLt_bf16_f32) main_v5
  let main_v7 : FVec F S2048x512 .f32 := Host.absf main_v6
  let main_cst_0 : FVec F S_ .f32 := constant S_ .f32 0x7F800000#32
  let main_v8 : FVec F S2048x512 .f32 := broadcastInDim S2048x512 ![] bcast_S_S2048x512 main_cst_0
  let main_v9 : IVec S2048x512 1 := cmpf .olt main_v7 main_v8
  (main_v4, main_v9)
-- ==== Pre_finite_scores_w.lean ====
abbrev S32768x6016 : Shape := ⟨2, ![32768, 6016]⟩
abbrev S8x128x384 : Shape := ⟨3, ![8, 128, 384]⟩
abbrev S8 : Shape := ⟨1, ![8]⟩
abbrev S32768x512 : Shape := ⟨2, ![32768, 512]⟩
abbrev S_ : Shape := ⟨0, ![]⟩
abbrev S32768x128 : Shape := ⟨2, ![32768, 128]⟩

class Facts : Prop where
  slices_S32768x6016_S32768x512_0_3072 : S32768x6016.Slices ![0, 3072] S32768x512
  bitsLt_bf16_f32 : FTy.bits .bf16 < FTy.bits .f32
  bcast_S_S32768x512 : S_.BroadcastsInDim S32768x512 (![] : Fin 0 → Fin S32768x512.rank)
  slices_S32768x6016_S32768x128_0_4096 : S32768x6016.Slices ![0, 4096] S32768x128
  bcast_S_S32768x128 : S_.BroadcastsInDim S32768x128 (![] : Fin 0 → Fin S32768x128.rank)
  bcast_S_S8x128x384 : S_.BroadcastsInDim S8x128x384 (![] : Fin 0 → Fin S8x128x384.rank)
  bcast_S_S8 : S_.BroadcastsInDim S8 (![] : Fin 0 → Fin S8.rank)

variable [Facts]

def fn {F : FTy → Type} [FloatOps F] (main_arg0 : FVec F S32768x6016 .bf16) (main_arg1 : FVec F S8x128x384 .f32) (main_arg2 : FVec F S8 .f32) : IVec S32768x512 1 × IVec S32768x128 1 × IVec S8x128x384 1 × IVec S8 1 :=
  let main_v0 : FVec F S32768x512 .bf16 := (extractStridedSlice S32768x512 ![0, 3072] · slices_S32768x6016_S32768x512_0_3072) main_arg0
  let main_v1 : FVec F S32768x512 .f32 := (extf .f32 · bitsLt_bf16_f32) main_v0
  let main_v2 : FVec F S32768x512 .f32 := Host.absf main_v1
  let main_cst : FVec F S_ .f32 := constant S_ .f32 0x7F800000#32
  let main_v3 : FVec F S32768x512 .f32 := broadcastInDim S32768x512 ![] bcast_S_S32768x512 main_cst
  let main_v4 : IVec S32768x512 1 := cmpf .olt main_v2 main_v3
  let main_v5 : FVec F S32768x128 .bf16 := (extractStridedSlice S32768x128 ![0, 4096] · slices_S32768x6016_S32768x128_0_4096) main_arg0
  let main_v6 : FVec F S32768x128 .f32 := (extf .f32 · bitsLt_bf16_f32) main_v5
  let main_v7 : FVec F S32768x128 .f32 := Host.absf main_v6
  let main_cst_0 : FVec F S_ .f32 := constant S_ .f32 0x7F800000#32
  let main_v8 : FVec F S32768x128 .f32 := broadcastInDim S32768x128 ![] bcast_S_S32768x128 main_cst_0
  let main_v9 : IVec S32768x128 1 := cmpf .olt main_v7 main_v8
  let main_cst_1 : FVec F S_ .f32 := constant S_ .f32 0x7F800000#32
  let main_v10 : FVec F S8x128x384 .f32 := broadcastInDim S8x128x384 ![] bcast_S_S8x128x384 main_cst_1
  let main_v11 : IVec S8x128x384 1 := cmpf .olt main_arg1 main_v10
  let main_v12 : FVec F S8 .f32 := Host.absf main_arg2
  let main_cst_2 : FVec F S_ .f32 := constant S_ .f32 0x7F800000#32
  let main_v13 : FVec F S8 .f32 := broadcastInDim S8 ![] bcast_S_S8 main_cst_2
  let main_v14 : IVec S8 1 := cmpf .olt main_v12 main_v13
  (main_v4, main_v9, main_v11, main_v14)
-- ==== WAttn.lean ====
abbrev S32768x6016 : Shape := ⟨2, ![32768, 6016]⟩
abbrev S8x128x384 : Shape := ⟨3, ![8, 128, 384]⟩
abbrev S8 : Shape := ⟨1, ![8]⟩
abbrev S32768x512 : Shape := ⟨2, ![32768, 512]⟩
abbrev S512x512 : Shape := ⟨2, ![512, 512]⟩
abbrev S512x128 : Shape := ⟨2, ![512, 128]⟩
abbrev S128x128 : Shape := ⟨2, ![128, 128]⟩
abbrev S8x768x128 : Shape := ⟨3, ![8, 768, 128]⟩
abbrev S1x128 : Shape := ⟨2, ![1, 128]⟩
abbrev S1x128x128 : Shape := ⟨3, ![1, 128, 128]⟩
abbrev S1x512x128 : Shape := ⟨3, ![1, 512, 128]⟩
abbrev S1x384 : Shape := ⟨2, ![1, 384]⟩
abbrev S1x384x128 : Shape := ⟨3, ![1, 384, 128]⟩
abbrev S384x128 : Shape := ⟨2, ![384, 128]⟩
abbrev S128x384 : Shape := ⟨2, ![128, 384]⟩
abbrev S1x128x384 : Shape := ⟨3, ![1, 128, 384]⟩
abbrev S1 : Shape := ⟨1, ![1]⟩
abbrev S128 : Shape := ⟨1, ![128]⟩
abbrev S128x1 : Shape := ⟨2, ![128, 1]⟩

abbrev nBuf : Space → Nat
  | .hbm => 4
  | .vmem => 18
  | .smem => 1
  | _ => 0

abbrev bufTy : (tb : Table) → Fin (tcTables nBuf tb) → BufTy
  | .hbm, ⟨0, _⟩ => ⟨S32768x6016, .bf16⟩
  | .hbm, ⟨1, _⟩ => ⟨S8x128x384, .f32⟩
  | .hbm, ⟨2, _⟩ => ⟨S8, .f32⟩
  | .hbm, ⟨3, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S512x128, .bf16⟩
  | .local _ .vmem, ⟨9, _⟩ => ⟨S512x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S8x128x384, .f32⟩
  | .local _ .vmem, ⟨15, _⟩ => ⟨S512x512, .bf16⟩
  | .local _ .vmem, ⟨16, _⟩ => ⟨S512x512, .bf16⟩
  | .local _ .vmem, ⟨17, _⟩ => ⟨S8x768x128, .bf16⟩
  | .local _ .smem, ⟨0, _⟩ => ⟨S8, .f32⟩
  | _, _ => ⟨S32768x6016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c4_i32 : BitVec 32 := 4#32
  let v215 : BitVec 32 := Scalar.addi c0_i32 c4_i32
  let c1_i32 : BitVec 32 := 1#32
  ⟨c0_i32, v215, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  v216
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v227 : Index := Scalar.indexCast v217
  let c0_106 : Index := 0#32
  ![v227.toNat, 0]
def k0_off2 (k0_t1 : Fin k0_t1_loop.trips) : Fin 3 → Nat :=
  let c0_107 : Index := 0#32
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v229 : Index := Scalar.indexCast v217
  let c0_108 : Index := 0#32
  ![0, v229.toNat, 0]
def k0_off3 (k0_t1 : Fin k0_t1_loop.trips) : Fin 3 → Nat :=
  let c4_109 : Index := 4#32
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v232 : Index := Scalar.indexCast v217
  let c0_110 : Index := 0#32
  ![4, v232.toNat, 0]
def k0_off4 (k0_t1 : Fin k0_t1_loop.trips) : Fin 3 → Nat :=
  let c1_121 : Index := 1#32
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v261 : Index := Scalar.indexCast v217
  let c0_122 : Index := 0#32
  ![1, v261.toNat, 0]
def k0_off5 (k0_t1 : Fin k0_t1_loop.trips) : Fin 3 → Nat :=
  let c5_123 : Index := 5#32
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v264 : Index := Scalar.indexCast v217
  let c0_124 : Index := 0#32
  ![5, v264.toNat, 0]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v305 : Index := Scalar.indexCast v217
  let c128_136 : Index := 128#32
  ![v305.toNat, 128]
def k0_off7 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v383 : Index := Scalar.indexCast v217
  let c256 : Index := 256#32
  ![v383.toNat, 256]
def k0_off8 (k0_t1 : Fin k0_t1_loop.trips) : Fin 3 → Nat :=
  let c2_166 : Index := 2#32
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v385 : Index := Scalar.indexCast v217
  let c0_167 : Index := 0#32
  ![2, v385.toNat, 0]
def k0_off9 (k0_t1 : Fin k0_t1_loop.trips) : Fin 3 → Nat :=
  let c6_168 : Index := 6#32
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v388 : Index := Scalar.indexCast v217
  let c0_169 : Index := 0#32
  ![6, v388.toNat, 0]
def k0_off10 (k0_t1 : Fin k0_t1_loop.trips) : Fin 3 → Nat :=
  let c3_180 : Index := 3#32
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v417 : Index := Scalar.indexCast v217
  let c0_181 : Index := 0#32
  ![3, v417.toNat, 0]
def k0_off11 (k0_t1 : Fin k0_t1_loop.trips) : Fin 3 → Nat :=
  let c7_182 : Index := 7#32
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v420 : Index := Scalar.indexCast v217
  let c0_183 : Index := 0#32
  ![7, v420.toNat, 0]
def k0_off12 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v216 : BitVec 32 := Scalar.muli arg13 c128_i32
  let v217 : BitVec 32 := v216
  let v461 : Index := Scalar.indexCast v217
  let c384 : Index := 384#32
  ![v461.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let c0_i32 : BitVec 32 := 0#32
  ![v1.toNat, c32_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c32_i32_0 : BitVec 32 := 32#32
  let c0_i32_1 : BitVec 32 := 0#32
  ![v4.toNat, c32_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c4_i32 : BitVec 32 := 4#32
  let v2 : BitVec 32 := Scalar.muli v1 c4_i32
  let c31_i32 : BitVec 32 := 31#32
  let v3 : BitVec 32 := Scalar.minsi v2 c31_i32
  let v4 : BitVec 32 := Scalar.addi v0 v3
  let c32_i32_0 : BitVec 32 := 32#32
  let c0_i32 : BitVec 32 := 0#32
  ![v4.toNat, c32_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c33_i32 : BitVec 32 := 33#32
  let c0_i32 : BitVec 32 := 0#32
  ![v1.toNat, c33_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c33_i32 : BitVec 32 := 33#32
  let c0_i32_0 : BitVec 32 := 0#32
  ![v4.toNat, c33_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c4_i32 : BitVec 32 := 4#32
  let v2 : BitVec 32 := Scalar.muli v1 c4_i32
  let c31_i32 : BitVec 32 := 31#32
  let v3 : BitVec 32 := Scalar.minsi v2 c31_i32
  let v4 : BitVec 32 := Scalar.addi v0 v3
  let c33_i32 : BitVec 32 := 33#32
  let c0_i32 : BitVec 32 := 0#32
  ![v4.toNat, c33_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== WAttnIdeal.lean ====
variable {F : FTy → Type} [FloatOps F] [Named F]
def κ : String → Option EReal := fun
  | "mask" => some ⊥
  | _ => none
-- ==== WAttnRefIdeal.lean ====
abbrev S32768x6016 : Shape := ⟨2, ![32768, 6016]⟩
abbrev S8x128x384 : Shape := ⟨3, ![8, 128, 384]⟩
abbrev S8 : Shape := ⟨1, ![8]⟩
abbrev S32768x512 : Shape := ⟨2, ![32768, 512]⟩
abbrev S8x32x128x2x4x64 : Shape := ⟨6, ![8, 32, 128, 2, 4, 64]⟩
abbrev S32768x128 : Shape := ⟨2, ![32768, 128]⟩
abbrev S8x4096x2x64 : Shape := ⟨4, ![8, 4096, 2, 64]⟩
abbrev S32 : Shape := ⟨1, ![32]⟩
abbrev S_ : Shape := ⟨0, ![]⟩
abbrev S32x1 : Shape := ⟨2, ![32, 1]⟩
abbrev S384 : Shape := ⟨1, ![384]⟩
abbrev S1x384 : Shape := ⟨2, ![1, 384]⟩
abbrev S32x384 : Shape := ⟨2, ![32, 384]⟩
abbrev S8x4352x2x64 : Shape := ⟨4, ![8, 4352, 2, 64]⟩
abbrev S8x34x128x2x64 : Shape := ⟨5, ![8, 34, 128, 2, 64]⟩
abbrev S8x32x128x2x64 : Shape := ⟨5, ![8, 32, 128, 2, 64]⟩
abbrev S8x32x384x2x64 : Shape := ⟨5, ![8, 32, 384, 2, 64]⟩
abbrev S8x32x2x384x128x4 : Shape := ⟨6, ![8, 32, 2, 384, 128, 4]⟩
abbrev S8x32x2x4x128x384 : Shape := ⟨6, ![8, 32, 2, 4, 128, 384]⟩
abbrev S2x4x128x384 : Shape := ⟨4, ![2, 4, 128, 384]⟩
abbrev S1x1x2x4x128x384 : Shape := ⟨6, ![1, 1, 2, 4, 128, 384]⟩
abbrev S1x32x1x1x1x384 : Shape := ⟨6, ![1, 32, 1, 1, 1, 384]⟩
abbrev S2x4 : Shape := ⟨2, ![2, 4]⟩
abbrev S2x4x1 : Shape := ⟨3, ![2, 4, 1]⟩
abbrev S8x32x2x4x128 : Shape := ⟨5, ![8, 32, 2, 4, 128]⟩
abbrev S1x1x2x4x1 : Shape := ⟨5, ![1, 1, 2, 4, 1]⟩
abbrev S8x32x2x4x128x1 : Shape := ⟨6, ![8, 32, 2, 4, 128, 1]⟩
abbrev S8x32x2x64x4x128 : Shape := ⟨6, ![8, 32, 2, 64, 4, 128]⟩
abbrev S8x32x128x2x4 : Shape := ⟨5, ![8, 32, 128, 2, 4]⟩
abbrev S8x32x128x2x4x1 : Shape := ⟨6, ![8, 32, 128, 2, 4, 1]⟩

abbrev nBuf : Space → Nat
  | .hbm => 86
  | .vmem => 0
  | .smem => 0
  | _ => 0

abbrev bufTy : (tb : Table) → Fin (tcTables nBuf tb) → BufTy
  | .hbm, ⟨0, _⟩ => ⟨S32768x6016, .bf16⟩
  | .hbm, ⟨1, _⟩ => ⟨S8x128x384, .f32⟩
  | .hbm, ⟨2, _⟩ => ⟨S8, .f32⟩
  | .hbm, ⟨3, _⟩ => ⟨S32768x512, .bf16⟩
  | .hbm, ⟨4, _⟩ => ⟨S32768x512, .f32⟩
  | .hbm, ⟨5, _⟩ => ⟨S8x32x128x2x4x64, .f32⟩
  | .hbm, ⟨6, _⟩ => ⟨S32768x128, .bf16⟩
  | .hbm, ⟨7, _⟩ => ⟨S32768x128, .f32⟩
  | .hbm, ⟨8, _⟩ => ⟨S8x4096x2x64, .f32⟩
  | .hbm, ⟨9, _⟩ => ⟨S32768x128, .bf16⟩
  | .hbm, ⟨10, _⟩ => ⟨S32768x128, .f32⟩
  | .hbm, ⟨11, _⟩ => ⟨S8x4096x2x64, .f32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32x1, .i32⟩
  | .hbm, ⟨17, _⟩ => ⟨S_, .i32⟩
  | .hbm, ⟨18, _⟩ => ⟨S32x1, .i32⟩
  | .hbm, ⟨19, _⟩ => ⟨S32x1, .i32⟩
  | .hbm, ⟨20, _⟩ => ⟨S384, .i32⟩
  | .hbm, ⟨21, _⟩ => ⟨S1x384, .i32⟩
  | .hbm, ⟨22, _⟩ => ⟨S32x384, .i32⟩
  | .hbm, ⟨23, _⟩ => ⟨S32x384, .i32⟩
  | .hbm, ⟨24, _⟩ => ⟨S32x384, .i32⟩
  | .hbm, ⟨25, _⟩ => ⟨S_, .i32⟩
  | .hbm, ⟨26, _⟩ => ⟨S32x384, .i32⟩
  | .hbm, ⟨27, _⟩ => ⟨S32x384, .i1⟩
  | .hbm, ⟨28, _⟩ => ⟨S_, .i32⟩
  | .hbm, ⟨29, _⟩ => ⟨S32x384, .i32⟩
  | .hbm, ⟨30, _⟩ => ⟨S32x384, .i1⟩
  | .hbm, ⟨31, _⟩ => ⟨S32x384, .i1⟩
  | .hbm, ⟨32, _⟩ => ⟨S_, .i32⟩
  | .hbm, ⟨33, _⟩ => ⟨S_, .f32⟩
  | .hbm, ⟨34, _⟩ => ⟨S8x4352x2x64, .f32⟩
  | .hbm, ⟨35, _⟩ => ⟨S8x34x128x2x64, .f32⟩
  | .hbm, ⟨36, _⟩ => ⟨S8x32x128x2x64, .f32⟩
  | .hbm, ⟨37, _⟩ => ⟨S8x32x128x2x64, .f32⟩
  | .hbm, ⟨38, _⟩ => ⟨S8x32x128x2x64, .f32⟩
  | .hbm, ⟨39, _⟩ => ⟨S8x32x384x2x64, .f32⟩
  | .hbm, ⟨40, _⟩ => ⟨S8x32x2x384x128x4, .f32⟩
  | .hbm, ⟨41, _⟩ => ⟨S8x32x2x4x128x384, .f32⟩
  | .hbm, ⟨42, _⟩ => ⟨S2x4x128x384, .f32⟩
  | .hbm, ⟨43, _⟩ => ⟨S1x1x2x4x128x384, .f32⟩
  | .hbm, ⟨44, _⟩ => ⟨S8x32x2x4x128x384, .f32⟩
  | .hbm, ⟨45, _⟩ => ⟨S8x32x2x4x128x384, .f32⟩
  | .hbm, ⟨46, _⟩ => ⟨S1x32x1x1x1x384, .i1⟩
  | .hbm, ⟨47, _⟩ => ⟨S_, .f32⟩
  | .hbm, ⟨48, _⟩ => ⟨S_, .f32⟩
  | .hbm, ⟨49, _⟩ => ⟨S8x32x2x4x128x384, .i1⟩
  | .hbm, ⟨50, _⟩ => ⟨S8x32x2x4x128x384, .f32⟩
  | .hbm, ⟨51, _⟩ => ⟨S8x32x2x4x128x384, .f32⟩
  | .hbm, ⟨52, _⟩ => ⟨S2x4, .f32⟩
  | .hbm, ⟨53, _⟩ => ⟨S2x4x1, .f32⟩
  | .hbm, ⟨54, _⟩ => ⟨S_, .f32⟩
  | .hbm, ⟨55, _⟩ => ⟨S8x32x2x4x128, .f32⟩
  | .hbm, ⟨56, _⟩ => ⟨S1x1x2x4x1, .f32⟩
  | .hbm, ⟨57, _⟩ => ⟨S8x32x2x4x128, .f32⟩
  | .hbm, ⟨58, _⟩ => ⟨S8x32x2x4x128, .f32⟩
  | .hbm, ⟨59, _⟩ => ⟨S8x32x2x4x128x1, .f32⟩
  | .hbm, ⟨60, _⟩ => ⟨S8x32x2x4x128x384, .f32⟩
  | .hbm, ⟨61, _⟩ => ⟨S8x32x2x4x128x384, .f32⟩
  | .hbm, ⟨62, _⟩ => ⟨S8x32x2x4x128x384, .f32⟩
  | .hbm, ⟨63, _⟩ => ⟨S_, .f32⟩
  | .hbm, ⟨64, _⟩ => ⟨S8x32x2x4x128, .f32⟩
  | .hbm, ⟨65, _⟩ => ⟨S1x1x2x4x1, .f32⟩
  | .hbm, ⟨66, _⟩ => ⟨S8x32x2x4x128, .f32⟩
  | .hbm, ⟨67, _⟩ => ⟨S8x32x2x4x128, .f32⟩
  | .hbm, ⟨68, _⟩ => ⟨S8x32x2x4x128, .f32⟩
  | .hbm, ⟨69, _⟩ => ⟨S8x32x2x4x128, .f32⟩
  | .hbm, ⟨70, _⟩ => ⟨S_, .i32⟩
  | .hbm, ⟨71, _⟩ => ⟨S_, .f32⟩
  | .hbm, ⟨72, _⟩ => ⟨S8x4352x2x64, .f32⟩
  | .hbm, ⟨73, _⟩ => ⟨S8x34x128x2x64, .f32⟩
  | .hbm, ⟨74, _⟩ => ⟨S8x32x128x2x64, .f32⟩
  | .hbm, ⟨75, _⟩ => ⟨S8x32x128x2x64, .f32⟩
  | .hbm, ⟨76, _⟩ => ⟨S8x32x128x2x64, .f32⟩
  | .hbm, ⟨77, _⟩ => ⟨S8x32x384x2x64, .f32⟩
  | .hbm, ⟨78, _⟩ => ⟨S8x32x2x64x4x128, .f32⟩
  | .hbm, ⟨79, _⟩ => ⟨S8x32x128x2x4x64, .f32⟩
  | .hbm, ⟨80, _⟩ => ⟨S8x32x128x2x4, .f32⟩
  | .hbm, ⟨81, _⟩ => ⟨S8x32x128x2x4x1, .f32⟩
  | .hbm, ⟨82, _⟩ => ⟨S8x32x128x2x4x64, .f32⟩
  | .hbm, ⟨83, _⟩ => ⟨S8x32x128x2x4x64, .f32⟩
  | .hbm, ⟨84, _⟩ => ⟨S32768x512, .f32⟩
  | .hbm, ⟨85, _⟩ => ⟨S32768x512, .bf16⟩
  | _, _ => ⟨S32768x6016, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_6 : Ref sig .tc := ⟨.hbm, 70, rfl⟩
abbrev main_call2_v0 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Merge.lean ====
abbrev S32768x512 : Shape := ⟨2, ![32768, 512]⟩
abbrev S32768x6016 : Shape := ⟨2, ![32768, 6016]⟩
abbrev S32768x1024 : Shape := ⟨2, ![32768, 1024]⟩
abbrev S3x512x1024 : Shape := ⟨3, ![3, 512, 1024]⟩
abbrev S1024x1024 : Shape := ⟨2, ![1024, 1024]⟩
abbrev S512x512 : Shape := ⟨2, ![512, 512]⟩
abbrev S512x3072 : Shape := ⟨2, ![512, 3072]⟩
abbrev S512x1024 : Shape := ⟨2, ![512, 1024]⟩
abbrev S1x512x1024 : Shape := ⟨3, ![1, 512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x6016, .bf16⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S3x512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S32768x512 : Shape := ⟨2, ![32768, 512]⟩
abbrev S32768x6016 : Shape := ⟨2, ![32768, 6016]⟩
abbrev S32768x1024 : Shape := ⟨2, ![32768, 1024]⟩
abbrev S3x512x1024 : Shape := ⟨3, ![3, 512, 1024]⟩
abbrev S1024x1024 : Shape := ⟨2, ![1024, 1024]⟩
abbrev S32768x1x512 : Shape := ⟨3, ![32768, 1, 512]⟩
abbrev S32768x3x512 : Shape := ⟨3, ![32768, 3, 512]⟩
abbrev S32768x3072 : Shape := ⟨2, ![32768, 3072]⟩
abbrev S32768x3x1024 : Shape := ⟨3, ![32768, 3, 1024]⟩
abbrev S_ : Shape := ⟨0, ![]⟩
abbrev S3x1024x32768 : Shape := ⟨3, ![3, 1024, 32768]⟩

abbrev nBuf : Space → Nat
  | .hbm => 32
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x6016, .bf16⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S32768x1x512, .f32⟩
  | .hbm, ⟨11, _⟩ => ⟨S32768x1x512, .f32⟩
  | .hbm, ⟨12, _⟩ => ⟨S32768x1x512, .f32⟩
  | .hbm, ⟨13, _⟩ => ⟨S32768x3x512, .f32⟩
  | .hbm, ⟨14, _⟩ => ⟨S32768x3072, .bf16⟩
  | .hbm, ⟨15, _⟩ => ⟨S32768x3072, .f32⟩
  | .hbm, ⟨16, _⟩ => ⟨S32768x3x1024, .f32⟩
  | .hbm, ⟨17, _⟩ => ⟨S32768x3x1024, .f32⟩
  | .hbm, ⟨18, _⟩ => ⟨S32768x3x1024, .f32⟩
  | .hbm, ⟨19, _⟩ => ⟨S_, .f32⟩
  | .hbm, ⟨20, _⟩ => ⟨S32768x3x1024, .f32⟩
  | .hbm, ⟨21, _⟩ => ⟨S32768x3x1024, .f32⟩
  | .hbm, ⟨22, _⟩ => ⟨S_, .f32⟩
  | .hbm, ⟨23, _⟩ => ⟨S32768x3x1024, .f32⟩
  | .hbm, ⟨24, _⟩ => ⟨S32768x3x1024, .f32⟩
  | .hbm, ⟨25, _⟩ => ⟨S3x1024x32768, .f32⟩
  | .hbm, ⟨26, _⟩ => ⟨S32768x3x1024, .f32⟩
  | .hbm, ⟨27, _⟩ => ⟨S32768x3x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== MAttn.lean ====
abbrev S32768x6016 : Shape := ⟨2, ![32768, 6016]⟩
abbrev S2048x1024 : Shape := ⟨2, ![2048, 1024]⟩
abbrev S32768x512 : Shape := ⟨2, ![32768, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S32768x6016, .bf16⟩
  | .hbm, ⟨1, _⟩ => ⟨S2048x1024, .bf16⟩
  | .hbm, ⟨2, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S32768x6016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MAttnIdeal.lean ====
variable {F : FTy → Type} [FloatOps F] [Named F]
def κ : String → Option EReal := fun
  | "s" => some (((Real.sqrt 128)⁻¹ : ℝ) : EReal)
  | _ => none
-- ==== MAttnRefIdeal.lean ====
abbrev S32768x6016 : Shape := ⟨2, ![32768, 6016]⟩
abbrev S2048x1024 : Shape := ⟨2, ![2048, 1024]⟩
abbrev S32768x512 : Shape := ⟨2, ![32768, 512]⟩
abbrev S8x4096x4x128 : Shape := ⟨4, ![8, 4096, 4, 128]⟩
abbrev S2048x512 : Shape := ⟨2, ![2048, 512]⟩
abbrev S8x256x4x128 : Shape := ⟨4, ![8, 256, 4, 128]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 34
  | .vmem => 0
  | .smem => 0
  | _ => 0

abbrev bufTy : (tb : Table) → Fin (tcTables nBuf tb) → BufTy
  | .hbm, ⟨0, _⟩ => ⟨S32768x6016, .bf16⟩
  | .hbm, ⟨1, _⟩ => ⟨S2048x1024, .bf16⟩
  | .hbm, ⟨2, _⟩ => ⟨S32768x512, .bf16⟩
  | .hbm, ⟨3, _⟩ => ⟨S32768x512, .f32⟩
  | .hbm, ⟨4, _⟩ => ⟨S8x4096x4x128, .f32⟩
  | .hbm, ⟨5, _⟩ => ⟨S2048x512, .bf16⟩
  | .hbm, ⟨6, _⟩ => ⟨S2048x512, .f32⟩
  | .hbm, ⟨7, _⟩ => ⟨S8x256x4x128, .f32⟩
  | .hbm, ⟨8, _⟩ => ⟨S2048x512, .bf16⟩
  | .hbm, ⟨9, _⟩ => ⟨S2048x512, .f32⟩
  | .hbm, ⟨10, _⟩ => ⟨S8x256x4x128, .f32⟩
  | .hbm, ⟨11, _⟩ => ⟨S8x4x4096x256, .f32⟩
  | .hbm, ⟨12, _⟩ => ⟨S_, .f32⟩
  | .hbm, ⟨13, _⟩ => ⟨S_, .f32⟩
  | .hbm, ⟨14, _⟩ => ⟨S8x4x4096x256, .f32⟩
  | .hbm, ⟨15, _⟩ => ⟨S8x4x4096x256, .f32⟩
  | .hbm, ⟨16, _⟩ => ⟨S_, .f32⟩
  | .hbm, ⟨17, _⟩ => ⟨S8x4x4096, .f32⟩
  | .hbm, ⟨18, _⟩ => ⟨S_, .f32⟩
  | .hbm, ⟨19, _⟩ => ⟨S8x4x4096, .f32⟩
  | .hbm, ⟨20, _⟩ => ⟨S8x4x4096, .f32⟩
  | .hbm, ⟨21, _⟩ => ⟨S8x4x4096x1, .f32⟩
  | .hbm, ⟨22, _⟩ => ⟨S8x4x4096x256, .f32⟩
  | .hbm, ⟨23, _⟩ => ⟨S8x4x4096x256, .f32⟩
  | .hbm, ⟨24, _⟩ => ⟨S8x4x4096x256, .f32⟩
  | .hbm, ⟨25, _⟩ => ⟨S_, .f32⟩
  | .hbm, ⟨26, _⟩ => ⟨S8x4x4096, .f32⟩
  | .hbm, ⟨27, _⟩ => ⟨S8x4x4096x1, .f32⟩
  | .hbm, ⟨28, _⟩ => ⟨S8x4x4096x256, .f32⟩
  | .hbm, ⟨29, _⟩ => ⟨S8x4x4096x256, .f32⟩
  | .hbm, ⟨30, _⟩ => ⟨S8x4x128x4096, .f32⟩
  | .hbm, ⟨31, _⟩ => ⟨S8x4096x4x128, .f32⟩
  | .hbm, ⟨32, _⟩ => ⟨S32768x512, .f32⟩
  | .hbm, ⟨33, _⟩ => ⟨S32768x512, .bf16⟩
  | _, _ => ⟨S32768x6016, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x5920 : Shape := ⟨2, ![1024, 5920]⟩
abbrev S64 : Shape := ⟨1, ![64]⟩
abbrev S128 : Shape := ⟨1, ![128]⟩
abbrev S1x1024 : Shape := ⟨2, ![1, 1024]⟩
abbrev S1024x512 : Shape := ⟨2, ![1024, 512]⟩
abbrev S1024x128 : Shape := ⟨2, ![1024, 128]⟩
abbrev S1024x256 : Shape := ⟨2, ![1024, 256]⟩
abbrev S1024x32 : Shape := ⟨2, ![1024, 32]⟩
abbrev S1024x3072 : Shape := ⟨2, ![1024, 3072]⟩
abbrev S_ : Shape := ⟨0, ![]⟩
abbrev S1024x96 : Shape := ⟨2, ![1024, 96]⟩
abbrev S1024x6016 : Shape := ⟨2, ![1024, 6016]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x128 : Shape := ⟨2, ![1, 128]⟩
abbrev S4x128 : Shape := ⟨2, ![4, 128]⟩
abbrev S2x64 : Shape := ⟨2, ![2, 64]⟩
abbrev S32768x6016 : Shape := ⟨2, ![32768, 6016]⟩
abbrev S512x1024 : Shape := ⟨2, ![512, 1024]⟩
abbrev S512x6016 : Shape := ⟨2, ![512, 6016]⟩
abbrev S512x1 : Shape := ⟨2, ![512, 1]⟩
abbrev S512x512 : Shape := ⟨2, ![512, 512]⟩
abbrev S512x128 : Shape := ⟨2, ![512, 128]⟩
abbrev S512x256 : Shape := ⟨2, ![512, 256]⟩

abbrev nBuf : Space → Nat
  | .hbm => 37
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5920, .f32⟩
  | .hbm, ⟨3, _⟩ => ⟨S64, .f32⟩
  | .hbm, ⟨4, _⟩ => ⟨S128, .f32⟩
  | .hbm, ⟨5, _⟩ => ⟨S64, .f32⟩
  | .hbm, ⟨6, _⟩ => ⟨S1x1024, .f32⟩
  | .hbm, ⟨7, _⟩ => ⟨S1024x512, .f32⟩
  | .hbm, ⟨8, _⟩ => ⟨S1024x128, .f32⟩
  | .hbm, ⟨9, _⟩ => ⟨S1024x128, .f32⟩
  | .hbm, ⟨10, _⟩ => ⟨S1024x256, .f32⟩
  | .hbm, ⟨11, _⟩ => ⟨S1024x256, .f32⟩
  | .hbm, ⟨12, _⟩ => ⟨S1024x512, .f32⟩
  | .hbm, ⟨13, _⟩ => ⟨S1024x512, .f32⟩
  | .hbm, ⟨14, _⟩ => ⟨S1024x32, .f32⟩
  | .hbm, ⟨15, _⟩ => ⟨S1024x512, .f32⟩
  | .hbm, ⟨16, _⟩ => ⟨S1024x3072, .f32⟩
  | .hbm, ⟨17, _⟩ => ⟨S_, .f32⟩
  | .hbm, ⟨18, _⟩ => ⟨S1024x96, .f32⟩
  | .hbm, ⟨19, _⟩ => ⟨S1024x6016, .f32⟩
  | .hbm, ⟨20, _⟩ => ⟨S1024x6016, .bf16⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S1x128, .f32⟩
  | .hbm, ⟨29, _⟩ => ⟨S4x128, .f32⟩
  | .hbm, ⟨30, _⟩ => ⟨S512, .f32⟩
  | .hbm, ⟨31, _⟩ => ⟨S1x512, .f32⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S1x128, .f32⟩
  | .hbm, ⟨36, _⟩ => ⟨S32768x6016, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6016, .bf16⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S512x6016, .bf16⟩
  | .local _ .vmem, ⟨8, _⟩ => ⟨S512x6016, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6016 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6016 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S32768x1024 : Shape := ⟨2, ![32768, 1024]⟩
abbrev S1024 : Shape := ⟨1, ![1024]⟩
abbrev S1024x5920 : Shape := ⟨2, ![1024, 5920]⟩
abbrev S64 : Shape := ⟨1, ![64]⟩
abbrev S128 : Shape := ⟨1, ![128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5920 : Shape := ⟨2, ![32768, 5920]⟩
abbrev S32768x512 : Shape := ⟨2, ![32768, 512]⟩
abbrev S32768x128 : Shape := ⟨2, ![32768, 128]⟩
abbrev S32768x256 : Shape := ⟨2, ![32768, 256]⟩
abbrev S32768x32 : Shape := ⟨2, ![32768, 32]⟩
abbrev S32768x3072 : Shape := ⟨2, ![32768, 3072]⟩
abbrev S32768x8x64 : Shape := ⟨3, ![32768, 8, 64]⟩
abbrev S32768x8 : Shape := ⟨2, ![32768, 8]⟩
abbrev S32768x8x1 : Shape := ⟨3, ![32768, 8, 1]⟩
abbrev S1x1x64 : Shape := ⟨3, ![1, 1, 64]⟩
abbrev S32768x2x64 : Shape := ⟨3, ![32768, 2, 64]⟩
abbrev S32768x2 : Shape := ⟨2, ![32768, 2]⟩
abbrev S32768x2x1 : Shape := ⟨3, ![32768, 2, 1]⟩
abbrev S32768x4x128 : Shape := ⟨3, ![32768, 4, 128]⟩
abbrev S32768x4 : Shape := ⟨2, ![32768, 4]⟩
abbrev S32768x4x1 : Shape := ⟨3, ![32768, 4, 1]⟩
abbrev S1x1x128 : Shape := ⟨3, ![1, 1, 128]⟩
abbrev S32768x96 : Shape := ⟨2, ![32768, 96]⟩
abbrev S32768x6016 : Shape := ⟨2, ![32768, 6016]⟩

abbrev nBuf : Space → Nat
  | .hbm => 97
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5920, .f32⟩
  | .hbm, ⟨3, _⟩ => ⟨S64, .f32⟩
  | .hbm, ⟨4, _⟩ => ⟨S128, .f32⟩
  | .hbm, ⟨5, _⟩ => ⟨S64, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x5920, .f32⟩
  | .hbm, ⟨23, _⟩ => ⟨S32768x512, .f32⟩
  | .hbm, ⟨24, _⟩ => ⟨S32768x128, .f32⟩
  | .hbm, ⟨25, _⟩ => ⟨S32768x128, .f32⟩
  | .hbm, ⟨26, _⟩ => ⟨S32768x256, .f32⟩
  | .hbm, ⟨27, _⟩ => ⟨S32768x256, .f32⟩
  | .hbm, ⟨28, _⟩ => ⟨S32768x512, .f32⟩
  | .hbm, ⟨29, _⟩ => ⟨S32768x512, .f32⟩
  | .hbm, ⟨30, _⟩ => ⟨S32768x32, .f32⟩
  | .hbm, ⟨31, _⟩ => ⟨S32768x512, .f32⟩
  | .hbm, ⟨32, _⟩ => ⟨S32768x3072, .f32⟩
  | .hbm, ⟨33, _⟩ => ⟨S32768x8x64, .f32⟩
  | .hbm, ⟨34, _⟩ => ⟨S32768x8x64, .f32⟩
  | .hbm, ⟨35, _⟩ => ⟨S_, .f32⟩
  | .hbm, ⟨36, _⟩ => ⟨S32768x8, .f32⟩
  | .hbm, ⟨37, _⟩ => ⟨S32768x8x1, .f32⟩
  | .hbm, ⟨38, _⟩ => ⟨S_, .f32⟩
  | .hbm, ⟨39, _⟩ => ⟨S32768x8x1, .f32⟩
  | .hbm, ⟨40, _⟩ => ⟨S32768x8x1, .f32⟩
  | .hbm, ⟨41, _⟩ => ⟨S_, .f32⟩
  | .hbm, ⟨42, _⟩ => ⟨S32768x8x1, .f32⟩
  | .hbm, ⟨43, _⟩ => ⟨S32768x8x1, .f32⟩
  | .hbm, ⟨44, _⟩ => ⟨S32768x8x1, .f32⟩
  | .hbm, ⟨45, _⟩ => ⟨S32768x8x64, .f32⟩
  | .hbm, ⟨46, _⟩ => ⟨S32768x8x64, .f32⟩
  | .hbm, ⟨47, _⟩ => ⟨S1x1x64, .f32⟩
  | .hbm, ⟨48, _⟩ => ⟨S32768x8x64, .f32⟩
  | .hbm, ⟨49, _⟩ => ⟨S32768x8x64, .f32⟩
  | .hbm, ⟨50, _⟩ => ⟨S32768x512, .f32⟩
  | .hbm, ⟨51, _⟩ => ⟨S_, .f32⟩
  | .hbm, ⟨52, _⟩ => ⟨S32768x512, .f32⟩
  | .hbm, ⟨53, _⟩ => ⟨S32768x512, .f32⟩
  | .hbm, ⟨54, _⟩ => ⟨S32768x2x64, .f32⟩
  | .hbm, ⟨55, _⟩ => ⟨S32768x2x64, .f32⟩
  | .hbm, ⟨56, _⟩ => ⟨S_, .f32⟩
  | .hbm, ⟨57, _⟩ => ⟨S32768x2, .f32⟩
  | .hbm, ⟨58, _⟩ => ⟨S32768x2x1, .f32⟩
  | .hbm, ⟨59, _⟩ => ⟨S_, .f32⟩
  | .hbm, ⟨60, _⟩ => ⟨S32768x2x1, .f32⟩
  | .hbm, ⟨61, _⟩ => ⟨S32768x2x1, .f32⟩
  | .hbm, ⟨62, _⟩ => ⟨S_, .f32⟩
  | .hbm, ⟨63, _⟩ => ⟨S32768x2x1, .f32⟩
  | .hbm, ⟨64, _⟩ => ⟨S32768x2x1, .f32⟩
  | .hbm, ⟨65, _⟩ => ⟨S32768x2x1, .f32⟩
  | .hbm, ⟨66, _⟩ => ⟨S32768x2x64, .f32⟩
  | .hbm, ⟨67, _⟩ => ⟨S32768x2x64, .f32⟩
  | .hbm, ⟨68, _⟩ => ⟨S1x1x64, .f32⟩
  | .hbm, ⟨69, _⟩ => ⟨S32768x2x64, .f32⟩
  | .hbm, ⟨70, _⟩ => ⟨S32768x2x64, .f32⟩
  | .hbm, ⟨71, _⟩ => ⟨S32768x128, .f32⟩
  | .hbm, ⟨72, _⟩ => ⟨S32768x4x128, .f32⟩
  | .hbm, ⟨73, _⟩ => ⟨S32768x4x128, .f32⟩
  | .hbm, ⟨74, _⟩ => ⟨S_, .f32⟩
  | .hbm, ⟨75, _⟩ => ⟨S32768x4, .f32⟩
  | .hbm, ⟨76, _⟩ => ⟨S32768x4x1, .f32⟩
  | .hbm, ⟨77, _⟩ => ⟨S_, .f32⟩
  | .hbm, ⟨78, _⟩ => ⟨S32768x4x1, .f32⟩
  | .hbm, ⟨79, _⟩ => ⟨S32768x4x1, .f32⟩
  | .hbm, ⟨80, _⟩ => ⟨S_, .f32⟩
  | .hbm, ⟨81, _⟩ => ⟨S32768x4x1, .f32⟩
  | .hbm, ⟨82, _⟩ => ⟨S32768x4x1, .f32⟩
  | .hbm, ⟨83, _⟩ => ⟨S32768x4x1, .f32⟩
  | .hbm, ⟨84, _⟩ => ⟨S32768x4x128, .f32⟩
  | .hbm, ⟨85, _⟩ => ⟨S32768x4x128, .f32⟩
  | .hbm, ⟨86, _⟩ => ⟨S1x1x128, .f32⟩
  | .hbm, ⟨87, _⟩ => ⟨S32768x4x128, .f32⟩
  | .hbm, ⟨88, _⟩ => ⟨S32768x4x128, .f32⟩
  | .hbm, ⟨89, _⟩ => ⟨S32768x512, .f32⟩
  | .hbm, ⟨90, _⟩ => ⟨S_, .f32⟩
  | .hbm, ⟨91, _⟩ => ⟨S32768x256, .f32⟩
  | .hbm, ⟨92, _⟩ => ⟨S32768x256, .f32⟩
  | .hbm, ⟨93, _⟩ => ⟨S_, .f32⟩
  | .hbm, ⟨94, _⟩ => ⟨S32768x96, .f32⟩
  | .hbm, ⟨95, _⟩ => ⟨S32768x6016, .f32⟩
  | .hbm, ⟨96, _⟩ => ⟨S32768x6016, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== MemKv.lean ====
abbrev S2048x1024 : Shape := ⟨2, ![2048, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩

abbrev nBuf : Space → Nat
  | .hbm => 11
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1x1024, .f32⟩
  | .hbm, ⟨5, _⟩ => ⟨S1024x1024, .bf16⟩
  | .hbm, ⟨6, _⟩ => ⟨S1x128, .f32⟩
  | .hbm, ⟨7, _⟩ => ⟨S4x128, .f32⟩
  | .hbm, ⟨8, _⟩ => ⟨S512, .f32⟩
  | .hbm, ⟨9, _⟩ => ⟨S1x512, .f32⟩
  | .hbm, ⟨10, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x512, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S2048x1024 : Shape := ⟨2, ![2048, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩
abbrev S1x1x128 : Shape := ⟨3, ![1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x512, .f32⟩
  | .hbm, ⟨22, _⟩ => ⟨S2048x512, .f32⟩
  | .hbm, ⟨23, _⟩ => ⟨S2048x4x128, .f32⟩
  | .hbm, ⟨24, _⟩ => ⟨S2048x4x128, .f32⟩
  | .hbm, ⟨25, _⟩ => ⟨S_, .f32⟩
  | .hbm, ⟨26, _⟩ => ⟨S2048x4, .f32⟩
  | .hbm, ⟨27, _⟩ => ⟨S2048x4x1, .f32⟩
  | .hbm, ⟨28, _⟩ => ⟨S_, .f32⟩
  | .hbm, ⟨29, _⟩ => ⟨S2048x4x1, .f32⟩
  | .hbm, ⟨30, _⟩ => ⟨S2048x4x1, .f32⟩
  | .hbm, ⟨31, _⟩ => ⟨S_, .f32⟩
  | .hbm, ⟨32, _⟩ => ⟨S2048x4x1, .f32⟩
  | .hbm, ⟨33, _⟩ => ⟨S2048x4x1, .f32⟩
  | .hbm, ⟨34, _⟩ => ⟨S2048x4x1, .f32⟩
  | .hbm, ⟨35, _⟩ => ⟨S2048x4x128, .f32⟩
  | .hbm, ⟨36, _⟩ => ⟨S2048x4x128, .f32⟩
  | .hbm, ⟨37, _⟩ => ⟨S1x1x128, .f32⟩
  | .hbm, ⟨38, _⟩ => ⟨S2048x4x128, .f32⟩
  | .hbm, ⟨39, _⟩ => ⟨S2048x4x128, .f32⟩
  | .hbm, ⟨40, _⟩ => ⟨S2048x512, .f32⟩
  | .hbm, ⟨41, _⟩ => ⟨S2048x1024, .f32⟩
  | .hbm, ⟨42, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Bias.lean ====
abbrev S32x8 : Shape := ⟨2, ![32, 8]⟩
abbrev S128x384 : Shape := ⟨2, ![128, 384]⟩
abbrev S8x128x384 : Shape := ⟨3, ![8, 128, 384]⟩
abbrev S1x1 : Shape := ⟨2, ![1, 1]⟩
abbrev S1x128x384 : Shape := ⟨3, ![1, 128, 384]⟩

abbrev nBuf : Space → Nat
  | .hbm => 3
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S128x384, .i32⟩
  | .hbm, ⟨2, _⟩ => ⟨S8x128x384, .f32⟩
  | .local _ .vmem, ⟨0, _⟩ => ⟨S128x384, .i32⟩
  | .local _ .vmem, ⟨1, _⟩ => ⟨S8x128x384, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasIdeal.lean ====
variable {F : FTy → Type} [FloatOps F] [Named F]
def κ : String → Option EReal := fun
  | "mask" => some ⊥
  | _ => none
-- ==== BiasRefIdeal.lean ====
abbrev S32x8 : Shape := ⟨2, ![32, 8]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩

abbrev nBuf : Space → Nat
  | .hbm => 89
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S384, .i32⟩
  | .hbm, ⟨2, _⟩ => ⟨S1x384, .i32⟩
  | .hbm, ⟨3, _⟩ => ⟨S_, .i32⟩
  | .hbm, ⟨4, _⟩ => ⟨S1x384, .i32⟩
  | .hbm, ⟨5, _⟩ => ⟨S1x384, .i32⟩
  | .hbm, ⟨6, _⟩ => ⟨S128, .i32⟩
  | .hbm, ⟨7, _⟩ => ⟨S128x1, .i32⟩
  | .hbm, ⟨8, _⟩ => ⟨S128x384, .i32⟩
  | .hbm, ⟨9, _⟩ => ⟨S128x384, .i32⟩
  | .hbm, ⟨10, _⟩ => ⟨S128x384, .i32⟩
  | .hbm, ⟨11, _⟩ => ⟨S128x384, .i32⟩
  | .hbm, ⟨12, _⟩ => ⟨S128x384, .i32⟩
  | .hbm, ⟨13, _⟩ => ⟨S_, .i32⟩
  | .hbm, ⟨14, _⟩ => ⟨S128x384, .i32⟩
  | .hbm, ⟨15, _⟩ => ⟨S128x384, .i1⟩
  | .hbm, ⟨16, _⟩ => ⟨S128x384, .i32⟩
  | .hbm, ⟨17, _⟩ => ⟨S_, .i32⟩
  | .hbm, ⟨18, _⟩ => ⟨S128x384, .i32⟩
  | .hbm, ⟨19, _⟩ => ⟨S128x384, .i32⟩
  | .hbm, ⟨20, _⟩ => ⟨S128x384, .i32⟩
  | .hbm, ⟨21, _⟩ => ⟨S_, .i32⟩
  | .hbm, ⟨22, _⟩ => ⟨S128x384, .i32⟩
  | .hbm, ⟨23, _⟩ => ⟨S128x384, .i1⟩
  | .hbm, ⟨24, _⟩ => ⟨S128x384, .i32⟩
  | .hbm, ⟨25, _⟩ => ⟨S128x384, .i32⟩
  | .hbm, ⟨26, _⟩ => ⟨S128x384, .i32⟩
  | .hbm, ⟨27, _⟩ => ⟨S_, .i32⟩
  | .hbm, ⟨28, _⟩ => ⟨S128x384, .i32⟩
  | .hbm, ⟨29, _⟩ => ⟨S128x384, .i1⟩
  | .hbm, ⟨30, _⟩ => ⟨S128x384, .i32⟩
  | .hbm, ⟨31, _⟩ => ⟨S128x384, .i32⟩
  | .hbm, ⟨32, _⟩ => ⟨S128x384, .i32⟩
  | .hbm, ⟨33, _⟩ => ⟨S_, .i32⟩
  | .hbm, ⟨34, _⟩ => ⟨S128x384, .i32⟩
  | .hbm, ⟨35, _⟩ => ⟨S128x384, .i1⟩
  | .hbm, ⟨36, _⟩ => ⟨S128x384, .i32⟩
  | .hbm, ⟨37, _⟩ => ⟨S128x384, .i32⟩
  | .hbm, ⟨38, _⟩ => ⟨S128x384, .i32⟩
  | .hbm, ⟨39, _⟩ => ⟨S_, .i32⟩
  | .hbm, ⟨40, _⟩ => ⟨S128x384, .i32⟩
  | .hbm, ⟨41, _⟩ => ⟨S128x384, .i1⟩
  | .hbm, ⟨42, _⟩ => ⟨S128x384, .i32⟩
  | .hbm, ⟨43, _⟩ => ⟨S128x384, .i32⟩
  | .hbm, ⟨44, _⟩ => ⟨S128x384, .i32⟩
  | .hbm, ⟨45, _⟩ => ⟨S_, .i32⟩
  | .hbm, ⟨46, _⟩ => ⟨S128x384, .i32⟩
  | .hbm, ⟨47, _⟩ => ⟨S128x384, .i1⟩
  | .hbm, ⟨48, _⟩ => ⟨S128x384, .i32⟩
  | .hbm, ⟨49, _⟩ => ⟨S128x384, .i32⟩
  | .hbm, ⟨50, _⟩ => ⟨S128x384, .i32⟩
  | .hbm, ⟨51, _⟩ => ⟨S_, .i32⟩
  | .hbm, ⟨52, _⟩ => ⟨S128x384, .i32⟩
  | .hbm, ⟨53, _⟩ => ⟨S128x384, .i1⟩
  | .hbm, ⟨54, _⟩ => ⟨S128x384, .i32⟩
  | .hbm, ⟨55, _⟩ => ⟨S128x384, .i32⟩
  | .hbm, ⟨56, _⟩ => ⟨S_, .i32⟩
  | .hbm, ⟨57, _⟩ => ⟨S128x384, .i32⟩
  | .hbm, ⟨58, _⟩ => ⟨S128x384, .i32⟩
  | .hbm, ⟨59, _⟩ => ⟨S_, .i32⟩
  | .hbm, ⟨60, _⟩ => ⟨S128x384, .i32⟩
  | .hbm, ⟨61, _⟩ => ⟨S128x384, .i1⟩
  | .hbm, ⟨62, _⟩ => ⟨S128x384, .i32⟩
  | .hbm, ⟨63, _⟩ => ⟨S_, .i32⟩
  | .hbm, ⟨64, _⟩ => ⟨S128x384, .i32⟩
  | .hbm, ⟨65, _⟩ => ⟨S128x384, .i32⟩
  | .hbm, ⟨66, _⟩ => ⟨S_, .i32⟩
  | .hbm, ⟨67, _⟩ => ⟨S128x384, .i32⟩
  | .hbm, ⟨68, _⟩ => ⟨S128x384, .i1⟩
  | .hbm, ⟨69, _⟩ => ⟨S128x384, .i32⟩
  | .hbm, ⟨70, _⟩ => ⟨S128x384, .i32⟩
  | .hbm, ⟨71, _⟩ => ⟨S_, .i32⟩
  | .hbm, ⟨72, _⟩ => ⟨S128x384, .i32⟩
  | .hbm, ⟨73, _⟩ => ⟨S128x384, .i1⟩
  | .hbm, ⟨74, _⟩ => ⟨S_, .i32⟩
  | .hbm, ⟨75, _⟩ => ⟨S128x384, .i32⟩
  | .hbm, ⟨76, _⟩ => ⟨S128x384, .i1⟩
  | .hbm, ⟨77, _⟩ => ⟨S_, .i32⟩
  | .hbm, ⟨78, _⟩ => ⟨S128x384, .i32⟩
  | .hbm, ⟨79, _⟩ => ⟨S128x384, .i32⟩
  | .hbm, ⟨80, _⟩ => ⟨S128x384, .i32⟩
  | .hbm, ⟨81, _⟩ => ⟨S128x384x1, .i32⟩
  | .hbm, ⟨82, _⟩ => ⟨S128x384x8, .f32⟩
  | .hbm, ⟨83, _⟩ => ⟨S8x128x384, .f32⟩
  | .hbm, ⟨84, _⟩ => ⟨S_, .f32⟩
  | .hbm, ⟨85, _⟩ => ⟨S_, .f32⟩
  | .hbm, ⟨86, _⟩ => ⟨S8x128x384, .i1⟩
  | .hbm, ⟨87, _⟩ => ⟨S8x128x384, .f32⟩
  | .hbm, ⟨88, _⟩ => ⟨S8x128x384, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_3 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_5 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_6 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_7 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_8 : Ref sig .tc := ⟨.hbm, 56, rfl⟩
abbrev main_v46 : Ref sig .tc := ⟨.hbm, 57, rfl⟩
abbrev main_v47 : Ref sig .tc := ⟨.hbm, 58, rfl⟩
abbrev main_c_9 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_10 : Ref sig .tc := ⟨.hbm, 63, rfl⟩
abbrev main_v51 : Ref sig .tc := ⟨.hbm, 64, rfl⟩
abbrev main_v52 : Ref sig .tc := ⟨.hbm, 65, rfl⟩
abbrev main_c_11 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_12 : Ref sig .tc := ⟨.hbm, 71, rfl⟩
abbrev main_v57 : Ref sig .tc := ⟨.hbm, 72, rfl⟩
abbrev main_v58 : Ref sig .tc := ⟨.hbm, 73, rfl⟩
abbrev main_c_13 : Ref sig .tc := ⟨.hbm, 74, rfl⟩
abbrev main_v59 : Ref sig .tc := ⟨.hbm, 75, rfl⟩
abbrev main_v60 : Ref sig .tc := ⟨.hbm, 76, rfl⟩
abbrev main_c_14 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Proof.Softmax.lean ====
module

public import Idealize.ShloMosaic.Lib.Pointwise
public import Idealize.ShloMosaic.PureOps.Ideal

@[expose] public section

noncomputable section

namespace Cert.Softmax
open Idealize.ShloMosaic

/-- An extended real that is a real. -/
def IsReal (x : EReal) : Prop := ∃ r : ℝ, x = (r : EReal)

/-- A value that is neither infinity is real. -/
theorem isReal_of_ne {x : EReal} (ht : x ≠ ⊤) (hb : x ≠ ⊥) : IsReal x := ⟨x.toReal, (EReal.coe_toReal ht hb).symm⟩

/-- A real is not plus infinity. -/
theorem IsReal.ne_top {x : EReal} (h : IsReal x) : x ≠ ⊤ := by obtain ⟨r, rfl⟩ := h; exact EReal.coe_ne_top r

/-- A real is not minus infinity. -/
theorem IsReal.ne_bot {x : EReal} (h : IsReal x) : x ≠ ⊥ := by obtain ⟨r, rfl⟩ := h; exact EReal.coe_ne_bot r

/-- A product of reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A finite sum of reals is real. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The coercion of a sum of reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes inside a sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.2 hc) (EReal.coe_ne_top c)]

/-- The word of minus infinity. -/
theorem ofBits_bot : Ideal.ofBits FTy.f32 0xFF800000#32 = ⊥ := by
  simp [Ideal.ofBits, Ideal.ieee]

/-- The word of 128. -/
theorem ofBits_128 : Ideal.ofBits FTy.f32 0x43000000#32 = ((128 : ℝ) : EReal) := by
  simp [Ideal.ofBits, Ideal.ieee]
  refine (EReal.coe_mul _ _).symm.trans (congrArg _ ?_)
  norm_num

/-- The largest of finitely many values below plus infinity is below plus infinity. -/
theorem fold_ne_top {n : Nat} (s : Fin n → EReal) (h : ∀ j, s j ≠ ⊤) : Finset.univ.fold max ⊥ s ≠ ⊤ :=
  ((Finset.fold_max_lt _).2 ⟨bot_lt_top, fun j _ => lt_top_iff_ne_top.2 (h j)⟩).ne

/-- The largest of finitely many reals is real. -/
theorem isReal_fold {n : Nat} [NeZero n] (s : Fin n → EReal) (h : ∀ j, IsReal (s j)) : IsReal (Finset.univ.fold max ⊥ s) :=
  isReal_of_ne (fold_ne_top s fun j => (h j).ne_top)
    ((Finset.lt_fold_max _).2 (Or.inr ⟨0, Finset.mem_univ _, bot_lt_iff_ne_bot.2 (h 0).ne_bot⟩)).ne'

/-- Where the scores are real, weighting the values by normalised exponentials is scaling the sum weighted by the plain ones. -/
theorem normalise {n : Nat} [NeZero n] (s v : Fin n → EReal) (hs : ∀ j, IsReal (s j)) (M : EReal) (hM : IsReal M) :
    (∑ j, Ideal.exp (s j - M) * v j) * Ideal.div 1 (∑ i, Ideal.exp (s i - M))
      = ∑ j, v j * Ideal.div (Ideal.exp (s j - M)) (∑ i, Ideal.exp (s i - M)) := by
  obtain ⟨μ, rfl⟩ := hM
  choose r hr using hs
  have he : ∀ j, Ideal.exp (s j - (μ : EReal)) = ((Real.exp (r j - μ) : ℝ) : EReal) := fun j => by
    rw [hr j, ← EReal.coe_sub]; rfl
  simp only [he, sum_coe]
  have hd : 0 < ∑ i, Real.exp (r i - μ) :=
    Finset.sum_pos (fun i _ => Real.exp_pos _) ⟨0, Finset.mem_univ _⟩
  simp only [Ideal.div_coe hd.ne', one_mul]
  rw [sum_mul_coe _ _ (by positivity)]
  exact Finset.sum_congr rfl fun j _ => by rw [mul_comm _ (v j), mul_assoc]

/-- Dividing by the root of 128 is multiplying by its inverse. -/
theorem div_sqrt_128 (x : EReal) :
    Ideal.div x (Ideal.sqrt (Ideal.ofBits FTy.f32 0x43000000#32)) = x * (((Real.sqrt 128)⁻¹ : ℝ) : EReal) := by
  have h : Real.sqrt 128 ≠ 0 := by positivity
  rw [ofBits_128, Ideal.sqrt_coe, if_neg (by norm_num), Ideal.div_coe h, one_div]

/-- The word of plus infinity. -/
theorem ofBits_top : Ideal.ofBits FTy.f32 0x7F800000#32 = ⊤ := by
  simp [Ideal.ofBits, Ideal.ieee]

/-- A value that passes the test `|x| < ∞` is real. -/
theorem isReal_of_abs {φ : FTy} {x : Ideal φ}
    (h : BitVec.ofBool (decide ((FloatOps.absf x : Ideal φ) < Ideal.ofBits FTy.f32 0x7F800000#32)) = 1#1) : IsReal x := by
  rw [ofBits_top] at h
  have h' : (FloatOps.absf x : Ideal φ) < (⊤ : EReal) := by
    by_contra hn
    rw [decide_eq_false hn] at h
    exact absurd h (by decide)
  have h2 : max (x : EReal) (-x) < ⊤ := h'
  refine isReal_of_ne ?_ ?_
  · rintro rfl; simp at h2
  · rintro rfl; simp at h2

/-- A value that passes the test `x < ∞` is not plus infinity. -/
theorem ne_top_of_lt {x : EReal} (h : BitVec.ofBool (decide (x < Ideal.ofBits FTy.f32 0x7F800000#32)) = 1#1) : x ≠ ⊤ := by
  rw [ofBits_top] at h
  rintro rfl
  rw [decide_eq_false (lt_irrefl _)] at h
  exact absurd h (by decide)

end Cert.Softmax

end
-- ==== Proof.WAttnParts.lean ====
module

public import proofs.«01_k».proof.Proof.Gen.WAttnIdeal.Frame
public import proofs.«01_k».proof.Proof.Softmax
public import proofs.«01_k».proof.Defs
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WAttnIdeal.RefValue
open Idealize.ShloMosaic Idealize.ShloMosaic.TcCoe Idealize.SL.Sem
open Idealize.ShloMosaic.Pipeline (Dat)
open Cert.WAttnIdeal Cert.WAttnIdeal.Gen

/-- A row's lanes as the kernel lays them out in bank `b` of its scratch: one half of the row in one half of the lanes, zeros in the other. -/
def SHF (b : Nat) (f : Fin 128 → EReal) (l : Fin 128) : EReal :=
  if b % 4 = 0 then (if l.val < 64 then f l else 0)
  else if b % 4 = 1 then (if l.val < 64 then 0 else f ⟨l.val - 64, by omega⟩)
  else if h : b % 4 = 2 ∧ l.val < 64 then f ⟨l.val + 64, by omega⟩
  else if b % 4 = 2 then 0
  else (if l.val < 64 then 0 else f l)

/-- The lanes below the middle. -/
theorem lane_at (l : Fin 128) : (k0_pay37 : IVec S1x128 1) (ix2 0 l) = if l.val < 64 then 1#1 else 0#1 := by
  have e : ∀ l : Fin 128, IntOp.cmpi .slt (BitVec.ofNat 32 l.val) 64#32 = if l.val < 64 then 1#1 else 0#1 := by decide +kernel
  pointwise [k0_pay37]
  exact e l

/-- What bank 0 gets of a block of 128 rows. -/
theorem lay40_at (a : FVec Ideal S128x128 .bf16) (r : Fin 128) (l : Fin 128) :
    (k0_pay40 a : FVec Ideal S1x128x128 .bf16) (ix3 0 r l) = SHF 0 (fun e => a (ix2 r e)) l := by
  have hl := lane_at l
  pointwise [k0_pay40, k0_pay38]
  generalize (k0_pay37 : IVec S1x128 1) = p at hl ⊢
  rw [hl]
  by_cases h : l.val < 64 <;> simp [SHF, h, Scalar.select, Ideal.ofBits_zero_f32]

/-- What bank 1 gets of a block of 128 rows. -/
theorem lay41_at (a : FVec Ideal S128x128 .bf16) (r : Fin 128) (l : Fin 128) :
    (k0_pay41 a : FVec Ideal S1x128x128 .bf16) (ix3 0 r l) = SHF 1 (fun e => a (ix2 r e)) l := by
  have hl := lane_at l
  pointwise [k0_pay41, k0_pay39, k0_pay38]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val - 64; omega))

/-- What bank 2 gets of a block of 128 rows. -/
theorem lay42_at (a : FVec Ideal S128x128 .bf16) (r : Fin 128) (l : Fin 128) :
    (k0_pay42 a : FVec Ideal S1x128x128 .bf16) (ix3 0 r l) = SHF 2 (fun e => a (ix2 r e)) l := by
  have hl := lane_at l
  pointwise [k0_pay42, k0_pay39, k0_pay38]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val + 64; omega))

/-- What bank 3 gets of a block of 128 rows. -/
theorem lay45_at (a : FVec Ideal S128x128 .bf16) (r : Fin 128) (l : Fin 128) :
    (k0_pay45 (k0_pay38 a) k0_pay43 k0_pay44 : FVec Ideal S1x128x128 .bf16) (ix3 0 r l) = SHF 3 (fun e => a (ix2 r e)) l := by
  have hl := lane_at l
  pointwise [k0_pay45, k0_pay38, k0_pay43, k0_pay44]
  generalize (k0_pay37 : IVec S1x128 1) = p at hl ⊢
  rw [hl]
  by_cases h : l.val < 64 <;> simp [SHF, h, Scalar.select, Ideal.ofBits_zero_f32]

/-- What bank 4 gets of a block of 128 rows. -/
theorem lay48_at (a : FVec Ideal S128x128 .bf16) (r : Fin 128) (l : Fin 128) :
    (k0_pay48 k0_pay37 a : FVec Ideal S1x128x128 .bf16) (ix3 0 r l) = SHF 4 (fun e => a (ix2 r e)) l := by
  have hl := lane_at l
  pointwise [k0_pay48, k0_pay46]
  generalize (k0_pay37 : IVec S1x128 1) = p at hl ⊢
  rw [hl]
  by_cases h : l.val < 64 <;> simp [SHF, h, Scalar.select, Ideal.ofBits_zero_f32]

/-- What bank 5 gets of a block of 128 rows. -/
theorem lay49_at (a : FVec Ideal S128x128 .bf16) (r : Fin 128) (l : Fin 128) :
    (k0_pay49 k0_pay37 a : FVec Ideal S1x128x128 .bf16) (ix3 0 r l) = SHF 5 (fun e => a (ix2 r e)) l := by
  have hl := lane_at l
  pointwise [k0_pay49, k0_pay47, k0_pay46]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val - 64; omega))

/-- What bank 6 gets of a block of 128 rows. -/
theorem lay50_at (a : FVec Ideal S128x128 .bf16) (r : Fin 128) (l : Fin 128) :
    (k0_pay50 k0_pay37 a : FVec Ideal S1x128x128 .bf16) (ix3 0 r l) = SHF 6 (fun e => a (ix2 r e)) l := by
  have hl := lane_at l
  pointwise [k0_pay50, k0_pay47, k0_pay46]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val + 64; omega))

/-- What bank 7 gets of a block of 128 rows. -/
theorem lay52_at (a : FVec Ideal S128x128 .bf16) (r : Fin 128) (l : Fin 128) :
    (k0_pay52 (k0_pay51 k0_pay37 a) : FVec Ideal S1x128x128 .bf16) (ix3 0 r l) = SHF 7 (fun e => a (ix2 r e)) l := by
  have hl := lane_at l
  pointwise [k0_pay52, k0_pay51, k0_pay46]
  generalize (k0_pay37 : IVec S1x128 1) = p at hl ⊢
  rw [hl]
  by_cases h : l.val < 64 <;> simp [SHF, h, Scalar.select, Ideal.ofBits_zero_f32]

/-- What bank 0 gets of a block of 512 rows. -/
theorem lay55_at (a : FVec Ideal S512x128 .bf16) (r : Fin 512) (l : Fin 128) :
    (k0_pay55 k0_pay37 a : FVec Ideal S1x512x128 .bf16) (ix3 0 r l) = SHF 0 (fun e => a (ix2 r e)) l := by
  have hl := lane_at l
  pointwise [k0_pay55, k0_pay53]
  generalize (k0_pay37 : IVec S1x128 1) = p at hl ⊢
  rw [hl]
  by_cases h : l.val < 64 <;> simp [SHF, h, Scalar.select, Ideal.ofBits_zero_f32]

/-- What bank 1 gets of a block of 512 rows. -/
theorem lay56_at (a : FVec Ideal S512x128 .bf16) (r : Fin 512) (l : Fin 128) :
    (k0_pay56 k0_pay37 a : FVec Ideal S1x512x128 .bf16) (ix3 0 r l) = SHF 1 (fun e => a (ix2 r e)) l := by
  have hl := lane_at l
  pointwise [k0_pay56, k0_pay54, k0_pay53]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val - 64; omega))

/-- What bank 2 gets of a block of 512 rows. -/
theorem lay57_at (a : FVec Ideal S512x128 .bf16) (r : Fin 512) (l : Fin 128) :
    (k0_pay57 k0_pay37 a : FVec Ideal S1x512x128 .bf16) (ix3 0 r l) = SHF 2 (fun e => a (ix2 r e)) l := by
  have hl := lane_at l
  pointwise [k0_pay57, k0_pay54, k0_pay53]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val + 64; omega))

/-- What bank 3 gets of a block of 512 rows. -/
theorem lay59_at (a : FVec Ideal S512x128 .bf16) (r : Fin 512) (l : Fin 128) :
    (k0_pay59 (k0_pay58 k0_pay37 a) : FVec Ideal S1x512x128 .bf16) (ix3 0 r l) = SHF 3 (fun e => a (ix2 r e)) l := by
  have hl := lane_at l
  pointwise [k0_pay59, k0_pay58, k0_pay53]
  generalize (k0_pay37 : IVec S1x128 1) = p at hl ⊢
  rw [hl]
  by_cases h : l.val < 64 <;> simp [SHF, h, Scalar.select, Ideal.ofBits_zero_f32]

/-- What bank 4 gets of a block of 512 rows. -/
theorem lay62_at (a : FVec Ideal S512x128 .bf16) (r : Fin 512) (l : Fin 128) :
    (k0_pay62 k0_pay37 a : FVec Ideal S1x512x128 .bf16) (ix3 0 r l) = SHF 4 (fun e => a (ix2 r e)) l := by
  have hl := lane_at l
  pointwise [k0_pay62, k0_pay60]
  generalize (k0_pay37 : IVec S1x128 1) = p at hl ⊢
  rw [hl]
  by_cases h : l.val < 64 <;> simp [SHF, h, Scalar.select, Ideal.ofBits_zero_f32]

/-- What bank 5 gets of a block of 512 rows. -/
theorem lay63_at (a : FVec Ideal S512x128 .bf16) (r : Fin 512) (l : Fin 128) :
    (k0_pay63 k0_pay37 a : FVec Ideal S1x512x128 .bf16) (ix3 0 r l) = SHF 5 (fun e => a (ix2 r e)) l := by
  have hl := lane_at l
  pointwise [k0_pay63, k0_pay61, k0_pay60]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val - 64; omega))

/-- What bank 6 gets of a block of 512 rows. -/
theorem lay64_at (a : FVec Ideal S512x128 .bf16) (r : Fin 512) (l : Fin 128) :
    (k0_pay64 k0_pay37 a : FVec Ideal S1x512x128 .bf16) (ix3 0 r l) = SHF 6 (fun e => a (ix2 r e)) l := by
  have hl := lane_at l
  pointwise [k0_pay64, k0_pay61, k0_pay60]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val + 64; omega))

/-- What bank 7 gets of a block of 512 rows. -/
theorem lay65_at (a : FVec Ideal S512x128 .bf16) (r : Fin 512) (l : Fin 128) :
    (k0_pay65 k0_pay37 a : FVec Ideal S1x512x128 .bf16) (ix3 0 r l) = SHF 7 (fun e => a (ix2 r e)) l := by
  have hl := lane_at l
  pointwise [k0_pay65, k0_pay60]
  generalize (k0_pay37 : IVec S1x128 1) = p at hl ⊢
  rw [hl]
  by_cases h : l.val < 64 <;> simp [SHF, h, Scalar.select, Ideal.ofBits_zero_f32]

/-- What bank 0 gets of a block of 128 rows. -/
theorem lay68_at (a : FVec Ideal S128x128 .bf16) (r : Fin 128) (l : Fin 128) :
    (k0_pay68 k0_pay37 a : FVec Ideal S1x128x128 .bf16) (ix3 0 r l) = SHF 0 (fun e => a (ix2 r e)) l := by
  have hl := lane_at l
  pointwise [k0_pay68, k0_pay66]
  generalize (k0_pay37 : IVec S1x128 1) = p at hl ⊢
  rw [hl]
  by_cases h : l.val < 64 <;> simp [SHF, h, Scalar.select, Ideal.ofBits_zero_f32]

/-- What bank 1 gets of a block of 128 rows. -/
theorem lay69_at (a : FVec Ideal S128x128 .bf16) (r : Fin 128) (l : Fin 128) :
    (k0_pay69 k0_pay37 a : FVec Ideal S1x128x128 .bf16) (ix3 0 r l) = SHF 1 (fun e => a (ix2 r e)) l := by
  have hl := lane_at l
  pointwise [k0_pay69, k0_pay67, k0_pay66]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val - 64; omega))

/-- What bank 2 gets of a block of 128 rows. -/
theorem lay70_at (a : FVec Ideal S128x128 .bf16) (r : Fin 128) (l : Fin 128) :
    (k0_pay70 k0_pay37 a : FVec Ideal S1x128x128 .bf16) (ix3 0 r l) = SHF 2 (fun e => a (ix2 r e)) l := by
  have hl := lane_at l
  pointwise [k0_pay70, k0_pay67, k0_pay66]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val + 64; omega))

/-- What bank 3 gets of a block of 128 rows. -/
theorem lay71_at (a : FVec Ideal S128x128 .bf16) (r : Fin 128) (l : Fin 128) :
    (k0_pay71 k0_pay37 a : FVec Ideal S1x128x128 .bf16) (ix3 0 r l) = SHF 3 (fun e => a (ix2 r e)) l := by
  have hl := lane_at l
  pointwise [k0_pay71, k0_pay66]
  generalize (k0_pay37 : IVec S1x128 1) = p at hl ⊢
  rw [hl]
  by_cases h : l.val < 64 <;> simp [SHF, h, Scalar.select, Ideal.ofBits_zero_f32]

/-- What bank 4 gets of a block of 128 rows. -/
theorem lay74_at (a : FVec Ideal S128x128 .bf16) (r : Fin 128) (l : Fin 128) :
    (k0_pay74 k0_pay37 a : FVec Ideal S1x128x128 .bf16) (ix3 0 r l) = SHF 4 (fun e => a (ix2 r e)) l := by
  have hl := lane_at l
  pointwise [k0_pay74, k0_pay72]
  generalize (k0_pay37 : IVec S1x128 1) = p at hl ⊢
  rw [hl]
  by_cases h : l.val < 64 <;> simp [SHF, h, Scalar.select, Ideal.ofBits_zero_f32]

/-- What bank 5 gets of a block of 128 rows. -/
theorem lay75_at (a : FVec Ideal S128x128 .bf16) (r : Fin 128) (l : Fin 128) :
    (k0_pay75 k0_pay37 a : FVec Ideal S1x128x128 .bf16) (ix3 0 r l) = SHF 5 (fun e => a (ix2 r e)) l := by
  have hl := lane_at l
  pointwise [k0_pay75, k0_pay73, k0_pay72]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val - 64; omega))

/-- What bank 6 gets of a block of 128 rows. -/
theorem lay76_at (a : FVec Ideal S128x128 .bf16) (r : Fin 128) (l : Fin 128) :
    (k0_pay76 k0_pay37 a : FVec Ideal S1x128x128 .bf16) (ix3 0 r l) = SHF 6 (fun e => a (ix2 r e)) l := by
  have hl := lane_at l
  pointwise [k0_pay76, k0_pay73, k0_pay72]
  generalize (k0_pay37 : IVec S1x128 1) = p at hl ⊢
  rw [hl]
  by_cases h : l.val < 64 <;> simp [SHF, h, Scalar.select, Ideal.ofBits_zero_f32]
  exact congrArg (fun k => a (ix2 r k)) (Fin.ext (by show (l.val + 64) % 128 = l.val + 64; omega))

/-- What bank 7 gets of a block of 128 rows. -/
theorem lay77_at (a : FVec Ideal S128x128 .bf16) (r : Fin 128) (l : Fin 128) :
    (k0_pay77 k0_pay37 a : FVec Ideal S1x128x128 .bf16) (ix3 0 r l) = SHF 7 (fun e => a (ix2 r e)) l := by
  have hl := lane_at l
  pointwise [k0_pay77, k0_pay72]
  generalize (k0_pay37 : IVec S1x128 1) = p at hl ⊢
  rw [hl]
  by_cases h : l.val < 64 <;> simp [SHF, h, Scalar.select, Ideal.ofBits_zero_f32]

/-- The pieces the kernel writes into its scratch, last first: `a2`, `a3`, `a4` the keys of the block, of the window before it and of the window after it, `a5`, `a6`, `a7` the values. -/
def LS (a2 a5 : FVec Ideal S512x128 .bf16) (a3 a4 a6 a7 : FVec Ideal S128x128 .bf16) : List (View.Piece (Elt Ideal) S8x768x128 .bf16) :=
  [⟨Rect.unit ![7, 640, 0] S1x128x128.size inb_S8x768x128_S1x128x128_7_640_0, k0_pay77 (F := Ideal) k0_pay37 a7⟩,
   ⟨Rect.unit ![6, 640, 0] S1x128x128.size inb_S8x768x128_S1x128x128_6_640_0, k0_pay76 (F := Ideal) k0_pay37 a7⟩,
   ⟨Rect.unit ![5, 640, 0] S1x128x128.size inb_S8x768x128_S1x128x128_5_640_0, k0_pay75 (F := Ideal) k0_pay37 a7⟩,
   ⟨Rect.unit ![4, 640, 0] S1x128x128.size inb_S8x768x128_S1x128x128_4_640_0, k0_pay74 (F := Ideal) k0_pay37 a7⟩,
   ⟨Rect.unit ![3, 640, 0] S1x128x128.size inb_S8x768x128_S1x128x128_3_640_0, k0_pay71 (F := Ideal) k0_pay37 a4⟩,
   ⟨Rect.unit ![2, 640, 0] S1x128x128.size inb_S8x768x128_S1x128x128_2_640_0, k0_pay70 (F := Ideal) k0_pay37 a4⟩,
   ⟨Rect.unit ![1, 640, 0] S1x128x128.size inb_S8x768x128_S1x128x128_1_640_0, k0_pay69 (F := Ideal) k0_pay37 a4⟩,
   ⟨Rect.unit ![0, 640, 0] S1x128x128.size inb_S8x768x128_S1x128x128_0_640_0, k0_pay68 (F := Ideal) k0_pay37 a4⟩,
   ⟨Rect.unit ![7, 128, 0] S1x512x128.size inb_S8x768x128_S1x512x128_7_128_0, k0_pay65 (F := Ideal) k0_pay37 a5⟩,
   ⟨Rect.unit ![6, 128, 0] S1x512x128.size inb_S8x768x128_S1x512x128_6_128_0, k0_pay64 (F := Ideal) k0_pay37 a5⟩,
   ⟨Rect.unit ![5, 128, 0] S1x512x128.size inb_S8x768x128_S1x512x128_5_128_0, k0_pay63 (F := Ideal) k0_pay37 a5⟩,
   ⟨Rect.unit ![4, 128, 0] S1x512x128.size inb_S8x768x128_S1x512x128_4_128_0, k0_pay62 (F := Ideal) k0_pay37 a5⟩,
   ⟨Rect.unit ![3, 128, 0] S1x512x128.size inb_S8x768x128_S1x512x128_3_128_0, k0_pay59 (F := Ideal) (k0_pay58 (F := Ideal) k0_pay37 a2)⟩,
   ⟨Rect.unit ![2, 128, 0] S1x512x128.size inb_S8x768x128_S1x512x128_2_128_0, k0_pay57 (F := Ideal) k0_pay37 a2⟩,
   ⟨Rect.unit ![1, 128, 0] S1x512x128.size inb_S8x768x128_S1x512x128_1_128_0, k0_pay56 (F := Ideal) k0_pay37 a2⟩,
   ⟨Rect.unit ![0, 128, 0] S1x512x128.size inb_S8x768x128_S1x512x128_0_128_0, k0_pay55 (F := Ideal) k0_pay37 a2⟩,
   ⟨Rect.unit ![7, 0, 0] S1x128x128.size inb_S8x768x128_S1x128x128_7_0_0, k0_pay52 (F := Ideal) (k0_pay51 (F := Ideal) k0_pay37 a6)⟩,
   ⟨Rect.unit ![6, 0, 0] S1x128x128.size inb_S8x768x128_S1x128x128_6_0_0, k0_pay50 (F := Ideal) k0_pay37 a6⟩,
   ⟨Rect.unit ![5, 0, 0] S1x128x128.size inb_S8x768x128_S1x128x128_5_0_0, k0_pay49 (F := Ideal) k0_pay37 a6⟩,
   ⟨Rect.unit ![4, 0, 0] S1x128x128.size inb_S8x768x128_S1x128x128_4_0_0, k0_pay48 (F := Ideal) k0_pay37 a6⟩,
   ⟨Rect.unit ![3, 0, 0] S1x128x128.size inb_S8x768x128_S1x128x128_3_0_0, k0_pay45 (F := Ideal) (k0_pay38 (F := Ideal) a3) k0_pay43 k0_pay44⟩,
   ⟨Rect.unit ![2, 0, 0] S1x128x128.size inb_S8x768x128_S1x128x128_2_0_0, k0_pay42 (F := Ideal) a3⟩,
   ⟨Rect.unit ![1, 0, 0] S1x128x128.size inb_S8x768x128_S1x128x128_1_0_0, k0_pay41 (F := Ideal) a3⟩,
   ⟨Rect.unit ![0, 0, 0] S1x128x128.size inb_S8x768x128_S1x128x128_0_0_0, k0_pay40 (F := Ideal) a3⟩]

/-- The row `r` of the window before a block, the block and the window after it. -/
def ROW (a : FVec Ideal S512x128 .bf16) (p n : FVec Ideal S128x128 .bf16) (r : Fin 768) (e : Fin 128) : EReal :=
  if h : r.val < 128 then p (ix2 ⟨r.val, h⟩ e)
  else if h2 : r.val < 640 then a (ix2 ⟨r.val - 128, by omega⟩ e)
  else n (ix2 ⟨r.val - 640, by omega⟩ e)

/-- The scratch's rows by bank: keys in the first four banks, values in the others. -/
def BANK (a2 a5 : FVec Ideal S512x128 .bf16) (a3 a4 a6 a7 : FVec Ideal S128x128 .bf16) (b : Fin 8) (r : Fin 768) (l : Fin 128) : EReal :=
  if b.val < 4 then SHF b.val (ROW a2 a3 a4 r) l else SHF b.val (ROW a5 a6 a7 r) l

/-- The scratch's contents. -/
theorem ls_at (a2 a5 : FVec Ideal S512x128 .bf16) (a3 a4 a6 a7 : FVec Ideal S128x128 .bf16) (y : S8x768x128.Idx) :
    View.canon (LS a2 a5 a3 a4 a6 a7) y = BANK a2 a5 a3 a4 a6 a7 (y 0) (y 1) (y 2) := by
  unfold LS
  canon_tiles x h using View.cover_of_tiledBy _ ![1, 128, 128] (by sl_kernel_rfl) y
  case piece0 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨7, by decide⟩ : Fin 8) := Fin.ext h0
    have hr : y 1 = (⟨640 + r.val, by have h3 : r.val < 128 := r.isLt; omega⟩ : Fin 768) := Fin.ext h1
    have hl : y 2 = l := Fin.ext h2
    rw [hb, hr, hl]
    refine (lay77_at a7 r l).trans ?_
    unfold BANK
    rw [if_neg (by decide)]
    refine congrArg (fun f => SHF 7 f l) (funext fun e => ?_)
    unfold ROW
    rw [dif_neg (by show ¬ (640 + r.val < 128); omega), dif_neg (by show ¬ (640 + r.val < 640); omega)]
    exact congrArg (fun k => a7 (ix2 k e)) (Fin.ext (by show r.val = 640 + r.val - 640; omega))
  case piece1 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨6, by decide⟩ : Fin 8) := Fin.ext h0
    have hr : y 1 = (⟨640 + r.val, by have h3 : r.val < 128 := r.isLt; omega⟩ : Fin 768) := Fin.ext h1
    have hl : y 2 = l := Fin.ext h2
    rw [hb, hr, hl]
    refine (lay76_at a7 r l).trans ?_
    unfold BANK
    rw [if_neg (by decide)]
    refine congrArg (fun f => SHF 6 f l) (funext fun e => ?_)
    unfold ROW
    rw [dif_neg (by show ¬ (640 + r.val < 128); omega), dif_neg (by show ¬ (640 + r.val < 640); omega)]
    exact congrArg (fun k => a7 (ix2 k e)) (Fin.ext (by show r.val = 640 + r.val - 640; omega))
  case piece2 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨5, by decide⟩ : Fin 8) := Fin.ext h0
    have hr : y 1 = (⟨640 + r.val, by have h3 : r.val < 128 := r.isLt; omega⟩ : Fin 768) := Fin.ext h1
    have hl : y 2 = l := Fin.ext h2
    rw [hb, hr, hl]
    refine (lay75_at a7 r l).trans ?_
    unfold BANK
    rw [if_neg (by decide)]
    refine congrArg (fun f => SHF 5 f l) (funext fun e => ?_)
    unfold ROW
    rw [dif_neg (by show ¬ (640 + r.val < 128); omega), dif_neg (by show ¬ (640 + r.val < 640); omega)]
    exact congrArg (fun k => a7 (ix2 k e)) (Fin.ext (by show r.val = 640 + r.val - 640; omega))
  case piece3 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨4, by decide⟩ : Fin 8) := Fin.ext h0
    have hr : y 1 = (⟨640 + r.val, by have h3 : r.val < 128 := r.isLt; omega⟩ : Fin 768) := Fin.ext h1
    have hl : y 2 = l := Fin.ext h2
    rw [hb, hr, hl]
    refine (lay74_at a7 r l).trans ?_
    unfold BANK
    rw [if_neg (by decide)]
    refine congrArg (fun f => SHF 4 f l) (funext fun e => ?_)
    unfold ROW
    rw [dif_neg (by show ¬ (640 + r.val < 128); omega), dif_neg (by show ¬ (640 + r.val < 640); omega)]
    exact congrArg (fun k => a7 (ix2 k e)) (Fin.ext (by show r.val = 640 + r.val - 640; omega))
  case piece4 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨3, by decide⟩ : Fin 8) := Fin.ext h0
    have hr : y 1 = (⟨640 + r.val, by have h3 : r.val < 128 := r.isLt; omega⟩ : Fin 768) := Fin.ext h1
    have hl : y 2 = l := Fin.ext h2
    rw [hb, hr, hl]
    refine (lay71_at a4 r l).trans ?_
    unfold BANK
    rw [if_pos (by decide)]
    refine congrArg (fun f => SHF 3 f l) (funext fun e => ?_)
    unfold ROW
    rw [dif_neg (by show ¬ (640 + r.val < 128); omega), dif_neg (by show ¬ (640 + r.val < 640); omega)]
    exact congrArg (fun k => a4 (ix2 k e)) (Fin.ext (by show r.val = 640 + r.val - 640; omega))
  case piece5 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨2, by decide⟩ : Fin 8) := Fin.ext h0
    have hr : y 1 = (⟨640 + r.val, by have h3 : r.val < 128 := r.isLt; omega⟩ : Fin 768) := Fin.ext h1
    have hl : y 2 = l := Fin.ext h2
    rw [hb, hr, hl]
    refine (lay70_at a4 r l).trans ?_
    unfold BANK
    rw [if_pos (by decide)]
    refine congrArg (fun f => SHF 2 f l) (funext fun e => ?_)
    unfold ROW
    rw [dif_neg (by show ¬ (640 + r.val < 128); omega), dif_neg (by show ¬ (640 + r.val < 640); omega)]
    exact congrArg (fun k => a4 (ix2 k e)) (Fin.ext (by show r.val = 640 + r.val - 640; omega))
  case piece6 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨1, by decide⟩ : Fin 8) := Fin.ext h0
    have hr : y 1 = (⟨640 + r.val, by have h3 : r.val < 128 := r.isLt; omega⟩ : Fin 768) := Fin.ext h1
    have hl : y 2 = l := Fin.ext h2
    rw [hb, hr, hl]
    refine (lay69_at a4 r l).trans ?_
    unfold BANK
    rw [if_pos (by decide)]
    refine congrArg (fun f => SHF 1 f l) (funext fun e => ?_)
    unfold ROW
    rw [dif_neg (by show ¬ (640 + r.val < 128); omega), dif_neg (by show ¬ (640 + r.val < 640); omega)]
    exact congrArg (fun k => a4 (ix2 k e)) (Fin.ext (by show r.val = 640 + r.val - 640; omega))
  case piece7 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨0, by decide⟩ : Fin 8) := Fin.ext h0
    have hr : y 1 = (⟨640 + r.val, by have h3 : r.val < 128 := r.isLt; omega⟩ : Fin 768) := Fin.ext h1
    have hl : y 2 = l := Fin.ext h2
    rw [hb, hr, hl]
    refine (lay68_at a4 r l).trans ?_
    unfold BANK
    rw [if_pos (by decide)]
    refine congrArg (fun f => SHF 0 f l) (funext fun e => ?_)
    unfold ROW
    rw [dif_neg (by show ¬ (640 + r.val < 128); omega), dif_neg (by show ¬ (640 + r.val < 640); omega)]
    exact congrArg (fun k => a4 (ix2 k e)) (Fin.ext (by show r.val = 640 + r.val - 640; omega))
  case piece8 =>
    obtain ⟨z, r, l, rfl⟩ : ∃ (z : Fin 1) (r : Fin 512) (l : Fin 128), x = ix3 z r l := ⟨x 0, x 1, x 2, eq_ix3 x⟩
    obtain rfl : z = 0 := Subsingleton.elim _ _
    have hb : y 0 = (⟨7, by decide⟩ : Fin 8) := Fin.ext h0
    have hr : y 1 = (⟨128 + r.val, by have h3 : r.val < 512 := r.isLt; omega⟩ : Fin 768) := Fin.ext h1
    have hl : y 2 = l := Fin.ext h2
    rw [hb, hr, hl]
    refine (lay65_at a5 r l).trans ?_
    unfold BANK
    rw [if_neg (by decide)]
    refine congrArg (fun f => SHF 7 f l) (funext fun e => ?_)
    unfold ROW
    rw [dif_neg (by show ¬ (128 + r.val < 128); omega), dif_pos (by show 128 + r.val < 640; omega)]
    exact congrArg (fun k => a5 (ix2 k e)) (Fin.ext (by show r.val = 128 + r.val - 128; omega))
  case piece9 =>
    obtain ⟨z, r, l, rfl⟩ : ∃ (z : Fin 1) (r : Fin 512) (l : Fin 128), x = ix3 z r l := ⟨x 0, x 1, x 2, eq_ix3 x⟩
    obtain rfl : z = 0 := Subsingleton.elim _ _
    have hb : y 0 = (⟨6, by decide⟩ : Fin 8) := Fin.ext h0
    have hr : y 1 = (⟨128 + r.val, by have h3 : r.val < 512 := r.isLt; omega⟩ : Fin 768) := Fin.ext h1
    have hl : y 2 = l := Fin.ext h2
    rw [hb, hr, hl]
    refine (lay64_at a5 r l).trans ?_
    unfold BANK
    rw [if_neg (by decide)]
    refine congrArg (fun f => SHF 6 f l) (funext fun e => ?_)
    unfold ROW
    rw [dif_neg (by show ¬ (128 + r.val < 128); omega), dif_pos (by show 128 + r.val < 640; omega)]
    exact congrArg (fun k => a5 (ix2 k e)) (Fin.ext (by show r.val = 128 + r.val - 128; omega))
  case piece10 =>
    obtain ⟨z, r, l, rfl⟩ : ∃ (z : Fin 1) (r : Fin 512) (l : Fin 128), x = ix3 z r l := ⟨x 0, x 1, x 2, eq_ix3 x⟩
    obtain rfl : z = 0 := Subsingleton.elim _ _
    have hb : y 0 = (⟨5, by decide⟩ : Fin 8) := Fin.ext h0
    have hr : y 1 = (⟨128 + r.val, by have h3 : r.val < 512 := r.isLt; omega⟩ : Fin 768) := Fin.ext h1
    have hl : y 2 = l := Fin.ext h2
    rw [hb, hr, hl]
    refine (lay63_at a5 r l).trans ?_
    unfold BANK
    rw [if_neg (by decide)]
    refine congrArg (fun f => SHF 5 f l) (funext fun e => ?_)
    unfold ROW
    rw [dif_neg (by show ¬ (128 + r.val < 128); omega), dif_pos (by show 128 + r.val < 640; omega)]
    exact congrArg (fun k => a5 (ix2 k e)) (Fin.ext (by show r.val = 128 + r.val - 128; omega))
  case piece11 =>
    obtain ⟨z, r, l, rfl⟩ : ∃ (z : Fin 1) (r : Fin 512) (l : Fin 128), x = ix3 z r l := ⟨x 0, x 1, x 2, eq_ix3 x⟩
    obtain rfl : z = 0 := Subsingleton.elim _ _
    have hb : y 0 = (⟨4, by decide⟩ : Fin 8) := Fin.ext h0
    have hr : y 1 = (⟨128 + r.val, by have h3 : r.val < 512 := r.isLt; omega⟩ : Fin 768) := Fin.ext h1
    have hl : y 2 = l := Fin.ext h2
    rw [hb, hr, hl]
    refine (lay62_at a5 r l).trans ?_
    unfold BANK
    rw [if_neg (by decide)]
    refine congrArg (fun f => SHF 4 f l) (funext fun e => ?_)
    unfold ROW
    rw [dif_neg (by show ¬ (128 + r.val < 128); omega), dif_pos (by show 128 + r.val < 640; omega)]
    exact congrArg (fun k => a5 (ix2 k e)) (Fin.ext (by show r.val = 128 + r.val - 128; omega))
  case piece12 =>
    obtain ⟨z, r, l, rfl⟩ : ∃ (z : Fin 1) (r : Fin 512) (l : Fin 128), x = ix3 z r l := ⟨x 0, x 1, x 2, eq_ix3 x⟩
    obtain rfl : z = 0 := Subsingleton.elim _ _
    have hb : y 0 = (⟨3, by decide⟩ : Fin 8) := Fin.ext h0
    have hr : y 1 = (⟨128 + r.val, by have h3 : r.val < 512 := r.isLt; omega⟩ : Fin 768) := Fin.ext h1
    have hl : y 2 = l := Fin.ext h2
    rw [hb, hr, hl]
    refine (lay59_at a2 r l).trans ?_
    unfold BANK
    rw [if_pos (by decide)]
    refine congrArg (fun f => SHF 3 f l) (funext fun e => ?_)
    unfold ROW
    rw [dif_neg (by show ¬ (128 + r.val < 128); omega), dif_pos (by show 128 + r.val < 640; omega)]
    exact congrArg (fun k => a2 (ix2 k e)) (Fin.ext (by show r.val = 128 + r.val - 128; omega))
  case piece13 =>
    obtain ⟨z, r, l, rfl⟩ : ∃ (z : Fin 1) (r : Fin 512) (l : Fin 128), x = ix3 z r l := ⟨x 0, x 1, x 2, eq_ix3 x⟩
    obtain rfl : z = 0 := Subsingleton.elim _ _
    have hb : y 0 = (⟨2, by decide⟩ : Fin 8) := Fin.ext h0
    have hr : y 1 = (⟨128 + r.val, by have h3 : r.val < 512 := r.isLt; omega⟩ : Fin 768) := Fin.ext h1
    have hl : y 2 = l := Fin.ext h2
    rw [hb, hr, hl]
    refine (lay57_at a2 r l).trans ?_
    unfold BANK
    rw [if_pos (by decide)]
    refine congrArg (fun f => SHF 2 f l) (funext fun e => ?_)
    unfold ROW
    rw [dif_neg (by show ¬ (128 + r.val < 128); omega), dif_pos (by show 128 + r.val < 640; omega)]
    exact congrArg (fun k => a2 (ix2 k e)) (Fin.ext (by show r.val = 128 + r.val - 128; omega))
  case piece14 =>
    obtain ⟨z, r, l, rfl⟩ : ∃ (z : Fin 1) (r : Fin 512) (l : Fin 128), x = ix3 z r l := ⟨x 0, x 1, x 2, eq_ix3 x⟩
    obtain rfl : z = 0 := Subsingleton.elim _ _
    have hb : y 0 = (⟨1, by decide⟩ : Fin 8) := Fin.ext h0
    have hr : y 1 = (⟨128 + r.val, by have h3 : r.val < 512 := r.isLt; omega⟩ : Fin 768) := Fin.ext h1
    have hl : y 2 = l := Fin.ext h2
    rw [hb, hr, hl]
    refine (lay56_at a2 r l).trans ?_
    unfold BANK
    rw [if_pos (by decide)]
    refine congrArg (fun f => SHF 1 f l) (funext fun e => ?_)
    unfold ROW
    rw [dif_neg (by show ¬ (128 + r.val < 128); omega), dif_pos (by show 128 + r.val < 640; omega)]
    exact congrArg (fun k => a2 (ix2 k e)) (Fin.ext (by show r.val = 128 + r.val - 128; omega))
  case piece15 =>
    obtain ⟨z, r, l, rfl⟩ : ∃ (z : Fin 1) (r : Fin 512) (l : Fin 128), x = ix3 z r l := ⟨x 0, x 1, x 2, eq_ix3 x⟩
    obtain rfl : z = 0 := Subsingleton.elim _ _
    have hb : y 0 = (⟨0, by decide⟩ : Fin 8) := Fin.ext h0
    have hr : y 1 = (⟨128 + r.val, by have h3 : r.val < 512 := r.isLt; omega⟩ : Fin 768) := Fin.ext h1
    have hl : y 2 = l := Fin.ext h2
    rw [hb, hr, hl]
    refine (lay55_at a2 r l).trans ?_
    unfold BANK
    rw [if_pos (by decide)]
    refine congrArg (fun f => SHF 0 f l) (funext fun e => ?_)
    unfold ROW
    rw [dif_neg (by show ¬ (128 + r.val < 128); omega), dif_pos (by show 128 + r.val < 640; omega)]
    exact congrArg (fun k => a2 (ix2 k e)) (Fin.ext (by show r.val = 128 + r.val - 128; omega))
  case piece16 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨7, by decide⟩ : Fin 8) := Fin.ext h0
    have hr : y 1 = (⟨r.val, by have h3 : r.val < 128 := r.isLt; omega⟩ : Fin 768) := Fin.ext h1
    have hl : y 2 = l := Fin.ext h2
    rw [hb, hr, hl]
    refine (lay52_at a6 r l).trans ?_
    unfold BANK
    rw [if_neg (by decide)]
    refine congrArg (fun f => SHF 7 f l) (funext fun e => ?_)
    unfold ROW
    rw [dif_pos (by show r.val < 128; exact r.isLt)]
  case piece17 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨6, by decide⟩ : Fin 8) := Fin.ext h0
    have hr : y 1 = (⟨r.val, by have h3 : r.val < 128 := r.isLt; omega⟩ : Fin 768) := Fin.ext h1
    have hl : y 2 = l := Fin.ext h2
    rw [hb, hr, hl]
    refine (lay50_at a6 r l).trans ?_
    unfold BANK
    rw [if_neg (by decide)]
    refine congrArg (fun f => SHF 6 f l) (funext fun e => ?_)
    unfold ROW
    rw [dif_pos (by show r.val < 128; exact r.isLt)]
  case piece18 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨5, by decide⟩ : Fin 8) := Fin.ext h0
    have hr : y 1 = (⟨r.val, by have h3 : r.val < 128 := r.isLt; omega⟩ : Fin 768) := Fin.ext h1
    have hl : y 2 = l := Fin.ext h2
    rw [hb, hr, hl]
    refine (lay49_at a6 r l).trans ?_
    unfold BANK
    rw [if_neg (by decide)]
    refine congrArg (fun f => SHF 5 f l) (funext fun e => ?_)
    unfold ROW
    rw [dif_pos (by show r.val < 128; exact r.isLt)]
  case piece19 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨4, by decide⟩ : Fin 8) := Fin.ext h0
    have hr : y 1 = (⟨r.val, by have h3 : r.val < 128 := r.isLt; omega⟩ : Fin 768) := Fin.ext h1
    have hl : y 2 = l := Fin.ext h2
    rw [hb, hr, hl]
    refine (lay48_at a6 r l).trans ?_
    unfold BANK
    rw [if_neg (by decide)]
    refine congrArg (fun f => SHF 4 f l) (funext fun e => ?_)
    unfold ROW
    rw [dif_pos (by show r.val < 128; exact r.isLt)]
  case piece20 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨3, by decide⟩ : Fin 8) := Fin.ext h0
    have hr : y 1 = (⟨r.val, by have h3 : r.val < 128 := r.isLt; omega⟩ : Fin 768) := Fin.ext h1
    have hl : y 2 = l := Fin.ext h2
    rw [hb, hr, hl]
    refine (lay45_at a3 r l).trans ?_
    unfold BANK
    rw [if_pos (by decide)]
    refine congrArg (fun f => SHF 3 f l) (funext fun e => ?_)
    unfold ROW
    rw [dif_pos (by show r.val < 128; exact r.isLt)]
  case piece21 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨2, by decide⟩ : Fin 8) := Fin.ext h0
    have hr : y 1 = (⟨r.val, by have h3 : r.val < 128 := r.isLt; omega⟩ : Fin 768) := Fin.ext h1
    have hl : y 2 = l := Fin.ext h2
    rw [hb, hr, hl]
    refine (lay42_at a3 r l).trans ?_
    unfold BANK
    rw [if_pos (by decide)]
    refine congrArg (fun f => SHF 2 f l) (funext fun e => ?_)
    unfold ROW
    rw [dif_pos (by show r.val < 128; exact r.isLt)]
  case piece22 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨1, by decide⟩ : Fin 8) := Fin.ext h0
    have hr : y 1 = (⟨r.val, by have h3 : r.val < 128 := r.isLt; omega⟩ : Fin 768) := Fin.ext h1
    have hl : y 2 = l := Fin.ext h2
    rw [hb, hr, hl]
    refine (lay41_at a3 r l).trans ?_
    unfold BANK
    rw [if_pos (by decide)]
    refine congrArg (fun f => SHF 1 f l) (funext fun e => ?_)
    unfold ROW
    rw [dif_pos (by show r.val < 128; exact r.isLt)]
  case piece23 =>
    obtain ⟨z, r, l, rfl⟩ : ∃ (z : Fin 1) (r : Fin 128) (l : Fin 128), x = ix3 z r l := ⟨x 0, x 1, x 2, eq_ix3 x⟩
    obtain rfl : z = 0 := Subsingleton.elim _ _
    have hb : y 0 = (⟨0, by decide⟩ : Fin 8) := Fin.ext h0
    have hr : y 1 = (⟨r.val, by have h3 : r.val < 128 := r.isLt; omega⟩ : Fin 768) := Fin.ext h1
    have hl : y 2 = l := Fin.ext h2
    rw [hb, hr, hl]
    refine (lay40_at a3 r l).trans ?_
    unfold BANK
    rw [if_pos (by decide)]
    refine congrArg (fun f => SHF 0 f l) (funext fun e => ?_)
    unfold ROW
    rw [dif_pos (by show r.val < 128; exact r.isLt)]

/-- A score: minus infinity off the sequence. -/
theorem score_at (inv : IVec S1x384 1) (q : FVec Ideal S128x128 .bf16) (K : FVec Ideal S1x384x128 .bf16) (B : FVec Ideal S1x128x384 .f32) (r : Fin 128) (j : Fin 384) :
    (k0_pay11 inv q K B : FVec Ideal S128x384 .f32) (ix2 r j) = if inv (ix2 0 j) = 1#1 then (⊥ : EReal) else (∑ d : Fin 128, @HMul.hMul EReal EReal EReal _ (q (ix2 r d)) (K (ix3 0 j d))) + B (ix3 0 r j) := by
  pointwise [k0_pay11]
  rfl

/-- A row's maximum with the sink. -/
theorem max_at (inv : IVec S1x384 1) (q : FVec Ideal S128x128 .bf16) (K : FVec Ideal S1x384x128 .bf16) (B : FVec Ideal S1x128x384 .f32) (s : Ideal .f32) (r : Fin 128) :
    (k0_pay12 inv q K B s : FVec Ideal S128x1 .f32) (ix2 r 0) = max (Finset.univ.fold max (Ideal.ofBits FTy.f32 0xFF800000#32) fun j => (k0_pay11 inv q K B : FVec Ideal S128x384 .f32) (ix2 r j)) s := by
  pointwise [k0_pay12]

/-- An exponential. -/
theorem exp_at (inv : IVec S1x384 1) (q : FVec Ideal S128x128 .bf16) (K : FVec Ideal S1x384x128 .bf16) (B : FVec Ideal S1x128x384 .f32) (s : Ideal .f32) (r : Fin 128) (j : Fin 384) :
    (k0_pay13 inv q K B s : FVec Ideal S128x384 .f32) (ix2 r j) = Ideal.exp ((k0_pay11 inv q K B : FVec Ideal S128x384 .f32) (ix2 r j) - (k0_pay12 inv q K B s : FVec Ideal S128x1 .f32) (ix2 r 0)) := by
  pointwise [k0_pay13]

/-- The weighted values. -/
theorem acc_at (inv : IVec S1x384 1) (q : FVec Ideal S128x128 .bf16) (K : FVec Ideal S1x384x128 .bf16) (B : FVec Ideal S1x128x384 .f32) (V : FVec Ideal S1x384x128 .bf16) (s : Ideal .f32) (r l : Fin 128) :
    (k0_pay14 inv q K V B s : FVec Ideal S128x128 .f32) (ix2 r l) = ∑ j : Fin 384, @HMul.hMul EReal EReal EReal _ ((k0_pay13 inv q K B s : FVec Ideal S128x384 .f32) (ix2 r j)) (V (ix3 0 j l)) := by
  pointwise [k0_pay14]

/-- The reciprocal of the denominator. -/
theorem rec_at (inv : IVec S1x384 1) (q : FVec Ideal S128x128 .bf16) (K : FVec Ideal S1x384x128 .bf16) (B : FVec Ideal S1x128x384 .f32) (s : Ideal .f32) (r : Fin 128) :
    (k0_pay15 inv q K B s : FVec Ideal S128x1 .f32) (ix2 r 0) = Ideal.div (1 : EReal) ((∑ j : Fin 384, (k0_pay13 inv q K B s : FVec Ideal S128x384 .f32) (ix2 r j)) + Ideal.exp (s - (k0_pay12 inv q K B s : FVec Ideal S128x1 .f32) (ix2 r 0))) := by
  pointwise [k0_pay15]

/-- Two heads' weighted values with one head's reciprocal in the lower lanes and the other's in the upper. -/
def FIN (v : IVec S1x128 1) (a b : FVec Ideal S128x128 .f32) (x y : FVec Ideal S128x1 .f32) : FVec Ideal S128x128 .bf16 :=
  truncf .bf16 (mulf (addf a b) (select (broadcastTo S128x128 (shapeCast S1x128 v shapeCasts_S1x128_S1x128) broadcasts_S1x128_S128x128)
    (broadcastTo S128x128 (shapeCast S128x1 x shapeCasts_S128x1_S128x1) broadcasts_S128x1_S128x128)
    (broadcastTo S128x128 (shapeCast S128x1 y shapeCasts_S128x1_S128x1) broadcasts_S128x1_S128x128))) bitsLt_bf16_f32

/-- `FIN` at one element. -/
theorem fin_at (v : IVec S1x128 1) (a b : FVec Ideal S128x128 .f32) (x y : FVec Ideal S128x1 .f32) (r l : Fin 128) :
    FIN v a b x y (ix2 r l) = @HMul.hMul EReal EReal EReal _ (@HAdd.hAdd EReal EReal EReal _ (a (ix2 r l)) (b (ix2 r l))) (if v (ix2 0 l) = 1#1 then x (ix2 r 0) else y (ix2 r 0)) := by
  pointwise [FIN]
  rfl

/-- A pair of heads: their common block of results. -/
def PAIR (v : IVec S1x128 1) (inv : IVec S1x384 1) (q : FVec Ideal S128x128 .bf16) (K0 V0 : FVec Ideal S1x384x128 .bf16) (B0 : FVec Ideal S1x128x384 .f32) (s0 : Ideal .f32)
    (K1 V1 : FVec Ideal S1x384x128 .bf16) (B1 : FVec Ideal S1x128x384 .f32) (s1 : Ideal .f32) : FVec Ideal S128x128 .bf16 :=
  FIN v (k0_pay14 inv q K0 V0 B0 s0) (k0_pay14 inv q K1 V1 B1 s1) (k0_pay15 inv q K0 B0 s0) (k0_pay15 inv q K1 B1 s1)

variable (v : IVec S1x128 1) (inv : IVec S1x384 1) (q : FVec Ideal S128x128 .bf16) (K0 V0 K1 V1 : FVec Ideal S1x384x128 .bf16) (B0 B1 : FVec Ideal S1x128x384 .f32) (s0 s1 : Ideal .f32)

/-- The first pair's payload. -/
theorem pair0 (v0 : BitVec 32) (w : IVec S1x384 32) (c0 c1 : BitVec 32) (k : Fin k0_t1_loop.trips) :
    (k0_pay10 (k0_pay9 v (k0_pay2 v0 w c0 c1 k) q (k0_pay3 V0) (k0_pay7 v0 w c0 c1 k q K0 B0 s0) (k0_pay8 v0 w c0 c1 k q K0 B0 s0) K1 V1 B1 s1) : FVec Ideal S128x128 .bf16)
      = PAIR v (k0_pay2 v0 w c0 c1 k) q K0 V0 B0 s0 K1 V1 B1 s1 := rfl

/-- The second pair's payload. -/
theorem pair1 :
    (k0_pay17 v inv q (k0_pay14 inv q K0 V0 B0 s0) (k0_pay15 inv q K0 B0 s0) (k0_pay16 K1) V1 B1 s1 : FVec Ideal S128x128 .bf16)
      = PAIR v inv q K0 V0 B0 s0 K1 V1 B1 s1 := rfl

/-- The third pair's payload. -/
theorem pair2 :
    (k0_pay26 v inv (k0_pay21 inv q K0 V0 B0 s0) (k0_pay22 inv q K0 B0 s0) (k0_pay23 V1) (k0_pay24 q K1) (k0_pay25 B1) s1 : FVec Ideal S128x128 .bf16)
      = PAIR v inv q K0 V0 B0 s0 K1 V1 B1 s1 := rfl

/-- The fourth pair's payload. -/
theorem pair3 :
    (k0_pay1 v (k0_pay32 inv (k0_pay27 V0) (k0_pay28 q K0) B0 s0) (k0_pay33 inv (k0_pay28 q K0) B0 s0) (k0_pay34 V1) (k0_pay35 inv q K1 B1) s1 (k0_pay36 inv q K1 B1) : FVec Ideal S128x128 .bf16)
      = PAIR v inv q K0 V0 B0 s0 K1 V1 B1 s1 := rfl

end Cert.WAttnIdeal.RefValue

end
-- ==== Proof.WAttnRefValue.lean ====
module

public import proofs.«01_k».proof.Proof.Gen.WAttnRefIdeal.Run
public import Idealize.ShloMosaic.Lib.Pipeline.ValueKit
public import Idealize.ShloMosaic.Lib.Pointwise
public import proofs.«01_k».proof.Proof.Softmax

@[expose] public section

set_option maxRecDepth 16384

noncomputable section

namespace Cert.WAttnRefIdeal.Whole
open Idealize.ShloMosaic Idealize.ShloMosaic.TcCoe Idealize.SL.Sem
open Cert.WAttnRefIdeal Cert.WAttnRefIdeal.Gen

/-- The queries by batch, block, position, group, head of the group and lane. -/
def QH (a0 : FVec Ideal S32768x6016 .bf16) : FVec Ideal S8x32x128x2x4x64 .f32 :=
  shapeCast _ (extf .f32 (extractStridedSlice S32768x512 ![0, 3072] a0 slices_S32768x6016_S32768x512_0_3072) bitsLt_bf16_f32) shapeCasts_S32768x512_S8x32x128x2x4x64

/-- The keys by batch, position, group and lane, with a window of zeros before and after each sequence. -/
def KP (a0 : FVec Ideal S32768x6016 .bf16) : FVec Ideal S8x4352x2x64 .f32 :=
  pad S8x4352x2x64 ![0, 128, 0, 0] ![0, 128, 0, 0] ![0, 0, 0, 0] (shapeCast _ (extf .f32 (extractStridedSlice S32768x128 ![0, 4096] a0 slices_S32768x6016_S32768x128_0_4096) bitsLt_bf16_f32) shapeCasts_S32768x128_S8x4096x2x64) (sitofp .f32 (constantI S_ 32 0#32)) pads_S8x4096x2x64_S8x4352x2x64_000_1281280_000_000 h_S_

/-- The values by batch, position, group and lane, with a window of zeros before and after each sequence. -/
def VP (a0 : FVec Ideal S32768x6016 .bf16) : FVec Ideal S8x4352x2x64 .f32 :=
  pad S8x4352x2x64 ![0, 128, 0, 0] ![0, 128, 0, 0] ![0, 0, 0, 0] (shapeCast _ (extf .f32 (extractStridedSlice S32768x128 ![0, 4224] a0 slices_S32768x6016_S32768x128_0_4224) bitsLt_bf16_f32) shapeCasts_S32768x128_S8x4096x2x64) (sitofp .f32 (constantI S_ 32 0#32)) pads_S8x4096x2x64_S8x4352x2x64_000_1281280_000_000 h_S_

/-- Each block's span of a padded array: the block, the window before it and the window after it. -/
def SPAN (P : FVec Ideal S8x4352x2x64 .f32) : FVec Ideal S8x32x384x2x64 .f32 :=
  concatenate S8x32x384x2x64 2 [⟨S8x32x128x2x64, ((extractStridedSlice S8x32x128x2x64 ![0, 0, 0, 0, 0] (shapeCast _ P shapeCasts_S8x4352x2x64_S8x34x128x2x64) slices_S8x34x128x2x64_S8x32x128x2x64_0_0_0_0_0))⟩, ⟨S8x32x128x2x64, ((extractStridedSlice S8x32x128x2x64 ![0, 1, 0, 0, 0] (shapeCast _ P shapeCasts_S8x4352x2x64_S8x34x128x2x64) slices_S8x34x128x2x64_S8x32x128x2x64_0_1_0_0_0))⟩, ⟨S8x32x128x2x64, ((extractStridedSlice S8x32x128x2x64 ![0, 2, 0, 0, 0] (shapeCast _ P shapeCasts_S8x4352x2x64_S8x34x128x2x64) slices_S8x34x128x2x64_S8x32x128x2x64_0_2_0_0_0))⟩] concatenates_S8x32x128x2x64_S8x32x128x2x64_S8x32x128x2x64_S8x32x384x2x64_d2

/-- Which positions of each block's span lie in the sequence. -/
def VALID : IVec S32x384 1 :=
  andi (cmpi .sge (addi (broadcastInDim S32x384 ![0, 1] bcast_S32x1_S32x384_0_1 (subi (broadcastInDim S32x1 ![0] bcast_S32_S32x1_0 (muli (iotaInDim S32 32 0) (broadcastInDim S32 ![] bcast_S_S32 (constantI S_ 32 128#32)))) (broadcastInDim S32x1 ![] bcast_S_S32x1 (constantI S_ 32 128#32)))) (broadcastInDim S32x384 ![0, 1] bcast_S1x384_S32x384_0_1 (broadcastInDim S1x384 ![1] bcast_S384_S1x384_1 (iotaInDim S384 32 0)))) (broadcastInDim S32x384 ![] bcast_S_S32x384 (constantI S_ 32 0#32))) (cmpi .slt (addi (broadcastInDim S32x384 ![0, 1] bcast_S32x1_S32x384_0_1 (subi (broadcastInDim S32x1 ![0] bcast_S32_S32x1_0 (muli (iotaInDim S32 32 0) (broadcastInDim S32 ![] bcast_S_S32 (constantI S_ 32 128#32)))) (broadcastInDim S32x1 ![] bcast_S_S32x1 (constantI S_ 32 128#32)))) (broadcastInDim S32x384 ![0, 1] bcast_S1x384_S32x384_0_1 (broadcastInDim S1x384 ![1] bcast_S384_S1x384_1 (iotaInDim S384 32 0)))) (broadcastInDim S32x384 ![] bcast_S_S32x384 (constantI S_ 32 4096#32)))

/-- The products of the keys' spans and the queries. -/
def DT (K : FVec Ideal S8x32x384x2x64 .f32) (Q : FVec Ideal S8x32x128x2x4x64 .f32) : FVec Ideal S8x32x2x4x128x384 .f32 :=
  transpose S8x32x2x4x128x384 [0, 1, 2, 5, 4, 3] (Host.dotGeneral dot_S8x32x384x2x64_S8x32x128x2x4x64_S8x32x2x384x128x4_4_5_2_24_013_013 none (K) Q) transposes_S8x32x2x384x128x4_S8x32x2x4x128x384_0_1_2_5_4_3

/-- The band's bias for each group and head, everywhere. -/
def BIAS (a1 : FVec Ideal S8x128x384 .f32) : FVec Ideal S8x32x2x4x128x384 .f32 :=
  broadcastInDim S8x32x2x4x128x384 ![0, 1, 2, 3, 4, 5] bcast_S1x1x2x4x128x384_S8x32x2x4x128x384_0_1_2_3_4_5 (broadcastInDim S1x1x2x4x128x384 ![2, 3, 4, 5] bcast_S2x4x128x384_S1x1x2x4x128x384_2_3_4_5 (shapeCast _ a1 shapeCasts_S8x128x384_S2x4x128x384))

/-- The scores: minus infinity off the sequence. -/
def SCof (D B : FVec Ideal S8x32x2x4x128x384 .f32) : FVec Ideal S8x32x2x4x128x384 .f32 :=
  select (broadcastInDim S8x32x2x4x128x384 ![0, 1, 2, 3, 4, 5] bcast_S1x32x1x1x1x384_S8x32x2x4x128x384_0_1_2_3_4_5 (broadcastInDim S1x32x1x1x1x384 ![1, 5] bcast_S32x384_S1x32x1x1x1x384_1_5 VALID)) (addf D B) (broadcastInDim S8x32x2x4x128x384 ![] bcast_S_S8x32x2x4x128x384 (id (constant S_ .f32 0xFF800000#32)))

/-- The sink of each group and head, everywhere. -/
def SINK (a2 : FVec Ideal S8 .f32) : FVec Ideal S8x32x2x4x128 .f32 :=
  broadcastInDim S8x32x2x4x128 ![0, 1, 2, 3, 4] bcast_S1x1x2x4x1_S8x32x2x4x128_0_1_2_3_4 (broadcastInDim S1x1x2x4x1 ![2, 3, 4] bcast_S2x4x1_S1x1x2x4x1_2_3_4 (broadcastInDim S2x4x1 ![0, 1] bcast_S2x4_S2x4x1_0_1 (shapeCast _ a2 shapeCasts_S8_S2x4)))

/-- The row maxima of the scores. -/
def MRof (X : FVec Ideal S8x32x2x4x128x384 .f32) : FVec Ideal S8x32x2x4x128 .f32 :=
  Host.reduce FloatOps.maximumf X (constant S_ .f32 0xFF800000#32) reducesTo_S8x32x2x4x128x384_S8x32x2x4x128_d5 h_S_

/-- The exponentials of the scores less the maxima `M`. -/
def EXof (X : FVec Ideal S8x32x2x4x128x384 .f32) (M : FVec Ideal S8x32x2x4x128 .f32) : FVec Ideal S8x32x2x4x128x384 .f32 :=
  Host.exp (subf X (broadcastInDim S8x32x2x4x128x384 ![0, 1, 2, 3, 4, 5] bcast_S8x32x2x4x128x1_S8x32x2x4x128x384_0_1_2_3_4_5 (broadcastInDim S8x32x2x4x128x1 ![0, 1, 2, 3, 4] bcast_S8x32x2x4x128_S8x32x2x4x128x1_0_1_2_3_4 M)))

/-- The denominators: each row's exponentials and the sink's, added up. -/
def DENof (E : FVec Ideal S8x32x2x4x128x384 .f32) (M S : FVec Ideal S8x32x2x4x128 .f32) : FVec Ideal S8x32x2x4x128 .f32 :=
  addf (Host.reduceAdd E (constant S_ .f32 0x00000000#32) reducesTo_S8x32x2x4x128x384_S8x32x2x4x128_d5 h_S_) (Host.exp (subf S M))

/-- The values weighted by the exponentials. -/
def NUMof (W : FVec Ideal S8x32x384x2x64 .f32) (E : FVec Ideal S8x32x2x4x128x384 .f32) : FVec Ideal S8x32x128x2x4x64 .f32 :=
  transpose S8x32x128x2x4x64 [0, 1, 5, 2, 4, 3] (Host.dotGeneral dot_S8x32x384x2x64_S8x32x2x4x128x384_S8x32x2x64x4x128_2_5_4_34_013_012 none (W) E) transposes_S8x32x2x64x4x128_S8x32x128x2x4x64_0_1_5_2_4_3

/-- The result from the weighted values and the denominators. -/
def OUTof (N : FVec Ideal S8x32x128x2x4x64 .f32) (D : FVec Ideal S8x32x2x4x128 .f32) : FVec Ideal S32768x512 .bf16 :=
  truncf .bf16 (shapeCast _ (Host.divf N (broadcastInDim S8x32x128x2x4x64 ![0, 1, 2, 3, 4, 5] bcast_S8x32x128x2x4x1_S8x32x128x2x4x64_0_1_2_3_4_5 (broadcastInDim S8x32x128x2x4x1 ![0, 1, 2, 3, 4] bcast_S8x32x128x2x4_S8x32x128x2x4x1_0_1_2_3_4 (transpose S8x32x128x2x4 [0, 1, 4, 2, 3] D transposes_S8x32x2x4x128_S8x32x128x2x4_0_1_4_2_3)))) shapeCasts_S8x32x128x2x4x64_S32768x512) bitsLt_bf16_f32

/-- The scores of the projections and the bias. -/
def SC (a0 : FVec Ideal S32768x6016 .bf16) (a1 : FVec Ideal S8x128x384 .f32) : FVec Ideal S8x32x2x4x128x384 .f32 := SCof (DT (SPAN (KP a0)) (QH a0)) (BIAS a1)

/-- The maxima of the scores and the sinks. -/
def MX (X : FVec Ideal S8x32x2x4x128x384 .f32) (a2 : FVec Ideal S8 .f32) : FVec Ideal S8x32x2x4x128 .f32 := maximumf (MRof X) (SINK a2)

/-- The window attention's reference result as one term over the projections, the bias and the sinks. -/
def REF (a0 : FVec Ideal S32768x6016 .bf16) (a1 : FVec Ideal S8x128x384 .f32) (a2 : FVec Ideal S8 .f32) : FVec Ideal S32768x512 .bf16 :=
  OUTof (NUMof (SPAN (VP a0)) (EXof (SC a0 a1) (MX (SC a0 a1) a2))) (DENof (EXof (SC a0 a1) (MX (SC a0 a1) a2)) (MX (SC a0 a1) a2) (SINK a2))

/-- One softmax attention with a sink as the reference writes it, from scores `s`, values `v` and the sink `k`. -/
def attn (s v : Fin 384 → EReal) (k : EReal) : EReal :=
  Ideal.div (∑ j, v j * Ideal.exp (s j - max (Finset.univ.fold max (Ideal.ofBits FTy.f32 0xFF800000#32) s) k))
    ((∑ i, Ideal.exp (s i - max (Finset.univ.fold max (Ideal.ofBits FTy.f32 0xFF800000#32) s) k))
      + Ideal.exp (k - max (Finset.univ.fold max (Ideal.ofBits FTy.f32 0xFF800000#32) s) k))

/-- A query element. -/
theorem qh_at (a0 : FVec Ideal S32768x6016 .bf16) (b : Fin 8) (n : Fin 32) (q : Fin 128) (g : Fin 2) (h : Fin 4) (d : Fin 64) :
    QH a0 (ix6 b n q g h d) = a0 (ix2 ⟨b.val * 4096 + (n.val * 128 + q.val), by omega⟩ ⟨3072 + (g.val * 256 + (h.val * 64 + d.val)), by omega⟩) := by
  pointwise [QH]
  congr 2 <;> exact Fin.ext (by simp only []; omega)

/-- A padded key element. -/
theorem kp_at (a0 : FVec Ideal S32768x6016 .bf16) (b : Fin 8) (p : Fin 4352) (g : Fin 2) (d : Fin 64) :
    KP a0 (ix4 b p g d) = if h : 128 ≤ p.val ∧ p.val < 4224 then a0 (ix2 ⟨b.val * 4096 + (p.val - 128), by omega⟩ ⟨4096 + (g.val * 64 + d.val), by omega⟩) else 0 := by
  have z : FloatOps.sitofp FTy.f32 0#32 = (0 : Ideal .f32) := by show (((0#32 : BitVec 32).toInt : ℝ) : EReal) = 0; simp
  pointwise [KP]
  rw [z]
  by_cases h : 128 ≤ p.val ∧ p.val < 4224
  · rw [dif_pos h, dif_pos ⟨h.1, by omega⟩]
  · rw [dif_neg h, dif_neg (by omega)]

/-- A padded value element. -/
theorem vp_at (a0 : FVec Ideal S32768x6016 .bf16) (b : Fin 8) (p : Fin 4352) (g : Fin 2) (d : Fin 64) :
    VP a0 (ix4 b p g d) = if h : 128 ≤ p.val ∧ p.val < 4224 then a0 (ix2 ⟨b.val * 4096 + (p.val - 128), by omega⟩ ⟨4224 + (g.val * 64 + d.val), by omega⟩) else 0 := by
  have z : FloatOps.sitofp FTy.f32 0#32 = (0 : Ideal .f32) := by show (((0#32 : BitVec 32).toInt : ℝ) : EReal) = 0; simp
  pointwise [VP]
  rw [z]
  by_cases h : 128 ≤ p.val ∧ p.val < 4224
  · rw [dif_pos h, dif_pos ⟨h.1, by omega⟩]
  · rw [dif_neg h, dif_neg (by omega)]

/-- A span's element is the padded array's. -/
theorem span_at (P : FVec Ideal S8x4352x2x64 .f32) (b : Fin 8) (n : Fin 32) (j : Fin 384) (g : Fin 2) (d : Fin 64) :
    SPAN P (ix5 b n j g d) = P (ix4 b ⟨n.val * 128 + j.val, by omega⟩ g d) := by
  pointwise [SPAN]
  by_cases h1 : j.val < 128
  · rw [dif_pos h1]
  · rw [dif_neg h1]
    by_cases h2 : j.val - 128 < 128
    · rw [dif_pos h2]; congr 2; exact Fin.ext (by show (1 + n.val) * 128 + (j.val - 128) = n.val * 128 + j.val; omega)
    · rw [dif_neg h2]; congr 2; exact Fin.ext (by show (2 + n.val) * 128 + (j.val - 128 - 128) = n.val * 128 + j.val; omega)

/-- A product of a key and a query. -/
theorem dt_at (K : FVec Ideal S8x32x384x2x64 .f32) (Q : FVec Ideal S8x32x128x2x4x64 .f32) (b : Fin 8) (n : Fin 32) (g : Fin 2) (h : Fin 4) (q : Fin 128) (j : Fin 384) :
    DT K Q (ix6 b n g h q j) = ∑ d : Fin 64, K (ix5 b n j g d) * Q (ix6 b n q g h d) := by
  pointwise [DT]

/-- A bias element. -/
theorem bias_at (a1 : FVec Ideal S8x128x384 .f32) (b : Fin 8) (n : Fin 32) (g : Fin 2) (h : Fin 4) (q : Fin 128) (j : Fin 384) :
    BIAS a1 (ix6 b n g h q j) = a1 (ix3 ⟨g.val * 4 + h.val, by omega⟩ q j) := by
  pointwise [BIAS]

/-- A score. -/
theorem scof_at (D B : FVec Ideal S8x32x2x4x128x384 .f32) (b : Fin 8) (n : Fin 32) (g : Fin 2) (h : Fin 4) (q : Fin 128) (j : Fin 384) :
    SCof D B (ix6 b n g h q j) = if VALID (ix2 n j) = 1#1 then D (ix6 b n g h q j) + B (ix6 b n g h q j) else (Ideal.ofBits FTy.f32 0xFF800000#32) := by
  pointwise [SCof]
  rfl

/-- A sink element. -/
theorem sink_at (a2 : FVec Ideal S8 .f32) (b : Fin 8) (n : Fin 32) (g : Fin 2) (h : Fin 4) (q : Fin 128) :
    SINK a2 (ix5 b n g h q) = a2 (ix1 ⟨g.val * 4 + h.val, by omega⟩) := by
  pointwise [SINK]

/-- The score positions of one row are those that differ in the last coordinate only. -/
theorem row_iff (b : Fin 8) (n : Fin 32) (g : Fin 2) (h : Fin 4) (q : Fin 128) (i : S8x32x2x4x128x384.Idx) :
    reducesTo_S8x32x2x4x128x384_S8x32x2x4x128_d5.drop i = ix5 b n g h q ↔ ∃ j : Fin 384, (ix6 b n g h q j : S8x32x2x4x128x384.Idx) = i := by
  constructor
  · intro e
    have e0 := congrFun e ⟨0, by decide⟩
    have e1 := congrFun e ⟨1, by decide⟩
    have e2 := congrFun e ⟨2, by decide⟩
    have e3 := congrFun e ⟨3, by decide⟩
    have e4 := congrFun e ⟨4, by decide⟩
    refine ⟨i 5, ?_⟩
    funext a
    apply Fin.ext
    match a with
    | ⟨0, _⟩ => exact (congrArg Fin.val e0).symm
    | ⟨1, _⟩ => exact (congrArg Fin.val e1).symm
    | ⟨2, _⟩ => exact (congrArg Fin.val e2).symm
    | ⟨3, _⟩ => exact (congrArg Fin.val e3).symm
    | ⟨4, _⟩ => exact (congrArg Fin.val e4).symm
    | ⟨5, _⟩ => rfl
  · rintro ⟨j, rfl⟩
    funext a
    apply Fin.ext
    match a with
    | ⟨0, _⟩ => rfl
    | ⟨1, _⟩ => rfl
    | ⟨2, _⟩ => rfl
    | ⟨3, _⟩ => rfl
    | ⟨4, _⟩ => rfl

/-- A row maximum. -/
theorem mr_at (X : FVec Ideal S8x32x2x4x128x384 .f32) (b : Fin 8) (n : Fin 32) (g : Fin 2) (h : Fin 4) (q : Fin 128) :
    MRof X (ix5 b n g h q) = Finset.univ.fold max (Ideal.ofBits FTy.f32 0xFF800000#32) fun j => X (ix6 b n g h q j) := by
  pointwise [MRof]
  exact Finset.fold_filter_eq_fold_of_fiber max _ (fun j : Fin 384 => (ix6 b n g h q j : S8x32x2x4x128x384.Idx))
    (fun _ _ e => congrFun e 5) (row_iff b n g h q) _ _

/-- An exponential. -/
theorem ex_at (X : FVec Ideal S8x32x2x4x128x384 .f32) (M : FVec Ideal S8x32x2x4x128 .f32) (b : Fin 8) (n : Fin 32) (g : Fin 2) (h : Fin 4) (q : Fin 128) (j : Fin 384) :
    EXof X M (ix6 b n g h q j) = Ideal.exp (X (ix6 b n g h q j) - M (ix5 b n g h q)) := by
  pointwise [EXof]

/-- A denominator. -/
theorem den_at (E : FVec Ideal S8x32x2x4x128x384 .f32) (M S : FVec Ideal S8x32x2x4x128 .f32) (b : Fin 8) (n : Fin 32) (g : Fin 2) (h : Fin 4) (q : Fin 128) :
    DENof E M S (ix5 b n g h q) = (∑ j : Fin 384, E (ix6 b n g h q j)) + Ideal.exp (S (ix5 b n g h q) - M (ix5 b n g h q)) := by
  pointwise [DENof]
  refine congrArg (· + _) ?_
  refine Eq.trans (congrArg (0 + ·) (Finset.sum_filter_eq_sum_of_fiber _ (fun j : Fin 384 => (ix6 b n g h q j : S8x32x2x4x128x384.Idx))
    (fun _ _ e => congrFun e 5) (row_iff b n g h q) _)) (zero_add _)

/-- A weighted sum of values. -/
theorem num_at (W : FVec Ideal S8x32x384x2x64 .f32) (E : FVec Ideal S8x32x2x4x128x384 .f32) (b : Fin 8) (n : Fin 32) (q : Fin 128) (g : Fin 2) (h : Fin 4) (d : Fin 64) :
    NUMof W E (ix6 b n q g h d) = ∑ j : Fin 384, W (ix5 b n j g d) * E (ix6 b n g h q j) := by
  pointwise [NUMof]

/-- The result at one element, by batch, block, position, group, head and lane. -/
theorem out_at (N : FVec Ideal S8x32x128x2x4x64 .f32) (D : FVec Ideal S8x32x2x4x128 .f32) (r : Fin 32768) (e : Fin 512) :
    OUTof N D (ix2 r e)
      = Ideal.div (N (ix6 ⟨r.val / 4096, by omega⟩ ⟨r.val / 128 % 32, by omega⟩ ⟨r.val % 128, by omega⟩ ⟨e.val / 256, by omega⟩ ⟨e.val / 64 % 4, by omega⟩ ⟨e.val % 64, by omega⟩))
          (D (ix5 ⟨r.val / 4096, by omega⟩ ⟨r.val / 128 % 32, by omega⟩ ⟨e.val / 256, by omega⟩ ⟨e.val / 64 % 4, by omega⟩ ⟨r.val % 128, by omega⟩)) := by
  pointwise [OUTof]

/-- Which positions of each block's span lie in the sequence, in plain numbers. -/
theorem valid_at : ∀ (n : Fin 32) (j : Fin 384), VALID (ix2 n j) = if 128 ≤ n.val * 128 + j.val ∧ n.val * 128 + j.val < 4224 then 1#1 else 0#1 := by
  decide +kernel

/-- The reference's score at a position of the span, in plain numbers. -/
def score (a0 : FVec Ideal S32768x6016 .bf16) (a1 : FVec Ideal S8x128x384 .f32) (b : Fin 8) (n : Fin 32) (g : Fin 2) (h : Fin 4) (q : Fin 128) (j : Fin 384) : EReal :=
  if hv : 128 ≤ n.val * 128 + j.val ∧ n.val * 128 + j.val < 4224 then
    (∑ d : Fin 64, @HMul.hMul EReal EReal EReal _ (a0 (ix2 ⟨b.val * 4096 + (n.val * 128 + j.val - 128), by omega⟩ ⟨4096 + (g.val * 64 + d.val), by omega⟩))
        (a0 (ix2 ⟨b.val * 4096 + (n.val * 128 + q.val), by omega⟩ ⟨3072 + (g.val * 256 + (h.val * 64 + d.val)), by omega⟩)))
      + a1 (ix3 ⟨g.val * 4 + h.val, by omega⟩ q j)
  else ⊥

/-- The reference's value at a position of the span, in plain numbers. -/
def value (a0 : FVec Ideal S32768x6016 .bf16) (b : Fin 8) (n : Fin 32) (g : Fin 2) (d : Fin 64) (j : Fin 384) : EReal :=
  if hv : 128 ≤ n.val * 128 + j.val ∧ n.val * 128 + j.val < 4224 then
    a0 (ix2 ⟨b.val * 4096 + (n.val * 128 + j.val - 128), by omega⟩ ⟨4224 + (g.val * 64 + d.val), by omega⟩)
  else 0

/-- The score array at one element. -/
theorem sc_at (a0 : FVec Ideal S32768x6016 .bf16) (a1 : FVec Ideal S8x128x384 .f32) (b : Fin 8) (n : Fin 32) (g : Fin 2) (h : Fin 4) (q : Fin 128) (j : Fin 384) :
    SC a0 a1 (ix6 b n g h q j) = score a0 a1 b n g h q j := by
  unfold SC score
  rw [scof_at, valid_at]
  by_cases hv : 128 ≤ n.val * 128 + j.val ∧ n.val * 128 + j.val < 4224
  · rw [dif_pos hv, if_pos hv, if_pos rfl, dt_at, bias_at]
    refine congrArg (· + _) (Finset.sum_congr rfl fun d _ => ?_)
    rw [span_at, kp_at, qh_at]
    exact congrArg (· * _) (dif_pos hv)
  · rw [dif_neg hv, if_neg hv, if_neg (by decide)]
    exact Softmax.ofBits_bot

end Cert.WAttnRefIdeal.Whole

end
-- ==== Proof.WAttnAlg.lean ====
module

public import proofs.«01_k».proof.Proof.WAttnParts
public import proofs.«01_k».proof.Proof.WAttnRefValue

@[expose] public section

set_option maxRecDepth 16384

noncomputable section

namespace Cert.WAttnIdeal.RefValue
open Idealize.ShloMosaic Idealize.ShloMosaic.TcCoe Idealize.SL.Sem
open Cert.WAttnIdeal Cert.WAttnIdeal.Gen
open Cert.WAttnRefIdeal.Whole (attn score value)

/-- One attention with a sink as the kernel writes it, the reciprocal of the denominator taken first. -/
def kattn (s v : Fin 384 → EReal) (k : EReal) : EReal :=
  (∑ j, Ideal.exp (s j - max (Finset.univ.fold max (Ideal.ofBits FTy.f32 0xFF800000#32) s) k) * v j)
    * Ideal.div 1 ((∑ i, Ideal.exp (s i - max (Finset.univ.fold max (Ideal.ofBits FTy.f32 0xFF800000#32) s) k))
      + Ideal.exp (k - max (Finset.univ.fold max (Ideal.ofBits FTy.f32 0xFF800000#32) s) k))

/-- An exponential is not negative. -/
theorem exp_nonneg (x : EReal) : 0 ≤ Ideal.exp x := by
  induction x using EReal.rec with
  | bot => exact le_of_eq rfl
  | top => exact le_top
  | coe r => exact EReal.coe_nonneg.2 (Real.exp_pos r).le

/-- Where no score is plus infinity and the sink is real, both ways of writing the attention agree, whatever the values where the score is minus infinity. -/
theorem kattn_eq (s v v' : Fin 384 → EReal) (k : EReal) (hs : ∀ j, s j ≠ ⊤) (hk : Softmax.IsReal k) (hv : ∀ j, s j = ⊥ ∨ v j = v' j) :
    kattn s v k = attn s v' k := by
  unfold kattn attn
  have hM : Softmax.IsReal (max (Finset.univ.fold max (Ideal.ofBits FTy.f32 0xFF800000#32) s) k) := by
    rw [Softmax.ofBits_bot]
    refine Softmax.isReal_of_ne ?_ ?_
    · exact ne_of_lt (max_lt (lt_top_iff_ne_top.2 (Softmax.fold_ne_top s hs)) (lt_top_iff_ne_top.2 hk.ne_top))
    · exact (lt_of_lt_of_le (bot_lt_iff_ne_bot.2 hk.ne_bot) (le_max_right _ _)).ne'
  generalize max (Finset.univ.fold max (Ideal.ofBits FTy.f32 0xFF800000#32) s) k = M at hM ⊢
  have hden : (∑ i, Ideal.exp (s i - M)) + Ideal.exp (k - M) ≠ 0 := by
    obtain ⟨μ, rfl⟩ := hM
    obtain ⟨κ, rfl⟩ := hk
    have h1 : 0 < Ideal.exp ((κ : EReal) - (μ : EReal)) := by
      rw [← EReal.coe_sub]
      exact EReal.coe_pos.2 (Real.exp_pos _)
    exact (lt_of_lt_of_le h1 (le_add_of_nonneg_left (Finset.sum_nonneg fun i _ => exp_nonneg _))).ne'
  have hd : ∀ x y : EReal, y ≠ 0 → x * Ideal.div 1 y = Ideal.div x y := fun x y hy => by
    unfold Ideal.div
    rw [if_neg hy, if_neg hy, one_mul]
  rw [hd _ _ hden]
  refine congrArg (fun x => Ideal.div x _) (Finset.sum_congr rfl fun j _ => ?_)
  rcases hv j with h | h
  · have e : Ideal.exp (s j - M) = 0 := by rw [h, EReal.bot_sub]; rfl
    rw [e, zero_mul, mul_zero]
  · rw [h, mul_comm]

variable (v : IVec S1x128 1) (inv : IVec S1x384 1) (q : FVec Ideal S128x128 .bf16) (K0 V0 K1 V1 : FVec Ideal S1x384x128 .bf16) (B0 B1 : FVec Ideal S1x128x384 .f32) (s0 s1 : Ideal .f32)

/-- One head of a pair, its accumulator times its reciprocal. -/
theorem head_at (K V : FVec Ideal S1x384x128 .bf16) (B : FVec Ideal S1x128x384 .f32) (s : Ideal .f32) (r l : Fin 128) :
    @HMul.hMul EReal EReal EReal _ ((k0_pay14 inv q K V B s : FVec Ideal S128x128 .f32) (ix2 r l)) ((k0_pay15 inv q K B s : FVec Ideal S128x1 .f32) (ix2 r 0))
      = kattn (fun j => (k0_pay11 inv q K B : FVec Ideal S128x384 .f32) (ix2 r j)) (fun j => V (ix3 0 j l)) s := by
  rw [acc_at, rec_at]
  have hm := max_at inv q K B s r
  have he : ∀ j, (k0_pay13 inv q K B s : FVec Ideal S128x384 .f32) (ix2 r j) = _ := fun j => exp_at inv q K B s r j
  generalize (k0_pay13 inv q K B s : FVec Ideal S128x384 .f32) = E at he ⊢
  generalize (k0_pay12 inv q K B s : FVec Ideal S128x1 .f32) = M at he hm ⊢
  generalize (k0_pay11 inv q K B : FVec Ideal S128x384 .f32) = X at he hm ⊢
  unfold kattn
  rw [← hm]
  simp only [he]

/-- A pair at a lane of its lower half: the first head. -/
theorem pair_lo (r l : Fin 128) (hv : v (ix2 0 l) = 1#1) (hz : ∀ j, V1 (ix3 0 j l) = (0 : EReal)) :
    PAIR v inv q K0 V0 B0 s0 K1 V1 B1 s1 (ix2 r l)
      = kattn (fun j => (k0_pay11 inv q K0 B0 : FVec Ideal S128x384 .f32) (ix2 r j)) (fun j => V0 (ix3 0 j l)) s0 := by
  unfold PAIR
  rw [fin_at, if_pos hv, ← head_at]
  refine congrArg (fun x => @HMul.hMul EReal EReal EReal _ x _) ?_
  have e : (k0_pay14 inv q K1 V1 B1 s1 : FVec Ideal S128x128 .f32) (ix2 r l) = (0 : EReal) := by
    rw [acc_at]
    exact Finset.sum_eq_zero fun j _ => by rw [hz j]; exact mul_zero _
  rw [e]
  exact add_zero _

/-- A pair at a lane of its upper half: the second head. -/
theorem pair_hi (r l : Fin 128) (hv : v (ix2 0 l) ≠ 1#1) (hz : ∀ j, V0 (ix3 0 j l) = (0 : EReal)) :
    PAIR v inv q K0 V0 B0 s0 K1 V1 B1 s1 (ix2 r l)
      = kattn (fun j => (k0_pay11 inv q K1 B1 : FVec Ideal S128x384 .f32) (ix2 r j)) (fun j => V1 (ix3 0 j l)) s1 := by
  unfold PAIR
  rw [fin_at, if_neg hv, ← head_at]
  refine congrArg (fun x => @HMul.hMul EReal EReal EReal _ x _) ?_
  have e : (k0_pay14 inv q K0 V0 B0 s0 : FVec Ideal S128x128 .f32) (ix2 r l) = (0 : EReal) := by
    rw [acc_at]
    exact Finset.sum_eq_zero fun j _ => by rw [hz j]; exact mul_zero _
  rw [e]
  exact zero_add _

/-- A sum over 128 lanes of which one half, of number `s`, counts. -/
theorem sum_half (s : Fin 2) (f : Fin 128 → EReal) (h : ∀ d, d.val / 64 ≠ s.val → f d = 0) :
    ∑ d, f d = ∑ d : Fin 64, f ⟨s.val * 64 + d.val, by omega⟩ := by
  rw [Fin.sum_univ_two_halves 64 64 rfl]
  match s, h with
  | ⟨0, _⟩, h =>
    rw [Finset.sum_eq_zero (s := Finset.univ) (f := fun k : Fin 64 => f ⟨64 + k.val, _⟩) fun k _ => h _ (by show (64 + k.val) / 64 ≠ 0; omega), add_zero]
    exact Finset.sum_congr rfl fun d _ => congrArg f (Fin.ext (by show d.val = 0 * 64 + d.val; omega))
  | ⟨1, _⟩, h =>
    rw [Finset.sum_eq_zero (s := Finset.univ) (f := fun k : Fin 64 => f ⟨k.val, _⟩) fun k _ => h _ (by show k.val / 64 ≠ 1; omega), zero_add]
    exact Finset.sum_congr rfl fun d _ => congrArg f (Fin.ext (by show 64 + d.val = 1 * 64 + d.val; omega))

variable (a0 : FVec Ideal S32768x6016 .bf16) (a1 : FVec Ideal S8x128x384 .f32) (a2 : FVec Ideal S8 .f32)

/-- Whether position `j` of block `n`'s span lies in the sequence. -/
abbrev ok (n : Fin 32) (j : Fin 384) : Prop := 128 ≤ n.val * 128 + j.val ∧ n.val * 128 + j.val < 4224

/-- A head's scores are the reference's. -/
theorem score_eq (b : Fin 8) (n : Fin 32) (c : Fin 4) (s : Fin 2) (K : FVec Ideal S1x384x128 .bf16) (B : FVec Ideal S1x128x384 .f32)
    (hq : ∀ r d : Fin 128, q (ix2 r d) = a0 (ix2 ⟨b.val * 4096 + (n.val * 128 + r.val), by omega⟩ ⟨3072 + (c.val * 128 + d.val), by omega⟩))
    (hi : ∀ j, inv (ix2 0 j) = 1#1 ↔ ¬ ok n j)
    (hK : ∀ (j : Fin 384) (d : Fin 128) (h : ok n j), K (ix3 0 j d) = if d.val / 64 = s.val then
        a0 (ix2 ⟨b.val * 4096 + (n.val * 128 + j.val - 128), by omega⟩ ⟨4096 + (c.val / 2 * 64 + d.val % 64), by omega⟩) else (0 : EReal))
    (hB : ∀ (r : Fin 128) (j : Fin 384), B (ix3 0 r j) = a1 (ix3 ⟨2 * c.val + s.val, by omega⟩ r j))
    (r : Fin 128) (j : Fin 384) :
    (k0_pay11 inv q K B : FVec Ideal S128x384 .f32) (ix2 r j)
      = score a0 a1 b n ⟨c.val / 2, by omega⟩ ⟨c.val % 2 * 2 + s.val, by omega⟩ r j := by
  rw [score_at]
  unfold score
  by_cases hj : ok n j
  · rw [if_neg (fun h => (hi j).1 h hj), dif_pos hj, hB]
    have e1 : (⟨2 * c.val + s.val, by omega⟩ : Fin 8) = ⟨c.val / 2 * 4 + (c.val % 2 * 2 + s.val), by omega⟩ := Fin.ext (by show 2 * c.val + s.val = c.val / 2 * 4 + (c.val % 2 * 2 + s.val); omega)
    refine congrArg₂ (@HAdd.hAdd EReal EReal EReal _) ?_ (congrArg (fun k => a1 (ix3 k r j)) e1)
    rw [sum_half s _ fun d hd => by rw [hK j d hj, if_neg hd]; exact mul_zero _]
    refine Finset.sum_congr rfl fun d _ => ?_
    rw [hK j _ hj, if_pos (by show (s.val * 64 + d.val) / 64 = s.val; omega), hq, mul_comm]
    refine congrArg₂ (@HMul.hMul EReal EReal EReal _) ?_ ?_
    · exact congrArg (fun k => a0 (ix2 _ k)) (Fin.ext (by show 4096 + (c.val / 2 * 64 + (s.val * 64 + d.val) % 64) = 4096 + (c.val / 2 * 64 + d.val); omega))
    · exact congrArg (fun k => a0 (ix2 _ k)) (Fin.ext (by show 3072 + (c.val * 128 + (s.val * 64 + d.val)) = 3072 + (c.val / 2 * 256 + ((c.val % 2 * 2 + s.val) * 64 + d.val)); omega))
  · rw [if_pos ((hi j).2 hj), dif_neg hj]

/-- The reference's scores are not plus infinity where queries, keys and biases are real. -/
theorem score_ne_top (hq : ∀ (r : Fin 32768) (e : Fin 512), Softmax.IsReal (a0 (ix2 r ⟨3072 + e.val, by omega⟩)))
    (hk : ∀ (r : Fin 32768) (e : Fin 128), Softmax.IsReal (a0 (ix2 r ⟨4096 + e.val, by omega⟩)))
    (hb : ∀ (h : Fin 8) (r : Fin 128) (j : Fin 384), a1 (ix3 h r j) ≠ (⊤ : EReal))
    (b : Fin 8) (n : Fin 32) (g : Fin 2) (h : Fin 4) (r : Fin 128) (j : Fin 384) : score a0 a1 b n g h r j ≠ ⊤ := by
  unfold score
  by_cases hj : ok n j
  · rw [dif_pos hj]
    refine EReal.add_ne_top (Softmax.IsReal.ne_top (Softmax.isReal_sum _ _ fun d => Softmax.IsReal.mul ?_ ?_)) (hb _ _ _)
    · exact hk _ ⟨g.val * 64 + d.val, by omega⟩
    · exact hq _ ⟨g.val * 256 + (h.val * 64 + d.val), by omega⟩
  · rw [dif_neg hj]
    exact bot_ne_top

/-- A score off the sequence is minus infinity. -/
theorem score_off (b : Fin 8) (n : Fin 32) (g : Fin 2) (h : Fin 4) (r : Fin 128) (j : Fin 384) (hj : ¬ ok n j) : score a0 a1 b n g h r j = ⊥ := by
  unfold score
  rw [dif_neg hj]

/-- A pair of heads is the reference's two heads, one in each half of the lanes. -/
theorem pair_eq (b : Fin 8) (n : Fin 32) (c : Fin 4)
    (Q0 : ∀ (r : Fin 32768) (e : Fin 512), Softmax.IsReal (a0 (ix2 r ⟨3072 + e.val, by omega⟩)))
    (Q1 : ∀ (r : Fin 32768) (e : Fin 128), Softmax.IsReal (a0 (ix2 r ⟨4096 + e.val, by omega⟩)))
    (Q2 : ∀ (h : Fin 8) (r : Fin 128) (j : Fin 384), a1 (ix3 h r j) ≠ (⊤ : EReal))
    (Q3 : ∀ h : Fin 8, Softmax.IsReal (a2 (ix1 h)))
    (hv : ∀ l : Fin 128, v (ix2 0 l) = if l.val < 64 then 1#1 else 0#1)
    (hq : ∀ r d : Fin 128, q (ix2 r d) = a0 (ix2 ⟨b.val * 4096 + (n.val * 128 + r.val), by omega⟩ ⟨3072 + (c.val * 128 + d.val), by omega⟩))
    (hi : ∀ j, inv (ix2 0 j) = 1#1 ↔ ¬ ok n j)
    (hK0 : ∀ (j : Fin 384) (d : Fin 128) (h : ok n j), K0 (ix3 0 j d) = if d.val / 64 = (0 : Fin 2).val then
        a0 (ix2 ⟨b.val * 4096 + (n.val * 128 + j.val - 128), by omega⟩ ⟨4096 + (c.val / 2 * 64 + d.val % 64), by omega⟩) else (0 : EReal))
    (hK1 : ∀ (j : Fin 384) (d : Fin 128) (h : ok n j), K1 (ix3 0 j d) = if d.val / 64 = (1 : Fin 2).val then
        a0 (ix2 ⟨b.val * 4096 + (n.val * 128 + j.val - 128), by omega⟩ ⟨4096 + (c.val / 2 * 64 + d.val % 64), by omega⟩) else (0 : EReal))
    (hV0 : ∀ (j : Fin 384) (d : Fin 128) (h : ok n j), d.val < 64 → V0 (ix3 0 j d) =
        a0 (ix2 ⟨b.val * 4096 + (n.val * 128 + j.val - 128), by omega⟩ ⟨4224 + (c.val / 2 * 64 + d.val % 64), by omega⟩))
    (hV1 : ∀ (j : Fin 384) (d : Fin 128) (h : ok n j), ¬ d.val < 64 → V1 (ix3 0 j d) =
        a0 (ix2 ⟨b.val * 4096 + (n.val * 128 + j.val - 128), by omega⟩ ⟨4224 + (c.val / 2 * 64 + d.val % 64), by omega⟩))
    (hZ0 : ∀ (j : Fin 384) (d : Fin 128), ¬ d.val < 64 → V0 (ix3 0 j d) = (0 : EReal))
    (hZ1 : ∀ (j : Fin 384) (d : Fin 128), d.val < 64 → V1 (ix3 0 j d) = (0 : EReal))
    (hB0 : ∀ (r : Fin 128) (j : Fin 384), B0 (ix3 0 r j) = a1 (ix3 ⟨2 * c.val + (0 : Fin 2).val, by omega⟩ r j))
    (hB1 : ∀ (r : Fin 128) (j : Fin 384), B1 (ix3 0 r j) = a1 (ix3 ⟨2 * c.val + (1 : Fin 2).val, by omega⟩ r j))
    (hs0 : s0 = a2 (ix1 ⟨2 * c.val + (0 : Fin 2).val, by omega⟩))
    (hs1 : s1 = a2 (ix1 ⟨2 * c.val + (1 : Fin 2).val, by omega⟩))
    (r l : Fin 128) :
    PAIR v inv q K0 V0 B0 s0 K1 V1 B1 s1 (ix2 r l)
      = attn (score a0 a1 b n ⟨c.val / 2, by omega⟩ ⟨c.val % 2 * 2 + l.val / 64, by omega⟩ r)
          (value a0 b n ⟨c.val / 2, by omega⟩ ⟨l.val % 64, by omega⟩)
          (a2 (ix1 ⟨2 * c.val + l.val / 64, by omega⟩)) := by
  have ht := score_ne_top a0 a1 Q0 Q1 Q2
  by_cases hl : l.val < 64
  · have e : l.val / 64 = (0 : Fin 2).val := by show l.val / 64 = 0; omega
    rw [pair_lo _ _ _ _ _ _ _ _ _ _ _ r l (by rw [hv, if_pos hl]) (fun j => hZ1 j l hl)]
    simp only [e]
    rw [show (fun j => (k0_pay11 inv q K0 B0 : FVec Ideal S128x384 .f32) (ix2 r j)) = _ from funext fun j => score_eq inv q a0 a1 b n c 0 K0 B0 hq hi hK0 hB0 r j, hs0]
    refine kattn_eq _ _ _ _ (fun j => ht _ _ _ _ _ _) (Q3 _) fun j => ?_
    by_cases hj : ok n j
    · refine Or.inr ((hV0 j l hj hl).trans ?_)
      unfold value
      rw [dif_pos hj]
    · exact Or.inl (score_off _ _ _ _ _ _ _ _ hj)
  · have e : l.val / 64 = (1 : Fin 2).val := by show l.val / 64 = 1; omega
    rw [pair_hi _ _ _ _ _ _ _ _ _ _ _ r l (by rw [hv, if_neg hl]; decide) (fun j => hZ0 j l hl)]
    simp only [e]
    rw [show (fun j => (k0_pay11 inv q K1 B1 : FVec Ideal S128x384 .f32) (ix2 r j)) = _ from funext fun j => score_eq inv q a0 a1 b n c 1 K1 B1 hq hi hK1 hB1 r j, hs1]
    refine kattn_eq _ _ _ _ (fun j => ht _ _ _ _ _ _) (Q3 _) fun j => ?_
    by_cases hj : ok n j
    · refine Or.inr ((hV1 j l hj hl).trans ?_)
      unfold value
      rw [dif_pos hj]
    · exact Or.inl (score_off _ _ _ _ _ _ _ _ hj)

end Cert.WAttnIdeal.RefValue

end
-- ==== Proof.WAttnTrip.lean ====
module

public import proofs.«01_k».proof.Proof.WAttnAlg

@[expose] public section

set_option maxRecDepth 16384

noncomputable section

namespace Cert.WAttnIdeal.RefValue
open Idealize.ShloMosaic Idealize.ShloMosaic.TcCoe Idealize.SL.Sem
open Cert.WAttnIdeal Cert.WAttnIdeal.Gen
open Cert.WAttnRefIdeal.Whole (attn score value)

/-- The attention at row `r` and lane `e` of block `i` of batch `b`, as the reference writes it. -/
def ATT (a0 : FVec Ideal S32768x6016 .bf16) (a1 : FVec Ideal S8x128x384 .f32) (a2 : FVec Ideal S8 .f32) (b i : Fin 8) (r e : Fin 512) : EReal :=
  attn (score a0 a1 b ⟨i.val * 4 + r.val / 128, by omega⟩ ⟨e.val / 256, by omega⟩ ⟨e.val / 64 % 4, by omega⟩ ⟨r.val % 128, by omega⟩)
    (value a0 b ⟨i.val * 4 + r.val / 128, by omega⟩ ⟨e.val / 256, by omega⟩ ⟨e.val % 64, by omega⟩)
    (a2 (ix1 ⟨e.val / 64, by omega⟩))

/-- The kernel's test of a position against the sequence, in plain numbers. -/
theorem off_all : ∀ (i : Fin 8) (k : Fin 4) (j : Fin 384),
    (IntOp.ori
        (IntOp.cmpi CmpIPredicate.slt
          (IntOp.addi
            (Scalar.subi (Scalar.addi (Scalar.muli (BitVec.ofNat 32 i.val) 512#32) (Scalar.muli (Scf.iv 0#32 1#32 k.val) 128#32)) 128#32)
            (BitVec.ofNat 32 j.val))
          0#32)
        (IntOp.cmpi CmpIPredicate.sge
          (IntOp.addi
            (Scalar.subi (Scalar.addi (Scalar.muli (BitVec.ofNat 32 i.val) 512#32) (Scalar.muli (Scf.iv 0#32 1#32 k.val) 128#32)) 128#32)
            (BitVec.ofNat 32 j.val))
          4096#32) = 1#1) ↔ ¬ (128 ≤ (i.val * 4 + k.val) * 128 + j.val ∧ (i.val * 4 + k.val) * 128 + j.val < 4224) := by
  decide +kernel

/-- The kernel's mask of the positions off the sequence. -/
theorem off_at (i : Fin 8) (k : Fin k0_t1_loop.trips) (k4 : Fin 4) (hk : k.val = k4.val) (j : Fin 384) :
    (k0_pay2 (Scalar.muli (BitVec.ofNat 32 i.val) 512#32) (iota Kind.tc S1x384 32 [1] iota_S1x384_d1_w32) 0#32 1#32 k : IVec S1x384 1) (ix2 0 j) = 1#1
      ↔ ¬ ok ⟨i.val * 4 + k4.val, by omega⟩ j := by
  pointwise [k0_pay2]
  rw [hk]
  exact off_all i k4 j

/-- The first row of a trip's window. -/
theorem word_at : ∀ k : Fin 4, BitVec.toNat (Scalar.indexCast (Scalar.muli (Scf.iv 0#32 1#32 k.val) 128#32)) = 128 * k.val := by
  decide +kernel

/-- A read of a rank-2 rectangle. -/
theorem rd2 {κ : Kind} {sp : Space} {n m p q A B : Nat} {e : EltTy} (v : View sig κ sp ⟨2, ![n, m]⟩ e) (X : v.ty.Contents (Elt Ideal))
    (inb : ∀ a, (![A, B] : Fin 2 → Nat) a + (![p, q] : Fin 2 → Nat) a ≤ (⟨2, ![n, m]⟩ : Shape).size a)
    (r : Fin p) (d : Fin q) (row : Fin n) (col : Fin m) (h0 : row.val = A + r.val) (h1 : col.val = B + d.val) :
    View.readAt (Elt Ideal) v (Rect.unit (s := ⟨2, ![n, m]⟩) ![A, B] ![p, q] inb).toLoadRect X (ix2 r d : (⟨2, ![p, q]⟩ : Shape).Idx) = v.read (Elt Ideal) X (ix2 row col) := by
  rw [View.readAt_eq_ld, View.ld_apply]
  refine congrArg _ (funext fun a => Fin.ext ?_)
  rw [Rect.idx_unit_val]
  match a with
  | ⟨0, _⟩ => exact h0.symm
  | ⟨1, _⟩ => exact h1.symm

/-- A read of a rank-3 rectangle. -/
theorem rd3 {κ : Kind} {sp : Space} {n m o p q w A B C : Nat} {e : EltTy} (v : View sig κ sp ⟨3, ![n, m, o]⟩ e) (X : v.ty.Contents (Elt Ideal))
    (inb : ∀ a, (![A, B, C] : Fin 3 → Nat) a + (![p, q, w] : Fin 3 → Nat) a ≤ (⟨3, ![n, m, o]⟩ : Shape).size a)
    (z : Fin p) (r : Fin q) (d : Fin w) (bk : Fin n) (row : Fin m) (col : Fin o) (h : bk.val = A + z.val) (h0 : row.val = B + r.val) (h1 : col.val = C + d.val) :
    View.readAt (Elt Ideal) v (Rect.unit (s := ⟨3, ![n, m, o]⟩) ![A, B, C] ![p, q, w] inb).toLoadRect X (ix3 z r d : (⟨3, ![p, q, w]⟩ : Shape).Idx) = v.read (Elt Ideal) X (ix3 bk row col) := by
  rw [View.readAt_eq_ld, View.ld_apply]
  refine congrArg _ (funext fun a => Fin.ext ?_)
  rw [Rect.idx_unit_val]
  match a with
  | ⟨0, _⟩ => exact h.symm
  | ⟨1, _⟩ => exact h0.symm
  | ⟨2, _⟩ => exact h1.symm

/-- A read of one element. -/
theorem rd1 {κ : Kind} {sp : Space} {n A : Nat} {e : EltTy} (v : View sig κ sp ⟨1, ![n]⟩ e) (X : v.ty.Contents (Elt Ideal))
    (inb : ∀ a, (![A] : Fin 1 → Nat) a + (![1] : Fin 1 → Nat) a ≤ (⟨1, ![n]⟩ : Shape).size a) (hp : 0 < (⟨1, ![1]⟩ : Shape).numel)
    (row : Fin n) (h0 : row.val = A) :
    View.readAt (Elt Ideal) v (Rect.unit (s := ⟨1, ![n]⟩) ![A] ![1] inb).toLoadRect X (Shape.Idx.first hp) = v.read (Elt Ideal) X (ix1 row) := by
  rw [View.readAt_eq_ld, View.ld_apply]
  refine congrArg _ (funext fun a => Fin.ext ?_)
  rw [Rect.idx_unit_val]
  match a with
  | ⟨0, _⟩ => exact h0.symm

/-- The block of results a trip writes for the pair of heads `cc`, from the four reads' elements. -/
theorem block_at (c : Dev nD) (i : grid0.Coords) (arg2 : Memref sig .tc .smem S8 .f32) (harg2 : arg2.IsWhole) (arg3 : Memref sig .tc .vmem S512x512 .bf16) (harg3 : arg3.IsWhole) (arg4 : Memref sig .tc .vmem S512x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S512x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128x384 .f32) (harg10 : arg10.IsWhole) (arg11 : Memref sig .tc .vmem S512x512 .bf16) (harg11 : arg11.IsWhole) (arg12 : Memref sig .tc .vmem S8x768x128 .bf16) (harg12 : arg12.IsWhole) (X_arg2 : BufTy.Contents (Elt Ideal) arg2.view.ty) (X_arg3 : BufTy.Contents (Elt Ideal) arg3.view.ty) (X_arg10 : BufTy.Contents (Elt Ideal) arg10.view.ty) (X_arg12 : BufTy.Contents (Elt Ideal) arg12.view.ty)
    (a0 : FVec Ideal S32768x6016 .bf16) (a1 : FVec Ideal S8x128x384 .f32) (a2 : FVec Ideal S8 .f32) (b i8 : Fin 8)
    (Q0 : ∀ (r : Fin 32768) (e : Fin 512), Softmax.IsReal (a0 (ix2 r ⟨3072 + e.val, by omega⟩)))
    (Q1 : ∀ (r : Fin 32768) (e : Fin 128), Softmax.IsReal (a0 (ix2 r ⟨4096 + e.val, by omega⟩)))
    (Q2 : ∀ (h : Fin 8) (r : Fin 128) (j : Fin 384), a1 (ix3 h r j) ≠ (⊤ : EReal))
    (Q3 : ∀ h : Fin 8, Softmax.IsReal (a2 (ix1 h)))
    (H2 : ∀ h : Fin 8, arg2.view.read (Elt Ideal) X_arg2 (ix1 h) = a2 (ix1 h))
    (H3 : ∀ r e : Fin 512, arg3.view.read (Elt Ideal) X_arg3 (ix2 r e) = a0 (ix2 ⟨b.val * 4096 + (i8.val * 512 + r.val), by omega⟩ ⟨3072 + e.val, by omega⟩))
    (H10 : ∀ (h : Fin 8) (r : Fin 128) (j : Fin 384), arg10.view.read (Elt Ideal) X_arg10 (ix3 h r j) = a1 (ix3 h r j))
    (HK : ∀ (g : Fin 2) (s : Fin 2) (r : Fin 768) (l : Fin 128) (h : 128 ≤ i8.val * 512 + r.val ∧ i8.val * 512 + r.val < 4224),
      arg12.view.read (Elt Ideal) X_arg12 (ix3 ⟨2 * g.val + s.val, by omega⟩ r l) = if l.val / 64 = s.val then
        a0 (ix2 ⟨b.val * 4096 + (i8.val * 512 + r.val - 128), by omega⟩ ⟨4096 + (g.val * 64 + l.val % 64), by omega⟩) else (0 : EReal))
    (HV : ∀ (g : Fin 2) (s : Fin 2) (r : Fin 768) (l : Fin 128) (h : 128 ≤ i8.val * 512 + r.val ∧ i8.val * 512 + r.val < 4224), l.val / 64 = s.val →
      arg12.view.read (Elt Ideal) X_arg12 (ix3 ⟨4 + (2 * g.val + s.val), by omega⟩ r l) =
        a0 (ix2 ⟨b.val * 4096 + (i8.val * 512 + r.val - 128), by omega⟩ ⟨4224 + (g.val * 64 + l.val % 64), by omega⟩))
    (HZ : ∀ (g : Fin 2) (s : Fin 2) (r : Fin 768) (l : Fin 128), l.val / 64 ≠ s.val →
      arg12.view.read (Elt Ideal) X_arg12 (ix3 ⟨4 + (2 * g.val + s.val), by omega⟩ r l) = (0 : EReal))
    (k : Fin k0_t1_loop.trips) (k4 : Fin 4) (hk : k.val = k4.val) (W : Nat) (hW : W = 128 * k4.val) (cc : Fin 4) (C H0 H1 K0 K1 V0 V1 : Nat)
    (hC : C = cc.val * 128) (hH0 : H0 = 2 * cc.val) (hH1 : H1 = 2 * cc.val + 1) (hK0 : K0 = 2 * (cc.val / 2)) (hK1 : K1 = 2 * (cc.val / 2) + 1)
    (hV0 : V0 = 4 + 2 * (cc.val / 2)) (hV1 : V1 = 4 + (2 * (cc.val / 2) + 1)) (i3 i10 i11 i12 i13 i14 i15 i20 i21) (hp : 0 < (⟨1, ![1]⟩ : Shape).numel)
    (x : S128x128.Idx) :
    PAIR k0_pay37 (k0_pay2 (Scalar.muli (BitVec.ofNat 32 i8.val) 512#32) (iota Kind.tc S1x384 32 [1] iota_S1x384_d1_w32) 0#32 1#32 k)
      (View.readAt (Elt Ideal) arg3.view (Rect.unit (s := S512x512) ![W, C] ![128, 128] i3).toLoadRect X_arg3)
      (View.readAt (Elt Ideal) arg12.view (Rect.unit (s := S8x768x128) ![K0, W, 0] ![1, 384, 128] i12).toLoadRect X_arg12)
      (View.readAt (Elt Ideal) arg12.view (Rect.unit (s := S8x768x128) ![V0, W, 0] ![1, 384, 128] i13).toLoadRect X_arg12)
      (View.readAt (Elt Ideal) arg10.view (Rect.unit (s := S8x128x384) ![H0, 0, 0] ![1, 128, 384] i10).toLoadRect X_arg10)
      (View.readAt (Elt Ideal) arg2.view (Rect.unit (s := S8) ![H0] ![1] i20).toLoadRect X_arg2 (Shape.Idx.first hp))
      (View.readAt (Elt Ideal) arg12.view (Rect.unit (s := S8x768x128) ![K1, W, 0] ![1, 384, 128] i14).toLoadRect X_arg12)
      (View.readAt (Elt Ideal) arg12.view (Rect.unit (s := S8x768x128) ![V1, W, 0] ![1, 384, 128] i15).toLoadRect X_arg12)
      (View.readAt (Elt Ideal) arg10.view (Rect.unit (s := S8x128x384) ![H1, 0, 0] ![1, 128, 384] i11).toLoadRect X_arg10)
      (View.readAt (Elt Ideal) arg2.view (Rect.unit (s := S8) ![H1] ![1] i21).toLoadRect X_arg2 (Shape.Idx.first hp)) x
      = ATT a0 a1 a2 b i8 ((Rect.unit (s := S512x512) ![W, C] ![128, 128] i3).emb x 0) ((Rect.unit (s := S512x512) ![W, C] ![128, 128] i3).emb x 1) := by
  obtain ⟨r, l, rfl⟩ : ∃ r l : Fin 128, x = ix2 r l := ⟨x 0, x 1, eq_ix2 x⟩
  have e0 : (Rect.unit (s := S512x512) ![W, C] ![128, 128] i3).emb (ix2 r l : S128x128.Idx) 0 = (⟨k4.val * 128 + r.val, by omega⟩ : Fin 512) :=
    Fin.ext ((ValueKit.rect_emb_unit_val _ _ _ _ _).trans (by show W + r.val = k4.val * 128 + r.val; omega))
  have e1 : (Rect.unit (s := S512x512) ![W, C] ![128, 128] i3).emb (ix2 r l : S128x128.Idx) 1 = (⟨cc.val * 128 + l.val, by omega⟩ : Fin 512) :=
    Fin.ext ((ValueKit.rect_emb_unit_val _ _ _ _ _).trans (by show C + l.val = cc.val * 128 + l.val; omega))
  rw [e0, e1]
  refine (pair_eq _ _ _ _ _ _ _ _ _ _ _ a0 a1 a2 b ⟨i8.val * 4 + k4.val, by omega⟩ cc Q0 Q1 Q2 Q3 lane_at ?_ (off_at i8 k k4 hk) ?_ ?_ ?_ ?_ ?_ ?_ ?_ ?_ ?_ ?_ r l).trans ?_
  · intro r d
    refine (rd2 arg3.view X_arg3 i3 r d ⟨k4.val * 128 + r.val, by omega⟩ ⟨cc.val * 128 + d.val, by omega⟩ (by show k4.val * 128 + r.val = W + r.val; omega) (by show cc.val * 128 + d.val = C + d.val; omega)).trans ((H3 _ _).trans ?_)
    exact congrArg (fun k => a0 (ix2 k _)) (Fin.ext (by show b.val * 4096 + (i8.val * 512 + (k4.val * 128 + r.val)) = b.val * 4096 + ((i8.val * 4 + k4.val) * 128 + r.val); omega))
  · intro j d h
    have h' : 128 ≤ (i8.val * 4 + k4.val) * 128 + j.val ∧ (i8.val * 4 + k4.val) * 128 + j.val < 4224 := h
    refine (rd3 arg12.view X_arg12 i12 0 j d ⟨2 * (cc.val / 2) + (0 : Fin 2).val, by omega⟩ ⟨k4.val * 128 + j.val, by omega⟩ d (by show 2 * (cc.val / 2) + 0 = K0 + 0; omega) (by show k4.val * 128 + j.val = W + j.val; omega) (Nat.zero_add _).symm).trans
      ((HK ⟨cc.val / 2, by omega⟩ 0 _ d (by show 128 ≤ i8.val * 512 + (k4.val * 128 + j.val) ∧ i8.val * 512 + (k4.val * 128 + j.val) < 4224; omega)).trans ?_)
    refine congrArg (fun x => ite _ x _) (congrArg (fun k => a0 (ix2 k _)) (Fin.ext ?_))
    show b.val * 4096 + (i8.val * 512 + (k4.val * 128 + j.val) - 128) = b.val * 4096 + ((i8.val * 4 + k4.val) * 128 + j.val - 128)
    omega
  · intro j d h
    have h' : 128 ≤ (i8.val * 4 + k4.val) * 128 + j.val ∧ (i8.val * 4 + k4.val) * 128 + j.val < 4224 := h
    refine (rd3 arg12.view X_arg12 i14 0 j d ⟨2 * (cc.val / 2) + (1 : Fin 2).val, by omega⟩ ⟨k4.val * 128 + j.val, by omega⟩ d (by show 2 * (cc.val / 2) + 1 = K1 + 0; omega) (by show k4.val * 128 + j.val = W + j.val; omega) (Nat.zero_add _).symm).trans
      ((HK ⟨cc.val / 2, by omega⟩ 1 _ d (by show 128 ≤ i8.val * 512 + (k4.val * 128 + j.val) ∧ i8.val * 512 + (k4.val * 128 + j.val) < 4224; omega)).trans ?_)
    refine congrArg (fun x => ite _ x _) (congrArg (fun k => a0 (ix2 k _)) (Fin.ext ?_))
    show b.val * 4096 + (i8.val * 512 + (k4.val * 128 + j.val) - 128) = b.val * 4096 + ((i8.val * 4 + k4.val) * 128 + j.val - 128)
    omega
  · intro j d h hd
    have h' : 128 ≤ (i8.val * 4 + k4.val) * 128 + j.val ∧ (i8.val * 4 + k4.val) * 128 + j.val < 4224 := h
    refine (rd3 arg12.view X_arg12 i13 0 j d ⟨4 + (2 * (cc.val / 2) + (0 : Fin 2).val), by omega⟩ ⟨k4.val * 128 + j.val, by omega⟩ d (by show 4 + (2 * (cc.val / 2) + 0) = V0 + 0; omega) (by show k4.val * 128 + j.val = W + j.val; omega) (Nat.zero_add _).symm).trans
      ((HV ⟨cc.val / 2, by omega⟩ 0 _ d (by show 128 ≤ i8.val * 512 + (k4.val * 128 + j.val) ∧ i8.val * 512 + (k4.val * 128 + j.val) < 4224; omega) (by show d.val / 64 = 0; omega)).trans ?_)
    refine congrArg (fun k => a0 (ix2 k _)) (Fin.ext ?_)
    show b.val * 4096 + (i8.val * 512 + (k4.val * 128 + j.val) - 128) = b.val * 4096 + ((i8.val * 4 + k4.val) * 128 + j.val - 128)
    omega
  · intro j d h hd
    have h' : 128 ≤ (i8.val * 4 + k4.val) * 128 + j.val ∧ (i8.val * 4 + k4.val) * 128 + j.val < 4224 := h
    refine (rd3 arg12.view X_arg12 i15 0 j d ⟨4 + (2 * (cc.val / 2) + (1 : Fin 2).val), by omega⟩ ⟨k4.val * 128 + j.val, by omega⟩ d (by show 4 + (2 * (cc.val / 2) + 1) = V1 + 0; omega) (by show k4.val * 128 + j.val = W + j.val; omega) (Nat.zero_add _).symm).trans
      ((HV ⟨cc.val / 2, by omega⟩ 1 _ d (by show 128 ≤ i8.val * 512 + (k4.val * 128 + j.val) ∧ i8.val * 512 + (k4.val * 128 + j.val) < 4224; omega) (by show d.val / 64 = 1; omega)).trans ?_)
    refine congrArg (fun k => a0 (ix2 k _)) (Fin.ext ?_)
    show b.val * 4096 + (i8.val * 512 + (k4.val * 128 + j.val) - 128) = b.val * 4096 + ((i8.val * 4 + k4.val) * 128 + j.val - 128)
    omega
  · intro j d hd
    exact (rd3 arg12.view X_arg12 i13 0 j d ⟨4 + (2 * (cc.val / 2) + (0 : Fin 2).val), by omega⟩ ⟨k4.val * 128 + j.val, by omega⟩ d (by show 4 + (2 * (cc.val / 2) + 0) = V0 + 0; omega) (by show k4.val * 128 + j.val = W + j.val; omega) (Nat.zero_add _).symm).trans
      (HZ ⟨cc.val / 2, by omega⟩ 0 _ d (by show d.val / 64 ≠ 0; omega))
  · intro j d hd
    exact (rd3 arg12.view X_arg12 i15 0 j d ⟨4 + (2 * (cc.val / 2) + (1 : Fin 2).val), by omega⟩ ⟨k4.val * 128 + j.val, by omega⟩ d (by show 4 + (2 * (cc.val / 2) + 1) = V1 + 0; omega) (by show k4.val * 128 + j.val = W + j.val; omega) (Nat.zero_add _).symm).trans
      (HZ ⟨cc.val / 2, by omega⟩ 1 _ d (by show d.val / 64 ≠ 1; omega))
  · intro r j
    exact (rd3 arg10.view X_arg10 i10 0 r j ⟨2 * cc.val + (0 : Fin 2).val, by omega⟩ r j (by show 2 * cc.val + 0 = H0 + 0; omega) (Nat.zero_add _).symm (Nat.zero_add _).symm).trans (H10 _ _ _)
  · intro r j
    exact (rd3 arg10.view X_arg10 i11 0 r j ⟨2 * cc.val + (1 : Fin 2).val, by omega⟩ r j (by show 2 * cc.val + 1 = H1 + 0; omega) (Nat.zero_add _).symm (Nat.zero_add _).symm).trans (H10 _ _ _)
  · exact (rd1 arg2.view X_arg2 i20 hp ⟨2 * cc.val + (0 : Fin 2).val, by omega⟩ (by show 2 * cc.val + 0 = H0; omega)).trans (H2 _)
  · exact (rd1 arg2.view X_arg2 i21 hp ⟨2 * cc.val + (1 : Fin 2).val, by omega⟩ (by show 2 * cc.val + 1 = H1; omega)).trans (H2 _)
  · unfold ATT
    have d0 : (⟨i8.val * 4 + (k4.val * 128 + r.val) / 128, by omega⟩ : Fin 32) = ⟨i8.val * 4 + k4.val, by omega⟩ := Fin.ext (by show i8.val * 4 + (k4.val * 128 + r.val) / 128 = i8.val * 4 + k4.val; omega)
    have d1 : (⟨(k4.val * 128 + r.val) % 128, by omega⟩ : Fin 128) = r := Fin.ext (by show (k4.val * 128 + r.val) % 128 = r.val; omega)
    have d2 : (⟨(cc.val * 128 + l.val) / 256, by omega⟩ : Fin 2) = ⟨cc.val / 2, by omega⟩ := Fin.ext (by show (cc.val * 128 + l.val) / 256 = cc.val / 2; omega)
    have d3 : (⟨(cc.val * 128 + l.val) / 64 % 4, by omega⟩ : Fin 4) = ⟨cc.val % 2 * 2 + l.val / 64, by omega⟩ := Fin.ext (by show (cc.val * 128 + l.val) / 64 % 4 = cc.val % 2 * 2 + l.val / 64; omega)
    have d4 : (⟨(cc.val * 128 + l.val) % 64, by omega⟩ : Fin 64) = ⟨l.val % 64, by omega⟩ := Fin.ext (by show (cc.val * 128 + l.val) % 64 = l.val % 64; omega)
    have d5 : (⟨(cc.val * 128 + l.val) / 64, by omega⟩ : Fin 8) = ⟨2 * cc.val + l.val / 64, by omega⟩ := Fin.ext (by show (cc.val * 128 + l.val) / 64 = 2 * cc.val + l.val / 64; omega)
    show _ = attn (score a0 a1 b ⟨i8.val * 4 + (k4.val * 128 + r.val) / 128, _⟩ ⟨(cc.val * 128 + l.val) / 256, _⟩ ⟨(cc.val * 128 + l.val) / 64 % 4, _⟩ ⟨(k4.val * 128 + r.val) % 128, _⟩)
      (value a0 b ⟨i8.val * 4 + (k4.val * 128 + r.val) / 128, _⟩ ⟨(cc.val * 128 + l.val) / 256, _⟩ ⟨(cc.val * 128 + l.val) % 64, _⟩) (a2 (ix1 ⟨(cc.val * 128 + l.val) / 64, _⟩))
    rw [d0, d1, d2, d3, d4, d5]

/-- What a trip writes is the reference's attention. -/
theorem trip_at (c : Dev nD) (i : grid0.Coords) (arg2 : Memref sig .tc .smem S8 .f32) (harg2 : arg2.IsWhole) (arg3 : Memref sig .tc .vmem S512x512 .bf16) (harg3 : arg3.IsWhole) (arg4 : Memref sig .tc .vmem S512x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S512x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128x384 .f32) (harg10 : arg10.IsWhole) (arg11 : Memref sig .tc .vmem S512x512 .bf16) (harg11 : arg11.IsWhole) (arg12 : Memref sig .tc .vmem S8x768x128 .bf16) (harg12 : arg12.IsWhole) (X_arg2 : BufTy.Contents (Elt Ideal) arg2.view.ty) (X_arg3 : BufTy.Contents (Elt Ideal) arg3.view.ty) (X_arg10 : BufTy.Contents (Elt Ideal) arg10.view.ty) (X_arg12 : BufTy.Contents (Elt Ideal) arg12.view.ty)
    (a0 : FVec Ideal S32768x6016 .bf16) (a1 : FVec Ideal S8x128x384 .f32) (a2 : FVec Ideal S8 .f32) (b i8 : Fin 8)
    (Q0 : ∀ (r : Fin 32768) (e : Fin 512), Softmax.IsReal (a0 (ix2 r ⟨3072 + e.val, by omega⟩)))
    (Q1 : ∀ (r : Fin 32768) (e : Fin 128), Softmax.IsReal (a0 (ix2 r ⟨4096 + e.val, by omega⟩)))
    (Q2 : ∀ (h : Fin 8) (r : Fin 128) (j : Fin 384), a1 (ix3 h r j) ≠ (⊤ : EReal))
    (Q3 : ∀ h : Fin 8, Softmax.IsReal (a2 (ix1 h)))
    (H2 : ∀ h : Fin 8, arg2.view.read (Elt Ideal) X_arg2 (ix1 h) = a2 (ix1 h))
    (H3 : ∀ r e : Fin 512, arg3.view.read (Elt Ideal) X_arg3 (ix2 r e) = a0 (ix2 ⟨b.val * 4096 + (i8.val * 512 + r.val), by omega⟩ ⟨3072 + e.val, by omega⟩))
    (H10 : ∀ (h : Fin 8) (r : Fin 128) (j : Fin 384), arg10.view.read (Elt Ideal) X_arg10 (ix3 h r j) = a1 (ix3 h r j))
    (HK : ∀ (g : Fin 2) (s : Fin 2) (r : Fin 768) (l : Fin 128) (h : 128 ≤ i8.val * 512 + r.val ∧ i8.val * 512 + r.val < 4224),
      arg12.view.read (Elt Ideal) X_arg12 (ix3 ⟨2 * g.val + s.val, by omega⟩ r l) = if l.val / 64 = s.val then
        a0 (ix2 ⟨b.val * 4096 + (i8.val * 512 + r.val - 128), by omega⟩ ⟨4096 + (g.val * 64 + l.val % 64), by omega⟩) else (0 : EReal))
    (HV : ∀ (g : Fin 2) (s : Fin 2) (r : Fin 768) (l : Fin 128) (h : 128 ≤ i8.val * 512 + r.val ∧ i8.val * 512 + r.val < 4224), l.val / 64 = s.val →
      arg12.view.read (Elt Ideal) X_arg12 (ix3 ⟨4 + (2 * g.val + s.val), by omega⟩ r l) =
        a0 (ix2 ⟨b.val * 4096 + (i8.val * 512 + r.val - 128), by omega⟩ ⟨4224 + (g.val * 64 + l.val % 64), by omega⟩))
    (HZ : ∀ (g : Fin 2) (s : Fin 2) (r : Fin 768) (l : Fin 128), l.val / 64 ≠ s.val →
      arg12.view.read (Elt Ideal) X_arg12 (ix3 ⟨4 + (2 * g.val + s.val), by omega⟩ r l) = (0 : EReal))
    (k : Fin k0_t1_loop.trips) :
    ∀ p ∈ tripL_k0_t1 (F := Ideal) Variants.none c none i arg2 harg2 arg3 harg3 arg4 harg4 arg5 harg5 arg6 harg6 arg7 harg7 arg8 harg8 arg9 harg9 arg10 harg10 arg11 harg11 arg12 harg12 (Scalar.muli (BitVec.ofNat 32 i8.val) 512#32) k0_pay37 (iota Kind.tc S1x384 32 [1] iota_S1x384_d1_w32) 0#32 X_arg2 X_arg3 X_arg10 X_arg12 k,
      ∀ x, p.2 x = ATT a0 a1 a2 b i8 (p.1.emb x 0) (p.1.emb x 1) := by
  have hk : k.val < 4 := Nat.lt_of_lt_of_le k.isLt k0_t1_abs.2.1
  have hw := word_at ⟨k.val, hk⟩
  have B := block_at c i arg2 harg2 arg3 harg3 arg4 harg4 arg5 harg5 arg6 harg6 arg7 harg7 arg8 harg8 arg9 harg9 arg10 harg10 arg11 harg11 arg12 harg12 X_arg2 X_arg3 X_arg10 X_arg12 a0 a1 a2 b i8 Q0 Q1 Q2 Q3 H2 H3 H10 HK HV HZ k ⟨k.val, hk⟩ rfl _ hw
  unfold tripL_k0_t1 trip_k0_t1
  sl_unfold_words
  intro p hp x
  simp only [List.mem_cons, List.not_mem_nil, or_false] at hp
  rcases hp with rfl | rfl | rfl | rfl
  · exact (congrFun (pair3 _ _ _ _ _ _ _ _ _ _ _) x).trans (B 3 384 6 7 2 3 6 7 rfl rfl rfl rfl rfl rfl rfl _ _ _ _ _ _ _ _ _ _ x)
  · exact (congrFun (pair2 _ _ _ _ _ _ _ _ _ _ _) x).trans (B 2 256 4 5 2 3 6 7 rfl rfl rfl rfl rfl rfl rfl _ _ _ _ _ _ _ _ _ _ x)
  · exact (congrFun (pair1 _ _ _ _ _ _ _ _ _ _ _) x).trans (B 1 128 2 3 0 1 4 5 rfl rfl rfl rfl rfl rfl rfl _ _ _ _ _ _ _ _ _ _ x)
  · exact (congrFun (pair0 _ _ _ _ _ _ _ _ _ _ _ _ _ _ _) x).trans (B 0 0 0 1 0 1 4 5 rfl rfl rfl rfl rfl rfl rfl _ _ _ _ _ _ _ _ _ _ x)

/-- What the trips before `n` write is the reference's attention. -/
theorem trips_at (c : Dev nD) (i : grid0.Coords) (arg2 : Memref sig .tc .smem S8 .f32) (harg2 : arg2.IsWhole) (arg3 : Memref sig .tc .vmem S512x512 .bf16) (harg3 : arg3.IsWhole) (arg4 : Memref sig .tc .vmem S512x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S512x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128x384 .f32) (harg10 : arg10.IsWhole) (arg11 : Memref sig .tc .vmem S512x512 .bf16) (harg11 : arg11.IsWhole) (arg12 : Memref sig .tc .vmem S8x768x128 .bf16) (harg12 : arg12.IsWhole) (X_arg2 : BufTy.Contents (Elt Ideal) arg2.view.ty) (X_arg3 : BufTy.Contents (Elt Ideal) arg3.view.ty) (X_arg10 : BufTy.Contents (Elt Ideal) arg10.view.ty) (X_arg12 : BufTy.Contents (Elt Ideal) arg12.view.ty)
    (a0 : FVec Ideal S32768x6016 .bf16) (a1 : FVec Ideal S8x128x384 .f32) (a2 : FVec Ideal S8 .f32) (b i8 : Fin 8)
    (Q0 : ∀ (r : Fin 32768) (e : Fin 512), Softmax.IsReal (a0 (ix2 r ⟨3072 + e.val, by omega⟩)))
    (Q1 : ∀ (r : Fin 32768) (e : Fin 128), Softmax.IsReal (a0 (ix2 r ⟨4096 + e.val, by omega⟩)))
    (Q2 : ∀ (h : Fin 8) (r : Fin 128) (j : Fin 384), a1 (ix3 h r j) ≠ (⊤ : EReal))
    (Q3 : ∀ h : Fin 8, Softmax.IsReal (a2 (ix1 h)))
    (H2 : ∀ h : Fin 8, arg2.view.read (Elt Ideal) X_arg2 (ix1 h) = a2 (ix1 h))
    (H3 : ∀ r e : Fin 512, arg3.view.read (Elt Ideal) X_arg3 (ix2 r e) = a0 (ix2 ⟨b.val * 4096 + (i8.val * 512 + r.val), by omega⟩ ⟨3072 + e.val, by omega⟩))
    (H10 : ∀ (h : Fin 8) (r : Fin 128) (j : Fin 384), arg10.view.read (Elt Ideal) X_arg10 (ix3 h r j) = a1 (ix3 h r j))
    (HK : ∀ (g : Fin 2) (s : Fin 2) (r : Fin 768) (l : Fin 128) (h : 128 ≤ i8.val * 512 + r.val ∧ i8.val * 512 + r.val < 4224),
      arg12.view.read (Elt Ideal) X_arg12 (ix3 ⟨2 * g.val + s.val, by omega⟩ r l) = if l.val / 64 = s.val then
        a0 (ix2 ⟨b.val * 4096 + (i8.val * 512 + r.val - 128), by omega⟩ ⟨4096 + (g.val * 64 + l.val % 64), by omega⟩) else (0 : EReal))
    (HV : ∀ (g : Fin 2) (s : Fin 2) (r : Fin 768) (l : Fin 128) (h : 128 ≤ i8.val * 512 + r.val ∧ i8.val * 512 + r.val < 4224), l.val / 64 = s.val →
      arg12.view.read (Elt Ideal) X_arg12 (ix3 ⟨4 + (2 * g.val + s.val), by omega⟩ r l) =
        a0 (ix2 ⟨b.val * 4096 + (i8.val * 512 + r.val - 128), by omega⟩ ⟨4224 + (g.val * 64 + l.val % 64), by omega⟩))
    (HZ : ∀ (g : Fin 2) (s : Fin 2) (r : Fin 768) (l : Fin 128), l.val / 64 ≠ s.val →
      arg12.view.read (Elt Ideal) X_arg12 (ix3 ⟨4 + (2 * g.val + s.val), by omega⟩ r l) = (0 : EReal)) :
    ∀ n : ℕ, n ≤ k0_t1_loop.trips → ∀ p ∈ pb_k0_t1 (F := Ideal) Variants.none c none i arg2 harg2 arg3 harg3 arg4 harg4 arg5 harg5 arg6 harg6 arg7 harg7 arg8 harg8 arg9 harg9 arg10 harg10 arg11 harg11 arg12 harg12 (Scalar.muli (BitVec.ofNat 32 i8.val) 512#32) k0_pay37 (iota Kind.tc S1x384 32 [1] iota_S1x384_d1_w32) 0#32 X_arg2 X_arg3 X_arg10 X_arg12 n,
      ∀ x, p.2 x = ATT a0 a1 a2 b i8 (p.1.emb x 0) (p.1.emb x 1) := by
  intro n
  induction n with
  | zero => intro _ p hp; exact absurd hp List.not_mem_nil
  | succ n ih =>
    intro hn p hp
    rw [pb_k0_t1_succ (F := Ideal) Variants.none c none i arg2 harg2 arg3 harg3 arg4 harg4 arg5 harg5 arg6 harg6 arg7 harg7 arg8 harg8 arg9 harg9 arg10 harg10 arg11 harg11 arg12 harg12 (Scalar.muli (BitVec.ofNat 32 i8.val) 512#32) k0_pay37 (iota Kind.tc S1x384 32 [1] iota_S1x384_d1_w32) 0#32 X_arg2 X_arg3 X_arg10 X_arg12 ⟨n, hn⟩] at hp
    rcases List.mem_append.1 hp with h | h
    · exact trip_at c i arg2 harg2 arg3 harg3 arg4 harg4 arg5 harg5 arg6 harg6 arg7 harg7 arg8 harg8 arg9 harg9 arg10 harg10 arg11 harg11 arg12 harg12 X_arg2 X_arg3 X_arg10 X_arg12 a0 a1 a2 b i8 Q0 Q1 Q2 Q3 H2 H3 H10 HK HV HZ ⟨n, hn⟩ p h
    · exact ih (Nat.le_of_succ_le hn) p h

end Cert.WAttnIdeal.RefValue

end
-- ==== Proof.WAttnRefAt.lean ====
module

public import proofs.«01_k».proof.Proof.Gen.WAttnRefIdeal.Run
public import proofs.«01_k».proof.Proof.WAttnRefValue
public import Idealize.ShloMosaic.Lib.Pipeline.ValueKit
public import Idealize.ShloMosaic.Lib.Pointwise
public import proofs.«01_k».proof.Proof.Softmax

@[expose] public section

set_option maxRecDepth 16384

noncomputable section

namespace Cert.WAttnRefIdeal.Whole
open Idealize.ShloMosaic Idealize.ShloMosaic.TcCoe Idealize.SL.Sem
open Cert.WAttnRefIdeal Cert.WAttnRefIdeal.Gen

/-- The larger of two elements. -/
theorem maxi_at (R S : FVec Ideal S8x32x2x4x128 .f32) (i : S8x32x2x4x128.Idx) : maximumf R S i = max (R i) (S i) := by
  pointwise []

/-- The larger of a row maximum and a sink. -/
theorem mx_at (X : FVec Ideal S8x32x2x4x128x384 .f32) (a2 : FVec Ideal S8 .f32) (b : Fin 8) (n : Fin 32) (g : Fin 2) (h : Fin 4) (q : Fin 128) :
    MX X a2 (ix5 b n g h q) = max (Finset.univ.fold max (Ideal.ofBits FTy.f32 0xFF800000#32) fun j => X (ix6 b n g h q j)) (a2 (ix1 ⟨g.val * 4 + h.val, by omega⟩)) := by
  unfold MX
  rw [maxi_at, mr_at, sink_at]

/-- A value of the span. -/
theorem va_at (a0 : FVec Ideal S32768x6016 .bf16) (b : Fin 8) (n : Fin 32) (g : Fin 2) (d : Fin 64) (j : Fin 384) : SPAN (VP a0) (ix5 b n j g d) = value a0 b n g d j := by
  rw [span_at, vp_at]
  unfold value
  rfl

/-- The weighted values of a query head over its denominator are its attention, for any scores, values and sinks. -/
theorem row_at (X : FVec Ideal S8x32x2x4x128x384 .f32) (W : FVec Ideal S8x32x384x2x64 .f32) (a2 : FVec Ideal S8 .f32)
    (b : Fin 8) (n : Fin 32) (g : Fin 2) (h : Fin 4) (q : Fin 128) (d : Fin 64) :
    Ideal.div (NUMof W (EXof X (MX X a2)) (ix6 b n q g h d)) (DENof (EXof X (MX X a2)) (MX X a2) (SINK a2) (ix5 b n g h q))
      = attn (fun j => X (ix6 b n g h q j)) (fun j => W (ix5 b n j g d)) (a2 (ix1 ⟨g.val * 4 + h.val, by omega⟩)) := by
  have hm := mx_at X a2 b n g h q
  have hs := sink_at a2 b n g h q
  generalize MX X a2 = M at hm ⊢
  generalize SINK a2 = S at hs ⊢
  rw [num_at, den_at]
  unfold attn
  rw [hs]
  have he : ∀ j, EXof X M (ix6 b n g h q j) = Ideal.exp (X (ix6 b n g h q j) - M (ix5 b n g h q)) := fun j => ex_at X M b n g h q j
  generalize EXof X M = E at he ⊢
  rw [← hm]
  refine congrArg₂ Ideal.div (Finset.sum_congr rfl fun j _ => ?_) (congrArg (· + _) (Finset.sum_congr rfl fun j _ => ?_))
  · rw [he]
  · rw [he]

/-- The reference at one element: the attention of one query head over its span. -/
theorem ref_at (a0 : FVec Ideal S32768x6016 .bf16) (a1 : FVec Ideal S8x128x384 .f32) (a2 : FVec Ideal S8 .f32) (r : Fin 32768) (e : Fin 512) :
    REF a0 a1 a2 (ix2 r e)
      = attn (score a0 a1 ⟨r.val / 4096, by omega⟩ ⟨r.val / 128 % 32, by omega⟩ ⟨e.val / 256, by omega⟩ ⟨e.val / 64 % 4, by omega⟩ ⟨r.val % 128, by omega⟩)
          (value a0 ⟨r.val / 4096, by omega⟩ ⟨r.val / 128 % 32, by omega⟩ ⟨e.val / 256, by omega⟩ ⟨e.val % 64, by omega⟩)
          (a2 (ix1 ⟨e.val / 256 * 4 + e.val / 64 % 4, by omega⟩)) := by
  unfold REF
  rw [out_at, row_at]
  refine congrArg₂ (fun s v => attn s v _) (funext fun j => ?_) (funext fun j => ?_)
  · rw [sc_at]
  · rw [va_at]

end Cert.WAttnRefIdeal.Whole

end
-- ==== Proof.WAttnBlocks.lean ====
module

public import proofs.«01_k».proof.Proof.WAttnTrip
public import proofs.«01_k».proof.Proof.WAttnRefAt

@[expose] public section

set_option maxRecDepth 16384

noncomputable section

namespace Cert.WAttnIdeal.RefValue
open Idealize.ShloMosaic Idealize.ShloMosaic.TcCoe Idealize.SL.Sem
open Idealize.ShloMosaic.Pipeline (Dat)
open Cert.WAttnIdeal Cert.WAttnIdeal.Gen
open Cert.WAttnRefIdeal.Whole (attn score value)

/-- A row's lanes in a bank: the half of the key-value head `g` in the half `s` of the lanes, zeros in the other half. -/
theorem shf_at (bk : Nat) (g s : Fin 2) (h : bk % 4 = 2 * g.val + s.val) (f : Fin 128 → EReal) (l : Fin 128) :
    SHF bk f l = if l.val / 64 = s.val then f ⟨g.val * 64 + l.val % 64, by omega⟩ else 0 := by
  obtain ⟨l, hl⟩ := l
  have hg : g = 0 ∨ g = 1 := by omega
  have hs : s = 0 ∨ s = 1 := by omega
  unfold SHF
  by_cases h64 : l < 64
  · have e0 : l / 64 = 0 := by omega
    have e1 : l % 64 = l := by omega
    rcases hg with rfl | rfl <;> rcases hs with rfl | rfl <;> simp [h, h64, e0, e1]
    exact congrArg f (Fin.ext (Nat.add_comm _ _))
  · have e0 : l / 64 = 1 := by omega
    have e1 : l % 64 = l - 64 := by omega
    rcases hg with rfl | rfl <;> rcases hs with rfl | rfl <;> simp [h, h64, e0, e1]
    exact congrArg f (Fin.ext (by show l = 64 + (l - 64); omega))

/-- A row of the block and its neighbours, on the sequence. -/
theorem row_eq (A0 : FVec Ideal S32768x6016 .bf16) (C : Nat) (hC : C + 128 ≤ 6016) (a : FVec Ideal S512x128 .bf16) (p n : FVec Ideal S128x128 .bf16) (b i : Fin 8)
    (ha : ∀ (r : Fin 512) (e : Fin 128), a (ix2 r e) = A0 (ix2 ⟨512 * (b.val * 8 + i.val) + r.val, by omega⟩ ⟨C + e.val, by omega⟩))
    (hp : ∀ (r : Fin 128) (e : Fin 128), p (ix2 r e) = A0 (ix2 ⟨128 * (b.val * 32 + (i.val * 4 - 1)) + r.val, by omega⟩ ⟨C + e.val, by omega⟩))
    (hn : ∀ (r : Fin 128) (e : Fin 128), n (ix2 r e) = A0 (ix2 ⟨128 * (b.val * 32 + min (i.val * 4 + 4) 31) + r.val, by omega⟩ ⟨C + e.val, by omega⟩))
    (r : Fin 768) (e : Fin 128) (h : 128 ≤ i.val * 512 + r.val ∧ i.val * 512 + r.val < 4224) :
    ROW a p n r e = A0 (ix2 ⟨b.val * 4096 + (i.val * 512 + r.val - 128), by omega⟩ ⟨C + e.val, by omega⟩) := by
  unfold ROW
  by_cases h1 : r.val < 128
  · rw [dif_pos h1, hp]
    exact congrArg (fun k => A0 (ix2 k _)) (Fin.ext (by show 128 * (b.val * 32 + (i.val * 4 - 1)) + r.val = b.val * 4096 + (i.val * 512 + r.val - 128); omega))
  · rw [dif_neg h1]
    by_cases h2 : r.val < 640
    · rw [dif_pos h2, ha]
      exact congrArg (fun k => A0 (ix2 k _)) (Fin.ext (by show 512 * (b.val * 8 + i.val) + (r.val - 128) = b.val * 4096 + (i.val * 512 + r.val - 128); omega))
    · rw [dif_neg h2, hn]
      exact congrArg (fun k => A0 (ix2 k _)) (Fin.ext (by show 128 * (b.val * 32 + min (i.val * 4 + 4) 31) + (r.val - 640) = b.val * 4096 + (i.val * 512 + r.val - 128); omega))

/-- The key banks of the scratch. -/
theorem bank_k (A0 : FVec Ideal S32768x6016 .bf16) (a a5 : FVec Ideal S512x128 .bf16) (p n a6 a7 : FVec Ideal S128x128 .bf16) (b i : Fin 8)
    (ha : ∀ (r : Fin 512) (e : Fin 128), a (ix2 r e) = A0 (ix2 ⟨512 * (b.val * 8 + i.val) + r.val, by omega⟩ ⟨4096 + e.val, by omega⟩))
    (hp : ∀ (r : Fin 128) (e : Fin 128), p (ix2 r e) = A0 (ix2 ⟨128 * (b.val * 32 + (i.val * 4 - 1)) + r.val, by omega⟩ ⟨4096 + e.val, by omega⟩))
    (hn : ∀ (r : Fin 128) (e : Fin 128), n (ix2 r e) = A0 (ix2 ⟨128 * (b.val * 32 + min (i.val * 4 + 4) 31) + r.val, by omega⟩ ⟨4096 + e.val, by omega⟩))
    (g s : Fin 2) (r : Fin 768) (l : Fin 128) (h : 128 ≤ i.val * 512 + r.val ∧ i.val * 512 + r.val < 4224) :
    View.canon (LS a a5 p n a6 a7) (ix3 ⟨2 * g.val + s.val, by omega⟩ r l) = if l.val / 64 = s.val then
        A0 (ix2 ⟨b.val * 4096 + (i.val * 512 + r.val - 128), by omega⟩ ⟨4096 + (g.val * 64 + l.val % 64), by omega⟩) else (0 : EReal) := by
  refine (ls_at a a5 p n a6 a7 _).trans ?_
  show BANK a a5 p n a6 a7 ⟨2 * g.val + s.val, _⟩ r l = _
  unfold BANK
  rw [if_pos (show (2 * g.val + s.val) < 4 by omega)]
  refine (shf_at _ g s (by show (2 * g.val + s.val) % 4 = _; omega) _ l).trans ?_
  rw [row_eq A0 4096 (by omega) a p n b i ha hp hn r _ h]

/-- The value banks of the scratch. -/
theorem bank_v (A0 : FVec Ideal S32768x6016 .bf16) (a a5 : FVec Ideal S512x128 .bf16) (p n a6 a7 : FVec Ideal S128x128 .bf16) (b i : Fin 8)
    (ha : ∀ (r : Fin 512) (e : Fin 128), a5 (ix2 r e) = A0 (ix2 ⟨512 * (b.val * 8 + i.val) + r.val, by omega⟩ ⟨4224 + e.val, by omega⟩))
    (hp : ∀ (r : Fin 128) (e : Fin 128), a6 (ix2 r e) = A0 (ix2 ⟨128 * (b.val * 32 + (i.val * 4 - 1)) + r.val, by omega⟩ ⟨4224 + e.val, by omega⟩))
    (hn : ∀ (r : Fin 128) (e : Fin 128), a7 (ix2 r e) = A0 (ix2 ⟨128 * (b.val * 32 + min (i.val * 4 + 4) 31) + r.val, by omega⟩ ⟨4224 + e.val, by omega⟩))
    (g s : Fin 2) (r : Fin 768) (l : Fin 128) (h : 128 ≤ i.val * 512 + r.val ∧ i.val * 512 + r.val < 4224) (hl : l.val / 64 = s.val) :
    View.canon (LS a a5 p n a6 a7) (ix3 ⟨4 + (2 * g.val + s.val), by omega⟩ r l) =
        A0 (ix2 ⟨b.val * 4096 + (i.val * 512 + r.val - 128), by omega⟩ ⟨4224 + (g.val * 64 + l.val % 64), by omega⟩) := by
  refine (ls_at a a5 p n a6 a7 _).trans ?_
  show BANK a a5 p n a6 a7 ⟨4 + (2 * g.val + s.val), _⟩ r l = _
  unfold BANK
  rw [if_neg (show ¬ (4 + (2 * g.val + s.val)) < 4 by omega)]
  refine (shf_at _ g s (by show (4 + (2 * g.val + s.val)) % 4 = _; omega) _ l).trans ?_
  rw [if_pos hl, row_eq A0 4224 (by omega) a5 a6 a7 b i ha hp hn r _ h]

/-- The zeros of the value banks. -/
theorem bank_z (a a5 : FVec Ideal S512x128 .bf16) (p n a6 a7 : FVec Ideal S128x128 .bf16)
    (g s : Fin 2) (r : Fin 768) (l : Fin 128) (hl : l.val / 64 ≠ s.val) :
    View.canon (LS a a5 p n a6 a7) (ix3 ⟨4 + (2 * g.val + s.val), by omega⟩ r l) = (0 : EReal) := by
  refine (ls_at a a5 p n a6 a7 _).trans ?_
  show BANK a a5 p n a6 a7 ⟨4 + (2 * g.val + s.val), _⟩ r l = _
  unfold BANK
  rw [if_neg (show ¬ (4 + (2 * g.val + s.val)) < 4 by omega)]
  refine (shf_at _ g s (by show (4 + (2 * g.val + s.val)) % 4 = _; omega) _ l).trans ?_
  rw [if_neg hl]

/-- The reference at one element of a grid point's block. -/
theorem ref_att (a0 : FVec Ideal S32768x6016 .bf16) (a1 : FVec Ideal S8x128x384 .f32) (a2 : FVec Ideal S8 .f32) (b i : Fin 8) (r e : Fin 512)
    (R : Fin 32768) (hR : R.val = 512 * (b.val * 8 + i.val) + r.val) :
    Cert.WAttnRefIdeal.Whole.REF a0 a1 a2 (ix2 R e) = ATT a0 a1 a2 b i r e := by
  rw [Cert.WAttnRefIdeal.Whole.ref_at]
  unfold ATT
  have d0 : (⟨R.val / 4096, by omega⟩ : Fin 8) = b := Fin.ext (by show R.val / 4096 = b.val; omega)
  have d1 : (⟨R.val / 128 % 32, by omega⟩ : Fin 32) = ⟨i.val * 4 + r.val / 128, by omega⟩ := Fin.ext (by show R.val / 128 % 32 = i.val * 4 + r.val / 128; omega)
  have d2 : (⟨R.val % 128, by omega⟩ : Fin 128) = ⟨r.val % 128, by omega⟩ := Fin.ext (by show R.val % 128 = r.val % 128; omega)
  have d3 : (⟨e.val / 256 * 4 + e.val / 64 % 4, by omega⟩ : Fin 8) = ⟨e.val / 64, by omega⟩ := Fin.ext (by show e.val / 256 * 4 + e.val / 64 % 4 = e.val / 64; omega)
  rw [d0, d1, d2, d3]

variable (m : (ℓ : Loc nD τ sig) → Buf (Elt Ideal) ℓ)

/-- The grid point's batch and its block of rows. -/
theorem coords_at : ∀ t : Fin cfg0.N, t.val = (grid0.coords t 0).val * 8 + (grid0.coords t 1).val ∧ (grid0.coords t 0).val = t.val / 8 ∧ (grid0.coords t 1).val = t.val % 8 :=
  (by decide +kernel : ∀ t : Fin grid0.N, _)

/-- Each window's block at a grid point. -/
theorem idx : ∀ t : Fin cfg0.N, win0_0.index t = ![0] ∧ win0_2.index t = ![t.val, 32] ∧ win0_5.index t = ![t.val, 33]
    ∧ win0_3.index t = ![t.val / 8 * 32 + (t.val % 8 * 4 - 1), 32] ∧ win0_6.index t = ![t.val / 8 * 32 + (t.val % 8 * 4 - 1), 33]
    ∧ win0_4.index t = ![t.val / 8 * 32 + min (t.val % 8 * 4 + 4) 31, 32] ∧ win0_7.index t = ![t.val / 8 * 32 + min (t.val % 8 * 4 + 4) 31, 33]
    ∧ win0_8.index t = ![0, 0, 0] ∧ win0_9.index t = ![t.val, 0] :=
  (by decide +kernel : ∀ t : Fin grid0.N, _)

/-- The query window at a grid point. -/
theorem x1_at (c : Dev nD) (t : Fin cfg0.N) (y : S512x512.Idx) :
    X0_1 m c t y = m ((c : Thread nD τ).loc main_arg0)
      (ix2 ⟨512 * t.val + (y 0).val, by have h1 : t.val < 64 := t.isLt; have h2 : (y 0).val < 512 := (y 0).isLt; omega⟩
        ⟨3072 + (y 1).val, by have h2 : (y 1).val < 512 := (y 1).isLt; omega⟩) := by
  have hclip : ∀ t : Fin grid0.N, ∀ a, (win0 1).clip (grid0.coords t) a = none := by decide +kernel
  have hidx : ∀ t : Fin grid0.N, (win0 1).index t = ![t.val, 6] := by decide +kernel
  have hm : (win0 1).moved (grid0.coords t) y = true :=
    ((win0 1).moved_iff _ y).mpr fun a => by have := (y a).isLt; unfold Pipeline.Window.xsize; rw [hclip t a]; exact this
  unfold X0_1 Pipeline.Window.fill
  rw [dif_pos hm]
  refine congrArg (m ((c : Thread nD τ).loc main_arg0)) ?_
  funext a
  apply Fin.ext
  show (win0 1).kind.off ((win0 1).index t a) ((win0 1).size a) + 1 * (y a).val = _
  rw [hidx t]
  fin_cases a
  · show t.val * 512 + 1 * (y 0).val = 512 * t.val + (y 0).val
    omega
  · show 6 * 512 + 1 * (y 1).val = 3072 + (y 1).val
    omega

/-- The sink's window. -/
theorem sink_win (c : Dev nD) (t : Fin cfg0.N) (y : S8.Idx) : iblk m c 0 t y = m ((c : Thread nD τ).loc main_arg2) (ix1 (y 0)) := by
  blk_point [iblk, V, idx t]

/-- The bias's window. -/
theorem bias_win (c : Dev nD) (t : Fin cfg0.N) (y : S8x128x384.Idx) : iblk m c 8 t y = m ((c : Thread nD τ).loc main_arg1) (ix3 (y 0) (y 1) (y 2)) := by
  blk_point [iblk, V, idx t]

/-- The keys of the block. -/
theorem win2 (c : Dev nD) (t : Fin cfg0.N) (y : S512x128.Idx) :
    iblk m c 2 t y = m ((c : Thread nD τ).loc main_arg0)
      (ix2 ⟨512 * t.val + (y 0).val, by have h1 : t.val < 64 := t.isLt; have h2 : (y 0).val < 512 := (y 0).isLt; omega⟩
        ⟨4096 + (y 1).val, by have h2 : (y 1).val < 128 := (y 1).isLt; omega⟩) := by
  blk_point [iblk, V, idx t]

/-- The values of the block. -/
theorem win5 (c : Dev nD) (t : Fin cfg0.N) (y : S512x128.Idx) :
    iblk m c 5 t y = m ((c : Thread nD τ).loc main_arg0)
      (ix2 ⟨512 * t.val + (y 0).val, by have h1 : t.val < 64 := t.isLt; have h2 : (y 0).val < 512 := (y 0).isLt; omega⟩
        ⟨4224 + (y 1).val, by have h2 : (y 1).val < 128 := (y 1).isLt; omega⟩) := by
  blk_point [iblk, V, idx t]

/-- The keys before the block. -/
theorem win3 (c : Dev nD) (t : Fin cfg0.N) (y : S128x128.Idx) :
    iblk m c 3 t y = m ((c : Thread nD τ).loc main_arg0)
      (ix2 ⟨128 * (t.val / 8 * 32 + (t.val % 8 * 4 - 1)) + (y 0).val, by have h1 : t.val < 64 := t.isLt; have h2 : (y 0).val < 128 := (y 0).isLt; omega⟩
        ⟨4096 + (y 1).val, by have h2 : (y 1).val < 128 := (y 1).isLt; omega⟩) := by
  blk_point [iblk, V, idx t]

/-- The values before the block. -/
theorem win6 (c : Dev nD) (t : Fin cfg0.N) (y : S128x128.Idx) :
    iblk m c 6 t y = m ((c : Thread nD τ).loc main_arg0)
      (ix2 ⟨128 * (t.val / 8 * 32 + (t.val % 8 * 4 - 1)) + (y 0).val, by have h1 : t.val < 64 := t.isLt; have h2 : (y 0).val < 128 := (y 0).isLt; omega⟩
        ⟨4224 + (y 1).val, by have h2 : (y 1).val < 128 := (y 1).isLt; omega⟩) := by
  blk_point [iblk, V, idx t]

/-- The keys after the block. -/
theorem win4 (c : Dev nD) (t : Fin cfg0.N) (y : S128x128.Idx) :
    iblk m c 4 t y = m ((c : Thread nD τ).loc main_arg0)
      (ix2 ⟨128 * (t.val / 8 * 32 + min (t.val % 8 * 4 + 4) 31) + (y 0).val, by have h1 : t.val < 64 := t.isLt; have h2 : (y 0).val < 128 := (y 0).isLt; omega⟩
        ⟨4096 + (y 1).val, by have h2 : (y 1).val < 128 := (y 1).isLt; omega⟩) := by
  blk_point [iblk, V, idx t]

/-- The values after the block. -/
theorem win7 (c : Dev nD) (t : Fin cfg0.N) (y : S128x128.Idx) :
    iblk m c 7 t y = m ((c : Thread nD τ).loc main_arg0)
      (ix2 ⟨128 * (t.val / 8 * 32 + min (t.val % 8 * 4 + 4) 31) + (y 0).val, by have h1 : t.val < 64 := t.isLt; have h2 : (y 0).val < 128 := (y 0).isLt; omega⟩
        ⟨4224 + (y 1).val, by have h2 : (y 1).val < 128 := (y 1).isLt; omega⟩) := by
  blk_point [iblk, V, idx t]

/-- The place in the result of an element of a grid point's block. -/
theorem emb_at (t : Fin cfg0.N) (y : S512x512.Idx) :
    ((View.whole main_v0).slice (win0_9.rect t)).emb y
      = ix2 ⟨512 * t.val + (y 0).val, by have h1 : t.val < 64 := t.isLt; have h2 : (y 0).val < 512 := (y 0).isLt; omega⟩ (y 1) := by
  funext a
  apply Fin.ext
  fin_cases a
  · refine Eq.trans (b := 512 * t.val + (y 0).val) ?_ rfl
    blk_simp [idx t]
    exact congrArg (· + (y 0).val) (Nat.mul_comm t.val 512)
  · refine Eq.trans (b := (y 1).val) ?_ rfl
    blk_simp [idx t]
    rfl

/-- Where the precondition holds the queries are real. -/
theorem q_real [Cert.Pre_finite_scores_w.Facts] (h : Cert.Pre_WAttnIdeal_finite_scores_w m) (c : Dev nD) (r : Fin 32768) (e : Fin 512) :
    Softmax.IsReal ((m ((c : Thread nD τ).loc main_arg0)) (ix2 r ⟨3072 + e.val, by omega⟩)) := by
  have h1 := congrFun (h c).1 (ix2 r e)
  unfold Cert.Pre_finite_scores_w.fn at h1
  refine Softmax.isReal_of_abs (φ := .bf16) (Eq.trans ?_ h1)
  pointwise []
  rfl

/-- Where the precondition holds the keys are real. -/
theorem k_real [Cert.Pre_finite_scores_w.Facts] (h : Cert.Pre_WAttnIdeal_finite_scores_w m) (c : Dev nD) (r : Fin 32768) (e : Fin 128) :
    Softmax.IsReal ((m ((c : Thread nD τ).loc main_arg0)) (ix2 r ⟨4096 + e.val, by omega⟩)) := by
  have h1 := congrFun (h c).2.1 (ix2 r e)
  unfold Cert.Pre_finite_scores_w.fn at h1
  refine Softmax.isReal_of_abs (φ := .bf16) (Eq.trans ?_ h1)
  pointwise []
  rfl

/-- Where the precondition holds no bias is plus infinity. -/
theorem bias_ne_top [Cert.Pre_finite_scores_w.Facts] (h : Cert.Pre_WAttnIdeal_finite_scores_w m) (c : Dev nD) (n : Fin 8) (r : Fin 128) (j : Fin 384) :
    (m ((c : Thread nD τ).loc main_arg1)) (ix3 n r j) ≠ (⊤ : EReal) := by
  have h1 := congrFun (h c).2.2.1 (ix3 n r j)
  unfold Cert.Pre_finite_scores_w.fn at h1
  refine Softmax.ne_top_of_lt (Eq.trans ?_ h1)
  pointwise []

/-- Where the precondition holds the sinks are real. -/
theorem sink_real [Cert.Pre_finite_scores_w.Facts] (h : Cert.Pre_WAttnIdeal_finite_scores_w m) (c : Dev nD) (n : Fin 8) :
    Softmax.IsReal ((m ((c : Thread nD τ).loc main_arg2)) (ix1 n)) := by
  have h1 := congrFun (h c).2.2.2 (ix1 n)
  unfold Cert.Pre_finite_scores_w.fn at h1
  refine Softmax.isReal_of_abs (φ := .f32) (Eq.trans ?_ h1)
  pointwise []

end Cert.WAttnIdeal.RefValue

end
-- ==== Proof.WAttnValue.lean ====
module

public import proofs.«01_k».proof.Proof.WAttnBlocks
public import Idealize.ShloMosaic.Lib.Pipeline.ReadBack

@[expose] public section

set_option maxRecDepth 16384

noncomputable section

namespace Cert.WAttnIdeal.RefValue
open Idealize.ShloMosaic Idealize.ShloMosaic.TcCoe Idealize.SL.Sem
open Idealize.ShloMosaic.Pipeline (Dat)
open Cert.WAttnIdeal Cert.WAttnIdeal.Gen

variable (m : (ℓ : Loc nD τ sig) → Buf (Elt Ideal) ℓ)

/-- A read of a whole rank-2 buffer. -/
theorem rd_all {κ : Kind} {sp : Space} {n q : Nat} {e : EltTy} (mr : Memref sig κ sp ⟨2, ![n, q]⟩ e) (h : mr.IsWhole)
    (x : (⟨2, ![n, q]⟩ : Shape).Idx → Elt Ideal e)
    (inb : ∀ a, (![0, 0] : Fin 2 → Nat) a + (![n, q] : Fin 2 → Nat) a ≤ (⟨2, ![n, q]⟩ : Shape).size a) (r : Fin n) (d : Fin q) :
    View.readAt (Elt Ideal) mr.view (Rect.unit (s := ⟨2, ![n, q]⟩) ![0, 0] ![n, q] inb).toLoadRect (h.unread x) (ix2 r d : (⟨2, ![n, q]⟩ : Shape).Idx) = x (ix2 r d) :=
  (rd2 mr.view (h.unread x) inb r d r d (Nat.zero_add _).symm (Nat.zero_add _).symm).trans (congrFun (Memref.IsWhole.read_unread _ _) _)

/-- Where the queries, the keys and the sinks are finite and no bias is plus infinity, the result array after the run is the reference's. -/
theorem final [Cert.Pre_finite_scores_w.Facts] (hfin : Cert.Pre_WAttnIdeal_finite_scores_w m) (c : Dev nD) : (dats m 0 c).arrAt 9 (cfgs 0).N
    = Cert.WAttnRefIdeal.Whole.REF (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp; rw [after0_9]; unfold Gen.outsAt0 Gen.out0_A_9
  rw [View.read_writes_junk_eq_canon]
  obtain ⟨ht, ht0, ht1⟩ := coords_at t
  refine View.canon_eq_of_allAt _ _ _ (cover0_A_9 _ _ _ _ _ _ _ _ _ _ _ _ _ _ _ _ _ _ _ _ _ _ _ _ _ _ _ _ _ _ _ _ _ y) fun p hp x hx => ?_
  subst hx
  refine Eq.trans ?_ ((congrArg _ (emb_at t (p.1.emb x))).trans (ref_att _ _ _ (grid0.coords t 0) (grid0.coords t 1) _ _ _ (by show 512 * t.val + _ = _; rw [ht]; rfl))).symm
  revert x
  revert p
  unfold Gen.kernelRun0_A
  sl_unfold_words
  intro p hp x
  refine trips_at _ _ _ _ _ _ _ _ _ _ _ _ _ _ _ _ _ _ _ _ _ _ _ _ _ _ _ _ (m ((c : Thread nD τ).loc main_arg0)) (m ((c : Thread nD τ).loc main_arg1)) (m ((c : Thread nD τ).loc main_arg2)) _ _
    (q_real m hfin c) (k_real m hfin c) (bias_ne_top m hfin c) (sink_real m hfin c) ?_ ?_ ?_ ?_ ?_ ?_ _ (Nat.le_refl _) p hp x
  all_goals clear hp p x
  · exact fun h => (congrFun (Memref.IsWhole.read_unread _ _) _).trans (sink_win m c t _)
  · intro r e
    refine ((congrFun (Memref.IsWhole.read_unread _ _) _).trans (x1_at m c t _)).trans (congrArg (fun k => m ((c : Thread nD τ).loc main_arg0) (ix2 k _)) (Fin.ext ?_))
    show 512 * t.val + r.val = (grid0.coords t 0).val * 4096 + ((grid0.coords t 1).val * 512 + r.val)
    omega
  · exact fun h r j => (congrFun (Memref.IsWhole.read_unread _ _) _).trans (bias_win m c t _)
  · intro g s r l h
    refine (congrFun (View.read_writes_junk_eq_canon _ _) _).trans (bank_k (m ((c : Thread nD τ).loc main_arg0)) _ _ _ _ _ _ (grid0.coords t 0) (grid0.coords t 1) ?_ ?_ ?_ g s r l h)
    · intro r e
      exact (rd_all _ _ _ _ _ _).trans ((win2 m c t _).trans (congrArg (fun k => m ((c : Thread nD τ).loc main_arg0) (ix2 k _)) (Fin.ext (by show 512 * t.val + r.val = 512 * ((grid0.coords t 0).val * 8 + (grid0.coords t 1).val) + r.val; omega))))
    · intro r e
      exact (rd_all _ _ _ _ _ _).trans ((win3 m c t _).trans (congrArg (fun k => m ((c : Thread nD τ).loc main_arg0) (ix2 k _)) (Fin.ext (by show 128 * (t.val / 8 * 32 + (t.val % 8 * 4 - 1)) + r.val = 128 * ((grid0.coords t 0).val * 32 + ((grid0.coords t 1).val * 4 - 1)) + r.val; rw [ht0, ht1]))))
    · intro r e
      exact (rd_all _ _ _ _ _ _).trans ((win4 m c t _).trans (congrArg (fun k => m ((c : Thread nD τ).loc main_arg0) (ix2 k _)) (Fin.ext (by show 128 * (t.val / 8 * 32 + min (t.val % 8 * 4 + 4) 31) + r.val = 128 * ((grid0.coords t 0).val * 32 + min ((grid0.coords t 1).val * 4 + 4) 31) + r.val; rw [ht0, ht1]))))
  · intro g s r l h hl
    refine (congrFun (View.read_writes_junk_eq_canon _ _) _).trans (bank_v (m ((c : Thread nD τ).loc main_arg0)) _ _ _ _ _ _ (grid0.coords t 0) (grid0.coords t 1) ?_ ?_ ?_ g s r l h hl)
    · intro r e
      exact (rd_all _ _ _ _ _ _).trans ((win5 m c t _).trans (congrArg (fun k => m ((c : Thread nD τ).loc main_arg0) (ix2 k _)) (Fin.ext (by show 512 * t.val + r.val = 512 * ((grid0.coords t 0).val * 8 + (grid0.coords t 1).val) + r.val; omega))))
    · intro r e
      exact (rd_all _ _ _ _ _ _).trans ((win6 m c t _).trans (congrArg (fun k => m ((c : Thread nD τ).loc main_arg0) (ix2 k _)) (Fin.ext (by show 128 * (t.val / 8 * 32 + (t.val % 8 * 4 - 1)) + r.val = 128 * ((grid0.coords t 0).val * 32 + ((grid0.coords t 1).val * 4 - 1)) + r.val; rw [ht0, ht1]))))
    · intro r e
      exact (rd_all _ _ _ _ _ _).trans ((win7 m c t _).trans (congrArg (fun k => m ((c : Thread nD τ).loc main_arg0) (ix2 k _)) (Fin.ext (by show 128 * (t.val / 8 * 32 + min (t.val % 8 * 4 + 4) 31) + r.val = 128 * ((grid0.coords t 0).val * 32 + min ((grid0.coords t 1).val * 4 + 4) 31) + r.val; rw [ht0, ht1]))))
  · intro g s r l hl
    exact (congrFun (View.read_writes_junk_eq_canon _ _) _).trans (bank_z _ _ _ _ _ _ g s r l hl)

end Cert.WAttnIdeal.RefValue

end
-- ==== Proof.FfnValue.lean ====
module

public import proofs.«01_k».proof.Proof.Gen.FfnIdeal.Frame
public import proofs.«01_k».proof.Proof.Gen.FfnRefIdeal.Run
public import Idealize.ShloMosaic.Lib.Pipeline.ValueKit
public import Idealize.ShloMosaic.Lib.Pointwise

@[expose] public section

set_option maxRecDepth 16384

noncomputable section

namespace Cert.FfnRefIdeal.Whole
open Idealize.ShloMosaic Idealize.ShloMosaic.TcCoe Idealize.SL.Sem
open Cert.FfnRefIdeal Cert.FfnRefIdeal.Gen

/-- The feed-forward reference's result as one term over its four arguments: the tokens, the norm's gain, the two
    weight matrices. -/
abbrev REF (a0 : FVec Ideal S32768x1024 .f32) (a1 : FVec Ideal S1024 .f32) (a2 : FVec Ideal S1024x5632 .f32)
    (a3 : FVec Ideal S2816x1024 .f32) : FVec Ideal S32768x1024 .f32 :=
  addf a0 (Host.dotGeneral dot_S32768x2816_S2816x1024_S32768x1024_1_0_0_1_n_n none (mulf (mulf (extractStridedSlice S32768x2816 ![0, 0] (Host.dotGeneral dot_S32768x1024_S1024x5632_S32768x5632_1_0_0_1_n_n none (mulf (mulf a0 (broadcastInDim S32768x1024 ![0, 1] bcast_S32768x1_S32768x1024_0_1 (Host.rsqrt (addf (Host.divf (broadcastInDim S32768x1 ![0] bcast_S32768_S32768x1_0 (Host.reduceAdd (mulf a0 a0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a1))) a2) slices_S32768x5632_S32768x2816_0_0) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (extractStridedSlice S32768x2816 ![0, 0] (Host.dotGeneral dot_S32768x1024_S1024x5632_S32768x5632_1_0_0_1_n_n none (mulf (mulf a0 (broadcastInDim S32768x1024 ![0, 1] bcast_S32768x1_S32768x1024_0_1 (Host.rsqrt (addf (Host.divf (broadcastInDim S32768x1 ![0] bcast_S32768_S32768x1_0 (Host.reduceAdd (mulf a0 a0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a1))) a2) slices_S32768x5632_S32768x2816_0_0)))))) (extractStridedSlice S32768x2816 ![0, 2816] (Host.dotGeneral dot_S32768x1024_S1024x5632_S32768x5632_1_0_0_1_n_n none (mulf (mulf a0 (broadcastInDim S32768x1024 ![0, 1] bcast_S32768x1_S32768x1024_0_1 (Host.rsqrt (addf (Host.divf (broadcastInDim S32768x1 ![0] bcast_S32768_S32768x1_0 (Host.reduceAdd (mulf a0 a0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a1))) a2) slices_S32768x5632_S32768x2816_0_2816)) a3)

end Cert.FfnRefIdeal.Whole

namespace Cert.FfnIdeal.RefValue
open Idealize.ShloMosaic Idealize.ShloMosaic.TcCoe Idealize.SL.Sem
open Idealize.ShloMosaic.Pipeline (Dat)
open Cert.FfnIdeal Cert.FfnIdeal.Gen

/-- One chunk of 256 hidden columns: the gate and up products of the normed rows, the gated product, and its
    product with the chunk's rows of the output weights. -/
def chunk (h : FVec Ideal S512x1024 .bf16) (wg wu : FVec Ideal S1024x256 .bf16) (wo : FVec Ideal S256x1024 .bf16) :
    FVec Ideal S512x1024 .f32 :=
  matmul dot_S512x256_S256x1024_S512x1024_1_0_0_1_n_n none
    (truncf .bf16 (mulf (mulf (matmul dot_S512x1024_S1024x256_S512x256_1_0_0_1_n_n none h wg (constant S512x256 .f32 0x00000000#32))
        (logistic (matmul dot_S512x1024_S1024x256_S512x256_1_0_0_1_n_n none h wg (constant S512x256 .f32 0x00000000#32))))
      (matmul dot_S512x1024_S1024x256_S512x256_1_0_0_1_n_n none h wu (constant S512x256 .f32 0x00000000#32))) bitsLt_bf16_f32)
    wo (constant S512x1024 .f32 0x00000000#32)

/-- The scale of a row: the reciprocal root of its mean square plus the small constant. -/
def rinv (xr : Fin 1024 → EReal) : EReal :=
  Ideal.rsqrt (Ideal.div (∑ x, xr x * xr x) (Ideal.ofBits FTy.f32 1149239296#32) + Ideal.ofBits FTy.f32 897988541#32)

/-- A normed row times one column of weights. -/
def prod (xr g w : Fin 1024 → EReal) : EReal := ∑ k, xr k * rinv xr * g k * w k

/-- What one hidden column adds to a result: the gated product times its output weight. -/
def term (xr g wg wu : Fin 1024 → EReal) (wo : EReal) : EReal :=
  prod xr g wg * Ideal.logistic (prod xr g wg) * prod xr g wu * wo

/-- A chunk over a normed block, at one row and one result column, is the sum of its 256 hidden columns' terms. -/
theorem chunk_at (x : FVec Ideal S512x1024 .f32) (g : FVec Ideal S1x1024 .f32) (wg wu : FVec Ideal S1024x256 .bf16)
    (wo : FVec Ideal S256x1024 .bf16) (y : S512x1024.Idx) :
    chunk (k0_pay2 (F := Ideal) x g) wg wu wo y
      = ∑ j : Fin 256, term (fun k => x (ix2 (y 0) k)) (fun k => g (ix2 0 k)) (fun k => wg (ix2 k j))
          (fun k => wu (ix2 k j)) (wo (ix2 j (y 1))) := by
  pointwise [chunk, k0_pay2, term, prod, rinv]

/-- The reference at one element is the token's element plus the sum of the 2816 hidden columns' terms. -/
theorem ref_at (a0 : FVec Ideal Cert.FfnRefIdeal.S32768x1024 .f32) (a1 : FVec Ideal Cert.FfnRefIdeal.S1024 .f32)
    (a2 : FVec Ideal Cert.FfnRefIdeal.S1024x5632 .f32) (a3 : FVec Ideal Cert.FfnRefIdeal.S2816x1024 .f32)
    (y : Cert.FfnRefIdeal.S32768x1024.Idx) :
    Cert.FfnRefIdeal.Whole.REF a0 a1 a2 a3 y
      = a0 y + ∑ j : Fin 2816, term (fun k => a0 (ix2 (y 0) k)) (fun k => a1 (ix1 k))
          (fun k => a2 (ix2 k ⟨j.val, by omega⟩)) (fun k => a2 (ix2 k ⟨2816 + j.val, by omega⟩)) (a3 (ix2 j (y 1))) := by
  pointwise [Cert.FfnRefIdeal.Whole.REF, term, prod, rinv, Ideal.logistic]

/-- The value the body stores, over whole blocks: the eleven chunks added in order to the tokens. -/
def stored (x : FVec Ideal S512x1024 .f32) (g : FVec Ideal S1x1024 .f32) (w : Vec Ideal S1024x5632 .bf16)
    (v : Vec Ideal S2816x1024 .bf16) : FVec Ideal S512x1024 .f32 :=
  addf (addf (addf (addf (addf (addf (addf (addf (addf (addf (addf (x) (chunk (k0_pay2 (F := Ideal) x g) (View.ld w r0_2) (View.ld w r0_3) (View.ld v r0_4))) (chunk (k0_pay2 (F := Ideal) x g) (View.ld w r0_5) (View.ld w r0_6) (View.ld v r0_7))) (chunk (k0_pay2 (F := Ideal) x g) (View.ld w r0_8) (View.ld w r0_9) (View.ld v r0_10))) (chunk (k0_pay2 (F := Ideal) x g) (View.ld w r0_11) (View.ld w r0_12) (View.ld v r0_13))) (chunk (k0_pay2 (F := Ideal) x g) (View.ld w r0_14) (View.ld w r0_15) (View.ld v r0_16))) (chunk (k0_pay2 (F := Ideal) x g) (View.ld w r0_17) (View.ld w r0_18) (View.ld v r0_19))) (chunk (k0_pay2 (F := Ideal) x g) (View.ld w r0_20) (View.ld w r0_21) (View.ld v r0_22))) (chunk (k0_pay2 (F := Ideal) x g) (View.ld w r0_23) (View.ld w r0_24) (View.ld v r0_25))) (chunk (k0_pay2 (F := Ideal) x g) (View.ld w r0_26) (View.ld w r0_27) (View.ld v r0_28))) (chunk (k0_pay2 (F := Ideal) x g) (View.ld w r0_29) (View.ld w r0_30) (View.ld v r0_31))) (chunk (k0_pay2 (F := Ideal) x g) (View.ld w r0_32) (View.ld w r0_33) (View.ld v r0_34))

/-- Eleven values added in order to a first one are the first one plus their sum. -/
theorem add_eleven (a : EReal) (f : Fin 11 → EReal) :
    a + f 0 + f 1 + f 2 + f 3 + f 4 + f 5 + f 6 + f 7 + f 8 + f 9 + f 10 = a + ∑ c, f c := by
  simp only [Fin.sum_univ_succ, Fin.sum_univ_zero, add_assoc, add_zero]
  rfl

/-- The payloads of the body, composed, are the eleven chunks. -/
theorem stored_eq (x : Vec Ideal S512x1024 .f32) (g : Vec Ideal S1x1024 .f32) (w : Vec Ideal S1024x5632 .bf16)
    (v : Vec Ideal S2816x1024 .bf16) :
    k0_pay1 (F := Ideal) (k0_pay2 x g)
      (k0_pay11 (k0_pay2 x g)
        (k0_pay9 (k0_pay2 x g)
          (k0_pay7 (k0_pay2 x g)
            (k0_pay3 x g (View.ld w r0_2) (View.ld w r0_3)
              (View.ld v r0_4))
            (k0_pay4 x g (View.ld w r0_5))
            (k0_pay5 x g (View.ld w r0_6))
            (k0_pay6 x g (View.ld w r0_5)) (View.ld v r0_7)
            (View.ld w r0_8) (View.ld w r0_9) (View.ld v r0_10)
            (View.ld w r0_11) (View.ld w r0_12) (View.ld v r0_13))
          (k0_pay8 (View.ld w r0_14)) (View.ld w r0_15) (View.ld v r0_16)
          (View.ld w r0_17) (View.ld w r0_18) (View.ld v r0_19))
        (k0_pay10 (k0_pay2 x g) (View.ld w r0_20) (View.ld w r0_21))
        (View.ld v r0_22) (View.ld w r0_23) (View.ld w r0_24)
        (View.ld v r0_25) (View.ld w r0_26) (View.ld w r0_27)
        (View.ld v r0_28))
      (k0_pay12 (k0_pay2 x g) (View.ld w r0_29)) (View.ld w r0_30)
      (View.ld v r0_31) (View.ld w r0_32) (View.ld w r0_33)
      (View.ld v r0_34) = stored x g w v := by
  simp only [k0_pay1, k0_pay3, k0_pay4, k0_pay5, k0_pay6, k0_pay7, k0_pay8, k0_pay9, k0_pay10, k0_pay11, k0_pay12, shapeCast_self,
    stored, chunk]

/-- The stored value at one element is the token's element plus the sum of the 2816 hidden columns' terms. -/
theorem stored_at (x : FVec Ideal S512x1024 .f32) (g : FVec Ideal S1x1024 .f32) (w : Vec Ideal S1024x5632 .bf16)
    (v : Vec Ideal S2816x1024 .bf16) (y : S512x1024.Idx) :
    stored x g w v y = x y + ∑ j : Fin 2816, term (fun k => x (ix2 (y 0) k)) (fun k => g (ix2 0 k))
          (fun k => w (ix2 k ⟨j.val, by omega⟩)) (fun k => w (ix2 k ⟨2816 + j.val, by omega⟩)) (v (ix2 j (y 1))) := by
  rw [Fin.sum_univ_tiles 11 256 (by norm_num), ← add_eleven]
  simp only [stored, addf_apply, Ideal.addf_def, chunk_at]
  simp only [term, prod, rinv]
  blk_point []
  all_goals
    rw [View.ld_apply]
    congr 1
    funext a
    apply Fin.ext
    rw [Rect.idx_unit_val]
    fin_cases a <;> simp <;> omega

/-- Every window's block index. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

variable (m : (ℓ : Loc nD τ sig) → Buf (Elt Ideal) ℓ)

/-- What the body stores at a block index is the reference at the array index it sits at. -/
theorem point (c : Dev nD) (t : Fin cfg0.N) (y) :
    stored (iblk m c 0 t) (iblk m c 1 t) (iblk m c 2 t) (iblk m c 3 t) y
      = Cert.FfnRefIdeal.Whole.REF (m ((c : Thread nD τ).loc main_arg0)) (m ((c : Thread nD τ).loc main_arg1)) (m ((c : Thread nD τ).loc main_arg2))
          (m ((c : Thread nD τ).loc main_arg3)) (((cfg0.win 4).blk t).view.emb y) := by
  rw [ref_at]
  refine (stored_at _ _ _ _ y).trans ?_
  simp only [term, prod, rinv]
  blk_point [iblk, V, idx t]

/-- The result array after the run is the reference's. -/
theorem final (c : Dev nD) : (dats m 0 c).arrAt 4 (cfgs 0).N
    = Cert.FfnRefIdeal.Whole.REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp; rw [after0_4]; unfold_out out0_4; frame_out
  exact (congrFun (stored_eq _ _ _ _) y).trans (point m c t y)

end Cert.FfnIdeal.RefValue

end
-- ==== Proof.MergeValue.lean ====
module

public import proofs.«01_k».proof.Proof.Gen.MergeIdeal.Frame
public import proofs.«01_k».proof.Proof.Gen.MergeRefIdeal.Run
public import Idealize.ShloMosaic.Lib.Pipeline.ValueKit
public import Idealize.ShloMosaic.Lib.Pointwise

@[expose] public section

set_option maxRecDepth 16384

noncomputable section

namespace Cert.MergeRefIdeal.Whole
open Idealize.ShloMosaic Idealize.ShloMosaic.TcCoe Idealize.SL.Sem
open Cert.MergeRefIdeal Cert.MergeRefIdeal.Gen

/-- The gated merge's reference result as one term over its seven arguments: the three branches, the projections, the tokens, the branch weights, the output weights. -/
abbrev REF (a0 : FVec Ideal S32768x512 .bf16) (a1 : FVec Ideal S32768x512 .bf16) (a2 : FVec Ideal S32768x512 .bf16) (a3 : FVec Ideal S32768x6016 .bf16) (a4 : FVec Ideal S32768x1024 .f32) (a5 : FVec Ideal S3x512x1024 .f32) (a6 : FVec Ideal S1024x1024 .f32) :
    FVec Ideal S32768x1024 .f32 :=
  addf a4 (Host.dotGeneral dot_S32768x1024_S1024x1024_S32768x1024_1_0_0_1_n_n none (Host.reduceAdd (mulf (Host.divf (broadcastInDim S32768x3x1024 ![] bcast_S_S32768x3x1024 (constant S_ .f32 0x3F800000#32)) (addf (broadcastInDim S32768x3x1024 ![] bcast_S_S32768x3x1024 (constant S_ .f32 0x3F800000#32)) (Host.exp (Host.negf (shapeCast _ (extf .f32 (extractStridedSlice S32768x3072 ![0, 0] a3 slices_S32768x6016_S32768x3072_0_0) bitsLt_bf16_f32) shapeCasts_S32768x3072_S32768x3x1024))))) (transpose S32768x3x1024 [2, 0, 1] (Host.dotGeneral dot_S3x512x1024_S32768x3x512_S3x1024x32768_1_2_2_0_0_1 none a5 ((concatenate S32768x3x512 1 [⟨S32768x1x512, ((broadcastInDim S32768x1x512 ![0, 2] bcast_S32768x512_S32768x1x512_0_2 (extf .f32 a0 bitsLt_bf16_f32)))⟩, ⟨S32768x1x512, ((broadcastInDim S32768x1x512 ![0, 2] bcast_S32768x512_S32768x1x512_0_2 (extf .f32 a1 bitsLt_bf16_f32)))⟩, ⟨S32768x1x512, ((broadcastInDim S32768x1x512 ![0, 2] bcast_S32768x512_S32768x1x512_0_2 (extf .f32 a2 bitsLt_bf16_f32)))⟩] concatenates_S32768x1x512_S32768x1x512_S32768x1x512_S32768x3x512_d1))) transposes_S3x1024x32768_S32768x3x1024_2_0_1)) (constant S_ .f32 0x00000000#32) reducesTo_S32768x3x1024_S32768x1024_d1 h_S_) a6)

end Cert.MergeRefIdeal.Whole

namespace Cert.MergeIdeal.RefValue
open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-- One branch's part of a merged element: the branch's row times one column of its weights, times the gate. -/
def part (gate : EReal) (o w : Fin 512 → EReal) : EReal := Ideal.logistic gate * ∑ k, o k * w k

/-- The reference at one element: the token's element plus the merged row times one column of the output weights. -/
theorem ref_at (a0 a1 a2 : FVec Ideal Cert.MergeRefIdeal.S32768x512 .bf16) (a3 : FVec Ideal Cert.MergeRefIdeal.S32768x6016 .bf16)
    (a4 : FVec Ideal Cert.MergeRefIdeal.S32768x1024 .f32) (a5 : FVec Ideal Cert.MergeRefIdeal.S3x512x1024 .f32)
    (a6 : FVec Ideal Cert.MergeRefIdeal.S1024x1024 .f32) (y : Cert.MergeRefIdeal.S32768x1024.Idx) :
    Cert.MergeRefIdeal.Whole.REF a0 a1 a2 a3 a4 a5 a6 y
      = a4 y + ∑ x : Fin 1024,
          (part (a3 (ix2 (y 0) ⟨x.val, by omega⟩)) (fun k => a0 (ix2 (y 0) k)) (fun k => a5 (ix3 0 k x))
            + part (a3 (ix2 (y 0) ⟨1024 + x.val, by omega⟩)) (fun k => a1 (ix2 (y 0) k)) (fun k => a5 (ix3 1 k x))
            + part (a3 (ix2 (y 0) ⟨2048 + x.val, by omega⟩)) (fun k => a2 (ix2 (y 0) k)) (fun k => a5 (ix3 2 k x)))
          * a6 (ix2 x (y 1)) := by
  pointwise [Cert.MergeRefIdeal.Whole.REF, part, Ideal.logistic]
  have h0 : ((0 : Fin 3) : Nat) = 0 := rfl
  have h1 : ((1 : Fin 3) : Nat) = 1 := rfl
  have h2 : ((2 : Fin 3) : Nat) = 2 := rfl
  simp only [Fin.sum_univ_three, h0, h1, h2, Nat.reduceMul, Nat.reduceSub, Nat.zero_add, Nat.reduceLT, dif_pos, dif_neg, lt_irrefl,
    not_false_eq_true, mul_comm (a5 _) _, Nat.one_mul, Nat.zero_mul]

/-- Every window's block index. -/
theorem idx : ∀ t : Fin cfg0.N, win0_0.index t = ![t.val, 0] ∧ win0_1.index t = ![t.val, 0] ∧ win0_2.index t = ![t.val, 0]
    ∧ win0_4.index t = ![t.val, 0] ∧ win0_5.index t = ![0, 0, 0] ∧ win0_6.index t = ![0, 0] ∧ win0_7.index t = ![t.val, 0] :=
  (by decide +kernel : ∀ t : Fin grid0.N, _)

/-- Window 3, the first 3072 columns of the projections, is never cut: its block at one index is the array at that row. -/
theorem x3_at (c : Dev nD) (t : Fin cfg0.N) (y : S512x3072.Idx) :
    X0_3 m c t y = m ((c : Thread nD τ).loc main_arg3)
      (ix2 ⟨512 * t.val + (y 0).val, by have h1 : t.val < 64 := t.isLt; have h2 : (y 0).val < 512 := (y 0).isLt; omega⟩ ⟨(y 1).val, by have h2 : (y 1).val < 3072 := (y 1).isLt; omega⟩) := by
  have hclip : ∀ t : Fin grid0.N, ∀ a, (win0 3).clip (grid0.coords t) a = none := by decide +kernel
  have hidx : ∀ t : Fin grid0.N, (win0 3).index t = ![t.val, 0] := by decide +kernel
  have hm : (win0 3).moved (grid0.coords t) y = true :=
    ((win0 3).moved_iff _ y).mpr fun a => by have := (y a).isLt; unfold Pipeline.Window.xsize; rw [hclip t a]; exact this
  unfold X0_3 Pipeline.Window.fill
  rw [dif_pos hm]
  refine congrArg (m ((c : Thread nD τ).loc main_arg3)) ?_
  funext a
  apply Fin.ext
  show (win0 3).kind.off ((win0 3).index t a) ((win0 3).size a) + 1 * (y a).val = _
  rw [hidx t]
  fin_cases a
  · show t.val * 512 + 1 * (y 0).val = 512 * t.val + (y 0).val
    omega
  · show 0 * 3072 + 1 * (y 1).val = (y 1).val
    omega

/-- The result array after the run is the reference's. -/
theorem final (c : Dev nD) : (dats m 0 c).arrAt 7 (cfgs 0).N
    = Cert.MergeRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp; rw [after0_7]; unfold Gen.outsAt0; frame_out
  rw [ref_at]
  pointwise [k0_pay1, k0_pay2, k0_pay3, part]
  simp only [x3_at]
  blk_point [iblk, V, idx t]

end Cert.MergeIdeal.RefValue

end
-- ==== Proof.MAttnRefValue.lean ====
module

public import proofs.«01_k».proof.Proof.Gen.MAttnRefIdeal.Run
public import Idealize.ShloMosaic.Lib.Pipeline.ValueKit
public import Idealize.ShloMosaic.Lib.Pointwise

@[expose] public section

set_option maxRecDepth 16384

noncomputable section

namespace Cert.MAttnRefIdeal.Whole
open Idealize.ShloMosaic Idealize.ShloMosaic.TcCoe Idealize.SL.Sem
open Cert.MAttnRefIdeal Cert.MAttnRefIdeal.Gen

/-- The queries by batch, position, head and lane. -/
def QH (a0 : FVec Ideal S32768x6016 .bf16) : FVec Ideal S8x4096x4x128 .f32 :=
  shapeCast _ (extf .f32 (extractStridedSlice S32768x512 ![0, 3584] a0 slices_S32768x6016_S32768x512_0_3584) bitsLt_bf16_f32) shapeCasts_S32768x512_S8x4096x4x128

/-- The keys by batch, memory slot, head and lane. -/
def KH (a1 : FVec Ideal S2048x1024 .bf16) : FVec Ideal S8x256x4x128 .f32 :=
  shapeCast _ (extf .f32 (extractStridedSlice S2048x512 ![0, 0] a1 slices_S2048x1024_S2048x512_0_0) bitsLt_bf16_f32) shapeCasts_S2048x512_S8x256x4x128

/-- The values by batch, memory slot, head and lane. -/
def VH (a1 : FVec Ideal S2048x1024 .bf16) : FVec Ideal S8x256x4x128 .f32 :=
  shapeCast _ (extf .f32 (extractStridedSlice S2048x512 ![0, 512] a1 slices_S2048x1024_S2048x512_0_512) bitsLt_bf16_f32) shapeCasts_S2048x512_S8x256x4x128

/-- The products of the queries and the keys. -/
def DT (a0 : FVec Ideal S32768x6016 .bf16) (a1 : FVec Ideal S2048x1024 .bf16) : FVec Ideal S8x4x4096x256 .f32 :=
  Host.dotGeneral dot_S8x4096x4x128_S8x256x4x128_S8x4x4096x256_3_3_1_1_02_02 none (QH a0) (KH a1)

/-- The root of 128, everywhere. -/
def CS : FVec Ideal S8x4x4096x256 .f32 :=
  broadcastInDim S8x4x4096x256 ![] bcast_S_S8x4x4096x256 (Host.sqrt (constant S_ .f32 0x43000000#32))

/-- The reference's scaled scores, as one term over the projections and the memory's keys and values. -/
def SC (a0 : FVec Ideal S32768x6016 .bf16) (a1 : FVec Ideal S2048x1024 .bf16) : FVec Ideal S8x4x4096x256 .f32 :=
  Host.divf (DT a0 a1) CS

/-- The reference's row maxima of the scores. -/
def MRof (X : FVec Ideal S8x4x4096x256 .f32) : FVec Ideal S8x4x4096 .f32 :=
  Host.reduce FloatOps.maximumf X (constant S_ .f32 0xFF800000#32) reducesTo_S8x4x4096x256_S8x4x4096_d3 h_S_

/-- The row maxima, at least minus infinity. -/
def MXof (M : FVec Ideal S8x4x4096 .f32) : FVec Ideal S8x4x4096 .f32 :=
  maximumf (broadcastInDim S8x4x4096 ![] bcast_S_S8x4x4096 (constant S_ .f32 0xFF800000#32)) M

/-- The reference's exponentials of the shifted scores. -/
def EXof (X : FVec Ideal S8x4x4096x256 .f32) : FVec Ideal S8x4x4096x256 .f32 :=
  Host.exp (subf X (broadcastInDim S8x4x4096x256 ![0, 1, 2, 3] bcast_S8x4x4096x1_S8x4x4096x256_0_1_2_3 (broadcastInDim S8x4x4096x1 ![0, 1, 2] bcast_S8x4x4096_S8x4x4096x1_0_1_2 (MXof (MRof X)))))

/-- The reference's output from its exponentials `E` and its values `W`. -/
def OUTof (E : FVec Ideal S8x4x4096x256 .f32) (W : FVec Ideal S8x256x4x128 .f32) : FVec Ideal S32768x512 .bf16 :=
  truncf .bf16 (shapeCast _ (transpose S8x4096x4x128 [0, 3, 1, 2] (Host.dotGeneral dot_S8x256x4x128_S8x4x4096x256_S8x4x128x4096_1_3_3_2_02_01 none W (Host.divf E (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd E (constant S_ .f32 0x00000000#32) reducesTo_S8x4x4096x256_S8x4x4096_d3 h_S_))))) transposes_S8x4x128x4096_S8x4096x4x128_0_3_1_2) shapeCasts_S8x4096x4x128_S32768x512) bitsLt_bf16_f32

/-- The memory attention's reference result as one term over the projections and the memory's keys and values. -/
def REF (a0 : FVec Ideal S32768x6016 .bf16) (a1 : FVec Ideal S2048x1024 .bf16) : FVec Ideal S32768x512 .bf16 :=
  OUTof (EXof (SC a0 a1)) (VH a1)

/-- One softmax attention as the reference writes it, from scores `s` and values `v`: the values weighted by the normalised exponentials. -/
def attn (s v : Fin 256 → EReal) : EReal :=
  ∑ j, v j * Ideal.div (Ideal.exp (s j - max (Ideal.ofBits FTy.f32 0xFF800000#32) (Finset.univ.fold max (Ideal.ofBits FTy.f32 0xFF800000#32) s)))
    (∑ i, Ideal.exp (s i - max (Ideal.ofBits FTy.f32 0xFF800000#32) (Finset.univ.fold max (Ideal.ofBits FTy.f32 0xFF800000#32) s)))

/-- A query element. -/
theorem qh_at (a0 : FVec Ideal S32768x6016 .bf16) (b : Fin 8) (s : Fin 4096) (h : Fin 4) (d : Fin 128) :
    QH a0 (ix4 b s h d) = a0 (ix2 ⟨b.val * 4096 + s.val, by omega⟩ ⟨3584 + (h.val * 128 + d.val), by omega⟩) := by
  pointwise [QH]

/-- A key element. -/
theorem kh_at (a1 : FVec Ideal S2048x1024 .bf16) (b : Fin 8) (j : Fin 256) (h : Fin 4) (d : Fin 128) :
    KH a1 (ix4 b j h d) = a1 (ix2 ⟨b.val * 256 + j.val, by omega⟩ ⟨h.val * 128 + d.val, by omega⟩) := by
  pointwise [KH]

/-- A value element. -/
theorem vh_at (a1 : FVec Ideal S2048x1024 .bf16) (b : Fin 8) (j : Fin 256) (h : Fin 4) (d : Fin 128) :
    VH a1 (ix4 b j h d) = a1 (ix2 ⟨b.val * 256 + j.val, by omega⟩ ⟨512 + (h.val * 128 + d.val), by omega⟩) := by
  pointwise [VH]

/-- A product of a query and a key. -/
theorem dt_at (a0 : FVec Ideal S32768x6016 .bf16) (a1 : FVec Ideal S2048x1024 .bf16) (b : Fin 8) (h : Fin 4) (s : Fin 4096) (j : Fin 256) :
    DT a0 a1 (ix4 b h s j) = ∑ d : Fin 128, QH a0 (ix4 b s h d) * KH a1 (ix4 b j h d) := by
  pointwise [DT]

/-- The divisor of every score. -/
theorem cs_at (b : Fin 8) (h : Fin 4) (s : Fin 4096) (j : Fin 256) :
    CS (ix4 b h s j) = Ideal.sqrt (Ideal.ofBits FTy.f32 0x43000000#32) := by
  pointwise [CS]

/-- A score of the reference: the product of a query and a key, divided by the root of 128. -/
theorem sc_at (a0 : FVec Ideal S32768x6016 .bf16) (a1 : FVec Ideal S2048x1024 .bf16) (b : Fin 8) (h : Fin 4) (s : Fin 4096) (j : Fin 256) :
    SC a0 a1 (ix4 b h s j)
      = Ideal.div (∑ d : Fin 128, QH a0 (ix4 b s h d) * KH a1 (ix4 b j h d)) (Ideal.sqrt (Ideal.ofBits FTy.f32 0x43000000#32)) := by
  rw [← dt_at, ← cs_at b h s j]
  rfl

/-- A row maximum of the reference. -/
theorem mr_at (X : FVec Ideal S8x4x4096x256 .f32) (b : Fin 8) (h : Fin 4) (s : Fin 4096) :
    MRof X (ix3 b h s) = Finset.univ.fold max (Ideal.ofBits FTy.f32 0xFF800000#32) fun j => X (ix4 b h s j) := by
  pointwise [MRof]

/-- A row maximum, at least minus infinity. -/
theorem mx_at (M : FVec Ideal S8x4x4096 .f32) (b : Fin 8) (h : Fin 4) (s : Fin 4096) :
    MXof M (ix3 b h s) = max (Ideal.ofBits FTy.f32 0xFF800000#32) (M (ix3 b h s)) := by
  pointwise [MXof]

/-- An exponential of the reference. -/
theorem ex_at (X : FVec Ideal S8x4x4096x256 .f32) (b : Fin 8) (h : Fin 4) (s : Fin 4096) (j : Fin 256) :
    EXof X (ix4 b h s j) = Ideal.exp (X (ix4 b h s j) - MXof (MRof X) (ix3 b h s)) := by
  pointwise [EXof]

/-- The reference at one element, from its exponentials. -/
theorem out_at (E : FVec Ideal S8x4x4096x256 .f32) (W : FVec Ideal S8x256x4x128 .f32) (r : Fin 32768) (e : Fin 512) :
    OUTof E W (ix2 r e)
      = ∑ j : Fin 256, W (ix4 ⟨r.val / 4096, by omega⟩ j ⟨e.val / 128, by omega⟩ ⟨e.val % 128, by omega⟩)
          * Ideal.div (E (ix4 ⟨r.val / 4096, by omega⟩ ⟨e.val / 128, by omega⟩ ⟨r.val % 4096, by omega⟩ j))
            (∑ i : Fin 256, E (ix4 ⟨r.val / 4096, by omega⟩ ⟨e.val / 128, by omega⟩ ⟨r.val % 4096, by omega⟩ i)) := by
  pointwise [OUTof]

/-- The reference at one element is a softmax attention over its scores and the element's column of values. -/
theorem ref_at (a0 : FVec Ideal S32768x6016 .bf16) (a1 : FVec Ideal S2048x1024 .bf16) (r : Fin 32768) (e : Fin 512) :
    REF a0 a1 (ix2 r e)
      = attn (fun j => SC a0 a1 (ix4 ⟨r.val / 4096, by omega⟩ ⟨e.val / 128, by omega⟩ ⟨r.val % 4096, by omega⟩ j))
          (fun j => VH a1 (ix4 ⟨r.val / 4096, by omega⟩ j ⟨e.val / 128, by omega⟩ ⟨e.val % 128, by omega⟩)) := by
  rw [REF, out_at]
  simp only [ex_at, mx_at, mr_at, attn]

end Cert.MAttnRefIdeal.Whole

end
-- ==== Proof.MAttnValue.lean ====
module

public import proofs.«01_k».proof.Proof.Gen.MAttnIdeal.Frame
public import proofs.«01_k».proof.Defs
public import proofs.«01_k».proof.Proof.MAttnRefValue
public import proofs.«01_k».proof.Proof.Softmax
public import Idealize.ShloMosaic.Lib.Pipeline.ValueKit
public import Idealize.ShloMosaic.Lib.Pointwise

@[expose] public section

set_option maxRecDepth 16384

noncomputable section

namespace Cert.MAttnIdeal.RefValue
open Idealize.ShloMosaic Idealize.ShloMosaic.TcCoe Idealize.SL.Sem
open Idealize.ShloMosaic.Pipeline (Dat)
open Cert.MAttnIdeal Cert.MAttnIdeal.Gen

variable (m : (ℓ : Loc nD τ sig) → Buf (Elt Ideal) ℓ)

/-- One softmax attention as the kernel writes it: the values weighted by the exponentials, the sum scaled by the reciprocal of the exponentials' sum. -/
def attn (s v : Fin 256 → EReal) : EReal :=
  (∑ j, Ideal.exp (s j - Finset.univ.fold max (Ideal.ofBits FTy.f32 0xFF800000#32) s) * v j)
    * Ideal.div 1 (∑ i, Ideal.exp (s i - Finset.univ.fold max (Ideal.ofBits FTy.f32 0xFF800000#32) s))

/-- A score of the kernel: the product of a query and a key, times the named constant. -/
def score (q k : Fin 128 → EReal) : EReal := (∑ d, q d * k d) * (Named.named κ "s" 0x3DB504F3#32 : Ideal .f32)

/-- The named constant is the reciprocal root of 128. -/
theorem scale : (Named.named κ "s" 0x3DB504F3#32 : Ideal .f32) = (((Real.sqrt 128)⁻¹ : ℝ) : EReal) := rfl

/-- The first head's stored value at one element. -/
theorem head0_at (q : FVec Ideal S512x128 .bf16) (k v : FVec Ideal S256x128 .bf16) (y : S512x128.Idx) :
    k0_pay2 (F := Ideal) q k v y = attn (fun j => score (fun d => q (ix2 (y 0) d)) (fun d => k (ix2 j d))) (fun j => v (ix2 j (y 1))) := by
  pointwise [k0_pay2, attn, score]

/-- The second head's stored value at one element. -/
theorem head1_at (q : FVec Ideal S512x128 .bf16) (k v : FVec Ideal S256x128 .bf16) (y : S512x128.Idx) :
    k0_pay6 (F := Ideal) (k0_pay4 q k) (k0_pay5 q k) v y
      = attn (fun j => score (fun d => q (ix2 (y 0) d)) (fun d => k (ix2 j d))) (fun j => v (ix2 j (y 1))) := by
  pointwise [k0_pay6, k0_pay5, k0_pay4, k0_pay3, attn, score]

/-- The third head's stored value at one element. -/
theorem head2_at (q : FVec Ideal S512x128 .bf16) (k v : FVec Ideal S256x128 .bf16) (y : S512x128.Idx) :
    k0_pay7 (F := Ideal) q k v y = attn (fun j => score (fun d => q (ix2 (y 0) d)) (fun d => k (ix2 j d))) (fun j => v (ix2 j (y 1))) := by
  pointwise [k0_pay7, attn, score]

/-- The fourth head's stored value at one element. -/
theorem head3_at (q : FVec Ideal S512x128 .bf16) (k v : FVec Ideal S256x128 .bf16) (y : S512x128.Idx) :
    k0_pay1 (F := Ideal) (k0_pay8 q k) k0_pay9 v y
      = attn (fun j => score (fun d => q (ix2 (y 0) d)) (fun d => k (ix2 j d))) (fun j => v (ix2 j (y 1))) := by
  pointwise [k0_pay1, k0_pay8, k0_pay9, attn, score]

/-- The two ways of writing an attention agree where its scores are real. -/
theorem attn_eq (s v : Fin 256 → EReal) (hs : ∀ j, Softmax.IsReal (s j)) : attn s v = Cert.MAttnRefIdeal.Whole.attn s v := by
  unfold attn Cert.MAttnRefIdeal.Whole.attn
  rw [Softmax.ofBits_bot, max_eq_right bot_le]
  exact Softmax.normalise s v hs _ (Softmax.isReal_fold s hs)

/-- A score of real queries and keys is real. -/
theorem isReal_score (q k : Fin 128 → EReal) (hq : ∀ d, Softmax.IsReal (q d)) (hk : ∀ d, Softmax.IsReal (k d)) :
    Softmax.IsReal (score q k) := by
  unfold score
  rw [scale]
  exact (Softmax.isReal_sum _ _ fun d => (hq d).mul (hk d)).mul ⟨_, rfl⟩

/-- The reference at one element, in the kernel's form, where the queries and the keys are real. -/
theorem ref_eq (a0 : FVec Ideal S32768x6016 .bf16) (a1 : FVec Ideal S2048x1024 .bf16)
    (hq : ∀ (r : Fin 32768) (e : Fin 512), Softmax.IsReal (a0 (ix2 r ⟨3584 + e.val, by omega⟩)))
    (hk : ∀ (r : Fin 2048) (e : Fin 512), Softmax.IsReal (a1 (ix2 r ⟨0 + e.val, by omega⟩))) (r : Fin 32768) (e : Fin 512) :
    Cert.MAttnRefIdeal.Whole.REF a0 a1 (ix2 r e)
      = attn (fun j => score (fun d => a0 (ix2 r ⟨3584 + (e.val / 128 * 128 + d.val), by omega⟩))
            (fun d => a1 (ix2 ⟨r.val / 4096 * 256 + j.val, by omega⟩ ⟨e.val / 128 * 128 + d.val, by omega⟩)))
          (fun j => a1 (ix2 ⟨r.val / 4096 * 256 + j.val, by omega⟩ ⟨512 + e.val, by omega⟩)) := by
  have hr : ∀ h, (⟨r.val / 4096 * 4096 + r.val % 4096, h⟩ : Fin 32768) = r := fun h => Fin.ext (Nat.div_add_mod' r.val 4096)
  have he : ∀ h, (⟨512 + (e.val / 128 * 128 + e.val % 128), h⟩ : Fin 1024) = ⟨512 + e.val, by omega⟩ := fun h =>
    Fin.ext (by show 512 + (e.val / 128 * 128 + e.val % 128) = 512 + e.val; omega)
  rw [Cert.MAttnRefIdeal.Whole.ref_at, attn_eq]
  · refine congrArg₂ _ (funext fun j => ?_) (funext fun j => ?_)
    · rw [Cert.MAttnRefIdeal.Whole.sc_at, Softmax.div_sqrt_128, score, scale]
      simp only [Cert.MAttnRefIdeal.Whole.qh_at, Cert.MAttnRefIdeal.Whole.kh_at, hr]
    · rw [Cert.MAttnRefIdeal.Whole.vh_at]
      simp only [he]
  · intro j
    refine isReal_score _ _ (fun d => ?_) (fun d => ?_)
    · exact hq r ⟨e.val / 128 * 128 + d.val, by omega⟩
    · have h := hk ⟨r.val / 4096 * 256 + j.val, by omega⟩ ⟨e.val / 128 * 128 + d.val, by omega⟩
      simp only [Nat.zero_add] at h
      exact h

/-- The reference at one element of its result, in the kernel's form. -/
theorem ref_eq' (a0 : FVec Ideal S32768x6016 .bf16) (a1 : FVec Ideal S2048x1024 .bf16)
    (hq : ∀ (r : Fin 32768) (e : Fin 512), Softmax.IsReal (a0 (ix2 r ⟨3584 + e.val, by omega⟩)))
    (hk : ∀ (r : Fin 2048) (e : Fin 512), Softmax.IsReal (a1 (ix2 r ⟨0 + e.val, by omega⟩))) (i : S32768x512.Idx) :
    Cert.MAttnRefIdeal.Whole.REF a0 a1 i
      = attn (fun j => score (fun d => a0 (ix2 (i 0) ⟨3584 + ((i 1).val / 128 * 128 + d.val), by
                have h1 : (i 1).val < 512 := (i 1).isLt; omega⟩))
            (fun d => a1 (ix2 ⟨(i 0).val / 4096 * 256 + j.val, by have h1 : (i 0).val < 32768 := (i 0).isLt; omega⟩
              ⟨(i 1).val / 128 * 128 + d.val, by have h1 : (i 1).val < 512 := (i 1).isLt; omega⟩)))
          (fun j => a1 (ix2 ⟨(i 0).val / 4096 * 256 + j.val, by have h1 : (i 0).val < 32768 := (i 0).isLt; omega⟩
            ⟨512 + (i 1).val, by have h1 : (i 1).val < 512 := (i 1).isLt; omega⟩)) :=
  (congrArg _ (eq_ix2 i)).trans (ref_eq a0 a1 hq hk (i 0) (i 1))

/-- Each window's block at a grid point. -/
theorem idx : ∀ t : Fin cfg0.N, win0_1.index t = ![t.val / 8, 0] ∧ win0_2.index t = ![t.val / 8, 1] ∧ win0_3.index t = ![t.val, 0] :=
  (by decide +kernel : ∀ t : Fin grid0.N, _)

/-- The query window at a grid point: its rows of the query columns. -/
theorem x0_at (c : Dev nD) (t : Fin cfg0.N) (y : S512x512.Idx) :
    X0_0 m c t y = m ((c : Thread nD τ).loc main_arg0)
      (ix2 ⟨512 * t.val + (y 0).val, by have h1 : t.val < 64 := t.isLt; have h2 : (y 0).val < 512 := (y 0).isLt; omega⟩
        ⟨3584 + (y 1).val, by have h2 : (y 1).val < 512 := (y 1).isLt; omega⟩) := by
  have hclip : ∀ t : Fin grid0.N, ∀ a, (win0 0).clip (grid0.coords t) a = none := by decide +kernel
  have hidx : ∀ t : Fin grid0.N, (win0 0).index t = ![t.val, 7] := by decide +kernel
  have hm : (win0 0).moved (grid0.coords t) y = true :=
    ((win0 0).moved_iff _ y).mpr fun a => by have := (y a).isLt; unfold Pipeline.Window.xsize; rw [hclip t a]; exact this
  unfold X0_0 Pipeline.Window.fill
  rw [dif_pos hm]
  refine congrArg (m ((c : Thread nD τ).loc main_arg0)) ?_
  funext a
  apply Fin.ext
  show (win0 0).kind.off ((win0 0).index t a) ((win0 0).size a) + 1 * (y a).val = _
  rw [hidx t]
  fin_cases a
  · show t.val * 512 + 1 * (y 0).val = 512 * t.val + (y 0).val
    omega
  · show 7 * 512 + 1 * (y 1).val = 3584 + (y 1).val
    omega

/-- Where the precondition holds the queries are real. -/
theorem q_real [Cert.Pre_finite_scores_m.Facts] (h : Cert.Pre_MAttnIdeal_finite_scores_m m) (c : Dev nD) (r : Fin 32768) (e : Fin 512) :
    Softmax.IsReal ((m ((c : Thread nD τ).loc main_arg0)) (ix2 r ⟨3584 + e.val, by omega⟩)) := by
  have h1 := congrFun (h c).1 (ix2 r e)
  unfold Cert.Pre_finite_scores_m.fn at h1
  refine Softmax.isReal_of_abs (φ := .bf16) (Eq.trans ?_ h1)
  pointwise []
  rfl

/-- Where the precondition holds the keys are real. -/
theorem k_real [Cert.Pre_finite_scores_m.Facts] (h : Cert.Pre_MAttnIdeal_finite_scores_m m) (c : Dev nD) (r : Fin 2048) (e : Fin 512) :
    Softmax.IsReal ((m ((c : Thread nD τ).loc main_arg1)) (ix2 r ⟨0 + e.val, by omega⟩)) := by
  have h1 := congrFun (h c).2 (ix2 r e)
  unfold Cert.Pre_finite_scores_m.fn at h1
  refine Softmax.isReal_of_abs (φ := .bf16) (Eq.trans ?_ h1)
  pointwise []
  rfl

/-- The key window at a grid point: the memory tokens of the batch, the key columns. -/
theorem k_at (c : Dev nD) (t : Fin cfg0.N) (y : S256x512.Idx) :
    iblk m c 1 t y = m ((c : Thread nD τ).loc main_arg1)
      (ix2 ⟨t.val / 8 * 256 + (y 0).val, by have h1 : t.val < 64 := t.isLt; have h2 : (y 0).val < 256 := (y 0).isLt; omega⟩
        ⟨(y 1).val, by have h2 : (y 1).val < 512 := (y 1).isLt; omega⟩) := by
  blk_point [iblk, V, idx t]

/-- The value window at a grid point: the memory tokens of the batch, the value columns. -/
theorem v_at (c : Dev nD) (t : Fin cfg0.N) (y : S256x512.Idx) :
    iblk m c 2 t y = m ((c : Thread nD τ).loc main_arg1)
      (ix2 ⟨t.val / 8 * 256 + (y 0).val, by have h1 : t.val < 64 := t.isLt; have h2 : (y 0).val < 256 := (y 0).isLt; omega⟩
        ⟨512 + (y 1).val, by have h2 : (y 1).val < 512 := (y 1).isLt; omega⟩) := by
  blk_point [iblk, V, idx t]

/-- The place in the result of an element of a grid point's block. -/
theorem emb_at (t : Fin cfg0.N) (y : S512x512.Idx) :
    ((View.whole main_v0).slice (win0_3.rect t)).emb y
      = ix2 ⟨512 * t.val + (y 0).val, by have h1 : t.val < 64 := t.isLt; have h2 : (y 0).val < 512 := (y 0).isLt; omega⟩ (y 1) := by
  funext a
  apply Fin.ext
  fin_cases a
  · refine Eq.trans (b := 512 * t.val + (y 0).val) ?_ rfl
    blk_simp [idx t]
    exact congrArg (· + (y 0).val) (Nat.mul_comm t.val 512)
  · refine Eq.trans (b := (y 1).val) ?_ rfl
    blk_simp [idx t]
    rfl

/-- One head of a grid point's block is the reference's, where the queries and keys are finite. -/
theorem point [Cert.Pre_finite_scores_m.Facts] (hfin : Cert.Pre_MAttnIdeal_finite_scores_m m) (c : Dev nD) (t : Fin cfg0.N)
    (o k : Nat) (hk : o = 128 * k) (iq : ∀ a, (![0, o] : Fin 2 → Nat) a + (![512, 128] : Fin 2 → Nat) a ≤ S512x512.size a)
    (ik iv : ∀ a, (![0, o] : Fin 2 → Nat) a + (![256, 128] : Fin 2 → Nat) a ≤ S256x512.size a)
    (x : S512x128.Idx) (y : S512x512.Idx) (h0 : (y 0).val = (x 0).val) (h1 : (y 1).val = o + (x 1).val) :
    attn (fun j => score (fun d => View.ld (X0_0 m c t) (Rect.unit ![0, o] ![512, 128] iq) (ix2 (x 0) d))
        (fun d => View.ld (iblk m c 1 t) (Rect.unit ![0, o] ![256, 128] ik) (ix2 j d)))
      (fun j => View.ld (iblk m c 2 t) (Rect.unit ![0, o] ![256, 128] iv) (ix2 j (x 1)))
      = Cert.MAttnRefIdeal.Whole.REF (m ((c : Thread nD τ).loc main_arg0)) (m ((c : Thread nD τ).loc main_arg1))
          (((View.whole main_v0).slice (win0_3.rect t)).emb y) := by
  rw [ref_eq' _ _ (q_real m hfin c) (k_real m hfin c), emb_at t y]
  have ht : t.val < 64 := t.isLt
  have hx0 : (x 0).val < 512 := (x 0).isLt
  have hx1 : (x 1).val < 128 := (x 1).isLt
  refine congrArg₂ attn (funext fun j => congrArg₂ score (funext fun d => ?_) (funext fun d => ?_)) (funext fun j => ?_)
  · refine (x0_at m c t _).trans (congrArg _ (congrArg₂ ix2 (Fin.ext ?_) (Fin.ext ?_)))
    · show 512 * t.val + (0 + 1 * (x 0).val) = 512 * t.val + (y 0).val
      omega
    · show 3584 + (o + 1 * d.val) = 3584 + ((y 1).val / 128 * 128 + d.val)
      omega
  · refine (k_at m c t _).trans (congrArg _ (congrArg₂ ix2 (Fin.ext ?_) (Fin.ext ?_)))
    · show t.val / 8 * 256 + (0 + 1 * j.val) = (512 * t.val + (y 0).val) / 4096 * 256 + j.val
      omega
    · show o + 1 * d.val = (y 1).val / 128 * 128 + d.val
      omega
  · refine (v_at m c t _).trans (congrArg _ (congrArg₂ ix2 (Fin.ext ?_) (Fin.ext ?_)))
    · show t.val / 8 * 256 + (0 + 1 * j.val) = (512 * t.val + (y 0).val) / 4096 * 256 + j.val
      omega
    · show 512 + (o + 1 * (x 1).val) = 512 + (y 1).val
      omega

/-- Where the queries and keys are finite the result array after the run is the reference's. -/
theorem final [Cert.Pre_finite_scores_m.Facts] (hfin : Cert.Pre_MAttnIdeal_finite_scores_m m) (c : Dev nD) : (dats m 0 c).arrAt 3 (cfgs 0).N
    = Cert.MAttnRefIdeal.Whole.REF (m ((c : Thread nD τ).loc main_arg0)) (m ((c : Thread nD τ).loc main_arg1)) := by
  refine (dats m 0 c).arrAt_eq_of_covers 3 _ (by decide +kernel) fun t _ y => ?_
  blk_simp; rw [after0_3]; unfold Gen.outsAt0; frame_out
  canon_tiles x h using View.cover_of_tiledBy _ ![512, 128] (by sl_kernel_rfl) y
  case piece0 =>
    exact (head3_at _ _ _ x).trans (point m hfin c t 384 3 rfl _ _ _ x y (by simpa using h0) (by simpa using h1))
  case piece1 =>
    exact (head2_at _ _ _ x).trans (point m hfin c t 256 2 rfl _ _ _ x y (by simpa using h0) (by simpa using h1))
  case piece2 =>
    exact (head1_at _ _ _ x).trans (point m hfin c t 128 1 rfl _ _ _ x y (by simpa using h0) (by simpa using h1))
  case piece3 =>
    exact (head0_at _ _ _ x).trans (point m hfin c t 0 0 rfl _ _ _ x y (by simpa using h0) (by simpa using h1))

end Cert.MAttnIdeal.RefValue

end
-- ==== Proof.ProjRefValue.lean ====
module

public import proofs.«01_k».proof.Proof.Gen.ProjRefIdeal.Run
public import Idealize.ShloMosaic.Lib.Pipeline.ValueKit
public import Idealize.ShloMosaic.Lib.Pointwise

@[expose] public section

set_option maxRecDepth 16384

noncomputable section

namespace Cert.ProjRefIdeal.Whole
open Idealize.ShloMosaic Idealize.ShloMosaic.TcCoe Idealize.SL.Sem
open Cert.ProjRefIdeal Cert.ProjRefIdeal.Gen

/-- The normed rows times the weights. -/
def PR (a0 : FVec Ideal S32768x1024 .f32) (a1 : FVec Ideal S1024 .f32) (a2 : FVec Ideal S1024x5920 .f32) : FVec Ideal S32768x5920 .f32 :=
  Host.dotGeneral dot_S32768x1024_S1024x5920_S32768x5920_1_0_0_1_n_n none (mulf (mulf a0 (broadcastInDim S32768x1024 ![0, 1] bcast_S32768x1_S32768x1024_0_1 (Host.rsqrt (addf (Host.divf (broadcastInDim S32768x1 ![0] bcast_S32768_S32768x1_0 (Host.reduceAdd (mulf a0 a0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a1))) a2

/-- The gate columns. -/
def CG (X : FVec Ideal S32768x5920 .f32) : FVec Ideal S32768x3072 .f32 :=
  extractStridedSlice S32768x3072 ![0, 2848] X slices_S32768x5920_S32768x3072_0_2848

/-- The windowed queries, normed by head and scaled by one eighth. -/
def QA (X : FVec Ideal S32768x5920 .f32) (a3 : FVec Ideal S64 .f32) : FVec Ideal S32768x512 .f32 :=
  mulf (shapeCast _ (mulf (mulf (shapeCast _ (extractStridedSlice S32768x512 ![0, 0] X slices_S32768x5920_S32768x512_0_0) shapeCasts_S32768x512_S32768x8x64) (broadcastInDim S32768x8x64 ![0, 1, 2] bcast_S32768x8x1_S32768x8x64_0_1_2 (Host.rsqrt (addf (Host.divf (broadcastInDim S32768x8x1 ![0, 1] bcast_S32768x8_S32768x8x1_0_1 (Host.reduceAdd (mulf (shapeCast _ (extractStridedSlice S32768x512 ![0, 0] X slices_S32768x5920_S32768x512_0_0) shapeCasts_S32768x512_S32768x8x64) (shapeCast _ (extractStridedSlice S32768x512 ![0, 0] X slices_S32768x5920_S32768x512_0_0) shapeCasts_S32768x512_S32768x8x64)) (constant S_ .f32 0x00000000#32) reducesTo_S32768x8x64_S32768x8_d2 h_S_)) (broadcastInDim S32768x8x1 ![] bcast_S_S32768x8x1 (constant S_ .f32 0x42800000#32))) (broadcastInDim S32768x8x1 ![] bcast_S_S32768x8x1 (constant S_ .f32 0x358637BD#32)))))) (broadcastInDim S32768x8x64 ![0, 1, 2] bcast_S1x1x64_S32768x8x64_0_1_2 (broadcastInDim S1x1x64 ![2] bcast_S64_S1x1x64_2 a3))) shapeCasts_S32768x8x64_S32768x512) (broadcastInDim S32768x512 ![] bcast_S_S32768x512 (constant S_ .f32 0x3E000000#32))

/-- The memory queries, normed by head. -/
def QM (X : FVec Ideal S32768x5920 .f32) (a4 : FVec Ideal S128 .f32) : FVec Ideal S32768x512 .f32 :=
  shapeCast _ (mulf (mulf (shapeCast _ (extractStridedSlice S32768x512 ![0, 2336] X slices_S32768x5920_S32768x512_0_2336) shapeCasts_S32768x512_S32768x4x128) (broadcastInDim S32768x4x128 ![0, 1, 2] bcast_S32768x4x1_S32768x4x128_0_1_2 (Host.rsqrt (addf (Host.divf (broadcastInDim S32768x4x1 ![0, 1] bcast_S32768x4_S32768x4x1_0_1 (Host.reduceAdd (mulf (shapeCast _ (extractStridedSlice S32768x512 ![0, 2336] X slices_S32768x5920_S32768x512_0_2336) shapeCasts_S32768x512_S32768x4x128) (shapeCast _ (extractStridedSlice S32768x512 ![0, 2336] X slices_S32768x5920_S32768x512_0_2336) shapeCasts_S32768x512_S32768x4x128)) (constant S_ .f32 0x00000000#32) reducesTo_S32768x4x128_S32768x4_d2 h_S_)) (broadcastInDim S32768x4x1 ![] bcast_S_S32768x4x1 (constant S_ .f32 0x43000000#32))) (broadcastInDim S32768x4x1 ![] bcast_S_S32768x4x1 (constant S_ .f32 0x358637BD#32)))))) (broadcastInDim S32768x4x128 ![0, 1, 2] bcast_S1x1x128_S32768x4x128_0_1_2 (broadcastInDim S1x1x128 ![2] bcast_S128_S1x1x128_2 a4))) shapeCasts_S32768x4x128_S32768x512

/-- The windowed keys, normed by head. -/
def KA (X : FVec Ideal S32768x5920 .f32) (a5 : FVec Ideal S64 .f32) : FVec Ideal S32768x128 .f32 :=
  shapeCast _ (mulf (mulf (shapeCast _ (extractStridedSlice S32768x128 ![0, 512] X slices_S32768x5920_S32768x128_0_512) shapeCasts_S32768x128_S32768x2x64) (broadcastInDim S32768x2x64 ![0, 1, 2] bcast_S32768x2x1_S32768x2x64_0_1_2 (Host.rsqrt (addf (Host.divf (broadcastInDim S32768x2x1 ![0, 1] bcast_S32768x2_S32768x2x1_0_1 (Host.reduceAdd (mulf (shapeCast _ (extractStridedSlice S32768x128 ![0, 512] X slices_S32768x5920_S32768x128_0_512) shapeCasts_S32768x128_S32768x2x64) (shapeCast _ (extractStridedSlice S32768x128 ![0, 512] X slices_S32768x5920_S32768x128_0_512) shapeCasts_S32768x128_S32768x2x64)) (constant S_ .f32 0x00000000#32) reducesTo_S32768x2x64_S32768x2_d2 h_S_)) (broadcastInDim S32768x2x1 ![] bcast_S_S32768x2x1 (constant S_ .f32 0x42800000#32))) (broadcastInDim S32768x2x1 ![] bcast_S_S32768x2x1 (constant S_ .f32 0x358637BD#32)))))) (broadcastInDim S32768x2x64 ![0, 1, 2] bcast_S1x1x64_S32768x2x64_0_1_2 (broadcastInDim S1x1x64 ![2] bcast_S64_S1x1x64_2 a5))) shapeCasts_S32768x2x64_S32768x128

/-- The windowed values. -/
def VA (X : FVec Ideal S32768x5920 .f32) : FVec Ideal S32768x128 .f32 :=
  extractStridedSlice S32768x128 ![0, 640] X slices_S32768x5920_S32768x128_0_640

/-- The recurrence’s queries, scaled by one eighth. -/
def QB (X : FVec Ideal S32768x5920 .f32) : FVec Ideal S32768x256 .f32 :=
  mulf (extractStridedSlice S32768x256 ![0, 768] X slices_S32768x5920_S32768x256_0_768) (broadcastInDim S32768x256 ![] bcast_S_S32768x256 (constant S_ .f32 0x3E000000#32))

/-- The recurrence’s keys. -/
def KB (X : FVec Ideal S32768x5920 .f32) : FVec Ideal S32768x256 .f32 :=
  extractStridedSlice S32768x256 ![0, 1024] X slices_S32768x5920_S32768x256_0_1024

/-- The recurrence’s values. -/
def VB (X : FVec Ideal S32768x5920 .f32) : FVec Ideal S32768x512 .f32 :=
  extractStridedSlice S32768x512 ![0, 1280] X slices_S32768x5920_S32768x512_0_1280

/-- The output gates. -/
def GB (X : FVec Ideal S32768x5920 .f32) : FVec Ideal S32768x512 .f32 :=
  extractStridedSlice S32768x512 ![0, 1792] X slices_S32768x5920_S32768x512_0_1792

/-- The rank columns. -/
def LR (X : FVec Ideal S32768x5920 .f32) : FVec Ideal S32768x32 .f32 :=
  extractStridedSlice S32768x32 ![0, 2304] X slices_S32768x5920_S32768x32_0_2304

/-- The padding columns, zero. -/
def ZP : FVec Ideal S32768x96 .f32 :=
  broadcastInDim S32768x96 ![] bcast_S_S32768x96 (constant S_ .f32 0x00000000#32)

/-- The columns side by side. -/
def CAT (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) : FVec Ideal S32768x6016 .f32 :=
  concatenate S32768x6016 1 [⟨S32768x3072, v0⟩, ⟨S32768x512, v1⟩, ⟨S32768x512, v2⟩, ⟨S32768x128, v3⟩, ⟨S32768x128, v4⟩, ⟨S32768x256, v5⟩, ⟨S32768x256, v6⟩, ⟨S32768x512, v7⟩, ⟨S32768x512, v8⟩, ⟨S32768x32, v9⟩, ⟨S32768x96, v10⟩] concatenates_S32768x3072_S32768x512_S32768x512_S32768x128_S32768x128_S32768x256_S32768x256_S32768x512_S32768x512_S32768x32_S32768x96_S32768x6016_d1

/-- The projection's reference result as one term over the input, the norm's gain, the weights and the head norms' gains. -/
def REF (a0 : FVec Ideal S32768x1024 .f32) (a1 : FVec Ideal S1024 .f32) (a2 : FVec Ideal S1024x5920 .f32) (a3 : FVec Ideal S64 .f32) (a4 : FVec Ideal S128 .f32) (a5 : FVec Ideal S64 .f32) : FVec Ideal S32768x6016 .bf16 :=
  truncf .bf16 (CAT (CG (PR a0 a1 a2)) (QA (PR a0 a1 a2) a3) (QM (PR a0 a1 a2) a4) (KA (PR a0 a1 a2) a5) (VA (PR a0 a1 a2)) (QB (PR a0 a1 a2)) (KB (PR a0 a1 a2)) (VB (PR a0 a1 a2)) (GB (PR a0 a1 a2)) (LR (PR a0 a1 a2)) ZP) bitsLt_bf16_f32

/-- The scale of a row: the reciprocal root of its mean square plus the small constant. -/
def rinv (xr : Fin 1024 → EReal) : EReal :=
  Ideal.rsqrt (Ideal.div (∑ x, xr x * xr x) (Ideal.ofBits FTy.f32 1149239296#32) + Ideal.ofBits FTy.f32 897988541#32)

/-- A normed row times one column of weights. -/
def prod (xr g w : Fin 1024 → EReal) : EReal := ∑ k, xr k * rinv xr * g k * w k

/-- One element `q` of a head's 128 elements `p`, normed by the head's mean square, times its gain. -/
def normed (p : Fin 128 → EReal) (q gk : EReal) : EReal :=
  q * Ideal.rsqrt (Ideal.div (∑ x, p x * p x) (Ideal.ofBits FTy.f32 0x43000000#32) + Ideal.ofBits FTy.f32 897988541#32) * gk

/-- The same for a head of 64 elements. -/
def normed64 (p : Fin 64 → EReal) (q gk : EReal) : EReal :=
  q * Ideal.rsqrt (Ideal.div (∑ x, p x * p x) (Ideal.ofBits FTy.f32 0x42800000#32) + Ideal.ofBits FTy.f32 897988541#32) * gk

/-- The projection at one element. -/
theorem PR_at (a0 : FVec Ideal S32768x1024 .f32) (a1 : FVec Ideal S1024 .f32) (a2 : FVec Ideal S1024x5920 .f32) (y : S32768x5920.Idx) :
    PR a0 a1 a2 y = prod (fun j => a0 (ix2 (y 0) j)) (fun j => a1 (ix1 j)) (fun j => a2 (ix2 j (y 1))) := by
  pointwise [PR, prod, rinv]

/-- The windowed queries, normed by head and scaled by one eighth, at one element. -/
theorem QA_at (X : FVec Ideal S32768x5920 .f32) (g : FVec Ideal S64 .f32) (y : S32768x512.Idx) (b : (y 1).val < 512) :
    QA X g y = normed64 (fun k => X (ix2 (y 0) ⟨((y 1).val / 64 * 64 + k.val), by omega⟩)) (X (ix2 (y 0) ⟨(y 1).val, by omega⟩))
      (g (ix1 ⟨(y 1).val % 64, by omega⟩)) * Ideal.ofBits FTy.f32 0x3E000000#32 := by
  pointwise [QA, normed64]

/-- The memory queries, normed by head, at one element. -/
theorem QM_at (X : FVec Ideal S32768x5920 .f32) (g : FVec Ideal S128 .f32) (y : S32768x512.Idx) (b : (y 1).val < 512) :
    QM X g y = normed (fun k => X (ix2 (y 0) ⟨2336 + ((y 1).val / 128 * 128 + k.val), by omega⟩)) (X (ix2 (y 0) ⟨2336 + (y 1).val, by omega⟩))
      (g (ix1 ⟨(y 1).val % 128, by omega⟩)) := by
  pointwise [QM, normed]

/-- The windowed keys, normed by head, at one element. -/
theorem KA_at (X : FVec Ideal S32768x5920 .f32) (g : FVec Ideal S64 .f32) (y : S32768x128.Idx) (b : (y 1).val < 128) :
    KA X g y = normed64 (fun k => X (ix2 (y 0) ⟨512 + ((y 1).val / 64 * 64 + k.val), by omega⟩)) (X (ix2 (y 0) ⟨512 + (y 1).val, by omega⟩))
      (g (ix1 ⟨(y 1).val % 64, by omega⟩)) := by
  pointwise [KA, normed64]

/-- The gate columns, at one element. -/
theorem CG_at (X : FVec Ideal S32768x5920 .f32) (y : S32768x3072.Idx) (b : (y 1).val < 3072) :
    CG X y = X (ix2 (y 0) ⟨2848 + (y 1).val, by omega⟩) := by
  pointwise [CG]

/-- The windowed values, at one element. -/
theorem VA_at (X : FVec Ideal S32768x5920 .f32) (y : S32768x128.Idx) (b : (y 1).val < 128) :
    VA X y = X (ix2 (y 0) ⟨640 + (y 1).val, by omega⟩) := by
  pointwise [VA]

/-- The recurrence’s queries, scaled by one eighth, at one element. -/
theorem QB_at (X : FVec Ideal S32768x5920 .f32) (y : S32768x256.Idx) (b : (y 1).val < 256) :
    QB X y = X (ix2 (y 0) ⟨768 + (y 1).val, by omega⟩) * Ideal.ofBits FTy.f32 0x3E000000#32 := by
  pointwise [QB]

/-- The recurrence’s keys, at one element. -/
theorem KB_at (X : FVec Ideal S32768x5920 .f32) (y : S32768x256.Idx) (b : (y 1).val < 256) :
    KB X y = X (ix2 (y 0) ⟨1024 + (y 1).val, by omega⟩) := by
  pointwise [KB]

/-- The recurrence’s values, at one element. -/
theorem VB_at (X : FVec Ideal S32768x5920 .f32) (y : S32768x512.Idx) (b : (y 1).val < 512) :
    VB X y = X (ix2 (y 0) ⟨1280 + (y 1).val, by omega⟩) := by
  pointwise [VB]

/-- The output gates, at one element. -/
theorem GB_at (X : FVec Ideal S32768x5920 .f32) (y : S32768x512.Idx) (b : (y 1).val < 512) :
    GB X y = X (ix2 (y 0) ⟨1792 + (y 1).val, by omega⟩) := by
  pointwise [GB]

/-- The rank columns, at one element. -/
theorem LR_at (X : FVec Ideal S32768x5920 .f32) (y : S32768x32.Idx) (b : (y 1).val < 32) :
    LR X y = X (ix2 (y 0) ⟨2304 + (y 1).val, by omega⟩) := by
  pointwise [LR]

/-- The padding at one element. -/
theorem ZP_at (y : S32768x96.Idx) : ZP y = 0 := by
  pointwise [ZP]

/-- The columns side by side: The gate columns. -/
theorem CAT_CG (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 3072) (h : q.val = 0 + k.val) :
    CAT v0 v1 v2 v3 v4 v5 v6 v7 v8 v9 v10 (ix2 r q) = v0 (ix2 r k) := by
  pointwise [CAT]
  rw [dif_pos (by omega)]
  exact congrArg v0 (congrArg₂ ix2 rfl (Fin.ext (by show q.val = k.val; omega)))

/-- The columns side by side: The windowed queries, normed by head and scaled by one eighth. -/
theorem CAT_QA (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 512) (h : q.val = 3072 + k.val) :
    CAT v0 v1 v2 v3 v4 v5 v6 v7 v8 v9 v10 (ix2 r q) = v1 (ix2 r k) := by
  pointwise [CAT]
  rw [dif_neg (by omega)]
  rw [dif_pos (by omega)]
  exact congrArg v1 (congrArg₂ ix2 rfl (Fin.ext (by show q.val - 3072 = k.val; omega)))

/-- The columns side by side: The memory queries, normed by head. -/
theorem CAT_QM (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 512) (h : q.val = 3584 + k.val) :
    CAT v0 v1 v2 v3 v4 v5 v6 v7 v8 v9 v10 (ix2 r q) = v2 (ix2 r k) := by
  pointwise [CAT]
  rw [dif_neg (by omega)]
  rw [dif_neg (by omega)]
  rw [dif_pos (by omega)]
  exact congrArg v2 (congrArg₂ ix2 rfl (Fin.ext (by show q.val - 3072 - 512 = k.val; omega)))

/-- The columns side by side: The windowed keys, normed by head. -/
theorem CAT_KA (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 128) (h : q.val = 4096 + k.val) :
    CAT v0 v1 v2 v3 v4 v5 v6 v7 v8 v9 v10 (ix2 r q) = v3 (ix2 r k) := by
  pointwise [CAT]
  rw [dif_neg (by omega)]
  rw [dif_neg (by omega)]
  rw [dif_neg (by omega)]
  rw [dif_pos (by omega)]
  exact congrArg v3 (congrArg₂ ix2 rfl (Fin.ext (by show q.val - 3072 - 512 - 512 = k.val; omega)))

/-- The columns side by side: The windowed values. -/
theorem CAT_VA (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 128) (h : q.val = 4224 + k.val) :
    CAT v0 v1 v2 v3 v4 v5 v6 v7 v8 v9 v10 (ix2 r q) = v4 (ix2 r k) := by
  pointwise [CAT]
  rw [dif_neg (by omega)]
  rw [dif_neg (by omega)]
  rw [dif_neg (by omega)]
  rw [dif_neg (by omega)]
  rw [dif_pos (by omega)]
  exact congrArg v4 (congrArg₂ ix2 rfl (Fin.ext (by show q.val - 3072 - 512 - 512 - 128 = k.val; omega)))

/-- The columns side by side: The recurrence’s queries, scaled by one eighth. -/
theorem CAT_QB (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 256) (h : q.val = 4352 + k.val) :
    CAT v0 v1 v2 v3 v4 v5 v6 v7 v8 v9 v10 (ix2 r q) = v5 (ix2 r k) := by
  pointwise [CAT]
  rw [dif_neg (by omega)]
  rw [dif_neg (by omega)]
  rw [dif_neg (by omega)]
  rw [dif_neg (by omega)]
  rw [dif_neg (by omega)]
  rw [dif_pos (by omega)]
  exact congrArg v5 (congrArg₂ ix2 rfl (Fin.ext (by show q.val - 3072 - 512 - 512 - 128 - 128 = k.val; omega)))

/-- The columns side by side: The recurrence’s keys. -/
theorem CAT_KB (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 256) (h : q.val = 4608 + k.val) :
    CAT v0 v1 v2 v3 v4 v5 v6 v7 v8 v9 v10 (ix2 r q) = v6 (ix2 r k) := by
  pointwise [CAT]
  rw [dif_neg (by omega)]
  rw [dif_neg (by omega)]
  rw [dif_neg (by omega)]
  rw [dif_neg (by omega)]
  rw [dif_neg (by omega)]
  rw [dif_neg (by omega)]
  rw [dif_pos (by omega)]
  exact congrArg v6 (congrArg₂ ix2 rfl (Fin.ext (by show q.val - 3072 - 512 - 512 - 128 - 128 - 256 = k.val; omega)))

/-- The columns side by side: The recurrence’s values. -/
theorem CAT_VB (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 512) (h : q.val = 4864 + k.val) :
    CAT v0 v1 v2 v3 v4 v5 v6 v7 v8 v9 v10 (ix2 r q) = v7 (ix2 r k) := by
  pointwise [CAT]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg v7 (congrArg₂ ix2 rfl (Fin.ext (by show q.val - 3072 - 512 - 512 - 128 - 128 - 256 - 256 = k.val; omega)))

/-- The columns side by side: The output gates. -/
theorem CAT_GB (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 512) (h : q.val = 5376 + k.val) :
    CAT v0 v1 v2 v3 v4 v5 v6 v7 v8 v9 v10 (ix2 r q) = v8 (ix2 r k) := by
  pointwise [CAT]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg v8 (congrArg₂ ix2 rfl (Fin.ext (by show q.val - 3072 - 512 - 512 - 128 - 128 - 256 - 256 - 512 = k.val; omega)))

/-- The columns side by side: The rank columns. -/
theorem CAT_LR (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 32) (h : q.val = 5888 + k.val) :
    CAT v0 v1 v2 v3 v4 v5 v6 v7 v8 v9 v10 (ix2 r q) = v9 (ix2 r k) := by
  pointwise [CAT]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg v9 (congrArg₂ ix2 rfl (Fin.ext (by show q.val - 3072 - 512 - 512 - 128 - 128 - 256 - 256 - 512 - 512 = k.val; omega)))

/-- The columns side by side: The padding columns, zero. -/
theorem CAT_ZP (v0 : FVec Ideal S32768x3072 .f32) (v1 : FVec Ideal S32768x512 .f32) (v2 : FVec Ideal S32768x512 .f32) (v3 : FVec Ideal S32768x128 .f32) (v4 : FVec Ideal S32768x128 .f32) (v5 : FVec Ideal S32768x256 .f32) (v6 : FVec Ideal S32768x256 .f32) (v7 : FVec Ideal S32768x512 .f32) (v8 : FVec Ideal S32768x512 .f32) (v9 : FVec Ideal S32768x32 .f32) (v10 : FVec Ideal S32768x96 .f32) (r : Fin 32768) (q : Fin 6016) (k : Fin 96) (h : q.val = 5920 + k.val) :
    CAT v0 v1 v2 v3 v4 v5 v6 v7 v8 v9 v10 (ix2 r q) = v10 (ix2 r k) := by
  pointwise [CAT]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  exact congrArg v10 (congrArg₂ ix2 rfl (Fin.ext (by show q.val - 3072 - 512 - 512 - 128 - 128 - 256 - 256 - 512 - 512 - 32 = k.val; omega)))

/-- The reference at an element: The gate columns. -/
theorem REF_CG (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 3072) (h : q.val = 0 + k.val) :
    REF a0 a1 a2 a3 a4 a5 (ix2 r q) = prod (fun j => a0 (ix2 r j)) (fun j => a1 (ix1 j)) (fun j => a2 (ix2 j ⟨2848 + k.val, by omega⟩)) := by
  refine (CAT_CG _ _ _ _ _ _ _ _ _ _ _ r q k h).trans ?_
  refine (CG_at _ (ix2 r k) k.isLt).trans ?_
  simp only [PR_at]
  try rfl

/-- The reference at an element: The windowed queries, normed by head and scaled by one eighth. -/
theorem REF_QA (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 512) (h : q.val = 3072 + k.val) :
    REF a0 a1 a2 a3 a4 a5 (ix2 r q) = normed64 (fun x => prod (fun j => a0 (ix2 r j)) (fun j => a1 (ix1 j)) (fun j => a2 (ix2 j ⟨(k.val / 64 * 64 + x.val), by omega⟩))) (prod (fun j => a0 (ix2 r j)) (fun j => a1 (ix1 j)) (fun j => a2 (ix2 j ⟨k.val, by omega⟩))) (a3 (ix1 ⟨k.val % 64, by omega⟩)) * Ideal.ofBits FTy.f32 0x3E000000#32 := by
  refine (CAT_QA _ _ _ _ _ _ _ _ _ _ _ r q k h).trans ?_
  refine (QA_at _ _ (ix2 r k) k.isLt).trans ?_
  simp only [PR_at]
  try rfl

/-- The reference at an element: The memory queries, normed by head. -/
theorem REF_QM (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 512) (h : q.val = 3584 + k.val) :
    REF a0 a1 a2 a3 a4 a5 (ix2 r q) = normed (fun x => prod (fun j => a0 (ix2 r j)) (fun j => a1 (ix1 j)) (fun j => a2 (ix2 j ⟨2336 + (k.val / 128 * 128 + x.val), by omega⟩))) (prod (fun j => a0 (ix2 r j)) (fun j => a1 (ix1 j)) (fun j => a2 (ix2 j ⟨2336 + k.val, by omega⟩))) (a4 (ix1 ⟨k.val % 128, by omega⟩)) := by
  refine (CAT_QM _ _ _ _ _ _ _ _ _ _ _ r q k h).trans ?_
  refine (QM_at _ _ (ix2 r k) k.isLt).trans ?_
  simp only [PR_at]
  try rfl

/-- The reference at an element: The windowed keys, normed by head. -/
theorem REF_KA (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 128) (h : q.val = 4096 + k.val) :
    REF a0 a1 a2 a3 a4 a5 (ix2 r q) = normed64 (fun x => prod (fun j => a0 (ix2 r j)) (fun j => a1 (ix1 j)) (fun j => a2 (ix2 j ⟨512 + (k.val / 64 * 64 + x.val), by omega⟩))) (prod (fun j => a0 (ix2 r j)) (fun j => a1 (ix1 j)) (fun j => a2 (ix2 j ⟨512 + k.val, by omega⟩))) (a5 (ix1 ⟨k.val % 64, by omega⟩)) := by
  refine (CAT_KA _ _ _ _ _ _ _ _ _ _ _ r q k h).trans ?_
  refine (KA_at _ _ (ix2 r k) k.isLt).trans ?_
  simp only [PR_at]
  try rfl

/-- The reference at an element: The windowed values. -/
theorem REF_VA (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 128) (h : q.val = 4224 + k.val) :
    REF a0 a1 a2 a3 a4 a5 (ix2 r q) = prod (fun j => a0 (ix2 r j)) (fun j => a1 (ix1 j)) (fun j => a2 (ix2 j ⟨640 + k.val, by omega⟩)) := by
  refine (CAT_VA _ _ _ _ _ _ _ _ _ _ _ r q k h).trans ?_
  refine (VA_at _ (ix2 r k) k.isLt).trans ?_
  simp only [PR_at]
  try rfl

/-- The reference at an element: The recurrence’s queries, scaled by one eighth. -/
theorem REF_QB (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 256) (h : q.val = 4352 + k.val) :
    REF a0 a1 a2 a3 a4 a5 (ix2 r q) = prod (fun j => a0 (ix2 r j)) (fun j => a1 (ix1 j)) (fun j => a2 (ix2 j ⟨768 + k.val, by omega⟩)) * Ideal.ofBits FTy.f32 0x3E000000#32 := by
  refine (CAT_QB _ _ _ _ _ _ _ _ _ _ _ r q k h).trans ?_
  refine (QB_at _ (ix2 r k) k.isLt).trans ?_
  simp only [PR_at]
  try rfl

/-- The reference at an element: The recurrence’s keys. -/
theorem REF_KB (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 256) (h : q.val = 4608 + k.val) :
    REF a0 a1 a2 a3 a4 a5 (ix2 r q) = prod (fun j => a0 (ix2 r j)) (fun j => a1 (ix1 j)) (fun j => a2 (ix2 j ⟨1024 + k.val, by omega⟩)) := by
  refine (CAT_KB _ _ _ _ _ _ _ _ _ _ _ r q k h).trans ?_
  refine (KB_at _ (ix2 r k) k.isLt).trans ?_
  simp only [PR_at]
  try rfl

/-- The reference at an element: The recurrence’s values. -/
theorem REF_VB (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 512) (h : q.val = 4864 + k.val) :
    REF a0 a1 a2 a3 a4 a5 (ix2 r q) = prod (fun j => a0 (ix2 r j)) (fun j => a1 (ix1 j)) (fun j => a2 (ix2 j ⟨1280 + k.val, by omega⟩)) := by
  refine (CAT_VB _ _ _ _ _ _ _ _ _ _ _ r q k h).trans ?_
  refine (VB_at _ (ix2 r k) k.isLt).trans ?_
  simp only [PR_at]
  try rfl

/-- The reference at an element: The output gates. -/
theorem REF_GB (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 512) (h : q.val = 5376 + k.val) :
    REF a0 a1 a2 a3 a4 a5 (ix2 r q) = prod (fun j => a0 (ix2 r j)) (fun j => a1 (ix1 j)) (fun j => a2 (ix2 j ⟨1792 + k.val, by omega⟩)) := by
  refine (CAT_GB _ _ _ _ _ _ _ _ _ _ _ r q k h).trans ?_
  refine (GB_at _ (ix2 r k) k.isLt).trans ?_
  simp only [PR_at]
  try rfl

/-- The reference at an element: The rank columns. -/
theorem REF_LR (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 32) (h : q.val = 5888 + k.val) :
    REF a0 a1 a2 a3 a4 a5 (ix2 r q) = prod (fun j => a0 (ix2 r j)) (fun j => a1 (ix1 j)) (fun j => a2 (ix2 j ⟨2304 + k.val, by omega⟩)) := by
  refine (CAT_LR _ _ _ _ _ _ _ _ _ _ _ r q k h).trans ?_
  refine (LR_at _ (ix2 r k) k.isLt).trans ?_
  simp only [PR_at]
  try rfl

/-- The reference at an element: The padding columns, zero. -/
theorem REF_ZP (a0 : FVec Ideal S32768x1024 .f32) (a1 : FVec Ideal S1024 .f32) (a2 : FVec Ideal S1024x5920 .f32) (a3 : FVec Ideal S64 .f32) (a4 : FVec Ideal S128 .f32) (a5 : FVec Ideal S64 .f32) (r : Fin 32768) (q : Fin 6016) (k : Fin 96) (h : q.val = 5920 + k.val) :
    REF a0 a1 a2 a3 a4 a5 (ix2 r q) = 0 := by
  refine (CAT_ZP _ _ _ _ _ _ _ _ _ _ _ r q k h).trans ?_
  refine (ZP_at (ix2 r k)).trans ?_
  try rfl

end Cert.ProjRefIdeal.Whole

end
-- ==== Proof.ProjValue.lean ====
module

public import proofs.«01_k».proof.Proof.Gen.ProjIdeal.Frame
public import proofs.«01_k».proof.Proof.ProjRefValue

@[expose] public section

set_option maxRecDepth 16384

noncomputable section

namespace Cert.ProjIdeal.RefValue
open Idealize.ShloMosaic Idealize.ShloMosaic.TcCoe Idealize.SL.Sem
open Idealize.ShloMosaic.Pipeline (Dat)
open Cert.ProjIdeal Cert.ProjIdeal.Gen
open Cert.ProjRefIdeal.Whole (rinv prod normed normed64)

variable (m : (ℓ : Loc nD τ sig) → Buf (Elt Ideal) ℓ)

/-- Every window's block index. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The weights, their columns laid out for the kernel. -/
def WT (a : FVec Ideal S1024x5920 .f32) : FVec Ideal S1024x6016 .bf16 :=
  truncf .bf16 (concatenate S1024x6016 1 [⟨S1024x3072, extractStridedSlice S1024x3072 ![0, 2848] a slices_S1024x5920_S1024x3072_0_2848⟩, ⟨S1024x512, extractStridedSlice S1024x512 ![0, 0] a slices_S1024x5920_S1024x512_0_0⟩, ⟨S1024x512, extractStridedSlice S1024x512 ![0, 2336] a slices_S1024x5920_S1024x512_0_2336⟩, ⟨S1024x128, extractStridedSlice S1024x128 ![0, 512] a slices_S1024x5920_S1024x128_0_512⟩, ⟨S1024x128, extractStridedSlice S1024x128 ![0, 640] a slices_S1024x5920_S1024x128_0_640⟩, ⟨S1024x256, extractStridedSlice S1024x256 ![0, 768] a slices_S1024x5920_S1024x256_0_768⟩, ⟨S1024x256, extractStridedSlice S1024x256 ![0, 1024] a slices_S1024x5920_S1024x256_0_1024⟩, ⟨S1024x512, extractStridedSlice S1024x512 ![0, 1280] a slices_S1024x5920_S1024x512_0_1280⟩, ⟨S1024x512, extractStridedSlice S1024x512 ![0, 1792] a slices_S1024x5920_S1024x512_0_1792⟩, ⟨S1024x32, extractStridedSlice S1024x32 ![0, 2304] a slices_S1024x5920_S1024x32_0_2304⟩, ⟨S1024x96, broadcastInDim S1024x96 ![] bcast_S_S1024x96 (constant S_ .f32 0x00000000#32)⟩] concatenates_S1024x3072_S1024x512_S1024x512_S1024x128_S1024x128_S1024x256_S1024x256_S1024x512_S1024x512_S1024x32_S1024x96_S1024x6016_d1) bitsLt_bf16_f32

set_option maxHeartbeats 2000000 in
/-- The kernel's weight operand is the weights with their columns laid out. -/
theorem V_w (c : Dev nD) : (V m c main_v13 : FVec Ideal S1024x6016 .bf16) = WT (m ((c : Thread nD τ).loc main_arg2)) := by
  unfold V
  after_results
  unfold WT
  try simp only [Matrix.cons_val]
  try after_results
  rfl

/-- The windowed queries' gain, tiled over the heads and scaled. -/
theorem V_gq (c : Dev nD) (y : S1x512.Idx) : @Eq EReal (V m c main_v19 y)
    (@HMul.hMul EReal EReal EReal _ (m ((c : Thread nD τ).loc main_arg3) (ix1 ⟨(y 1).val % 64, Nat.mod_lt _ (by decide)⟩)) (Ideal.ofBits FTy.f32 0x3E000000#32)) := by
  entry_read
  pointwise []

/-- The memory queries' gain, tiled over the heads. -/
theorem V_gm (c : Dev nD) (y : S1x512.Idx) : (V m c main_v23 : FVec Ideal S1x512 .f32) y
    = (m ((c : Thread nD τ).loc main_arg4) : FVec Ideal S128 .f32) (ix1 ⟨(y 1).val % 128, Nat.mod_lt _ (by decide)⟩) := by
  entry_read
  pointwise []

/-- The windowed keys' gain, tiled over the heads. -/
theorem V_gk (c : Dev nD) (y : S1x128.Idx) : (V m c main_v27 : FVec Ideal S1x128 .f32) y
    = (m ((c : Thread nD τ).loc main_arg5) : FVec Ideal S64 .f32) (ix1 ⟨(y 1).val % 64, Nat.mod_lt _ (by decide)⟩) := by
  entry_read
  pointwise []

/-- The norm's gain. -/
theorem V_g (c : Dev nD) (y : S1x1024.Idx) : (V m c main_v0 : FVec Ideal S1x1024 .f32) y
    = (m ((c : Thread nD τ).loc main_arg1) : FVec Ideal S1024 .f32) (ix1 (y 1)) := by
  entry_read
  pointwise []

/-- The laid out weights: the columns CG. -/
theorem WT_CG (a : FVec Ideal S1024x5920 .f32) (r : Fin 1024) (q : Fin 6016) (k : Fin 3072) (h : q.val = 0 + k.val) :
    WT a (ix2 r q) = a (ix2 r ⟨2848 + k.val, by omega⟩) := by
  pointwise [WT]
  rw [dif_pos (by omega)]
  exact congrArg a (congrArg₂ ix2 rfl (Fin.ext (by show 2848 + (q.val) = 2848 + k.val; omega)))

/-- The laid out weights: the columns QA. -/
theorem WT_QA (a : FVec Ideal S1024x5920 .f32) (r : Fin 1024) (q : Fin 6016) (k : Fin 512) (h : q.val = 3072 + k.val) :
    WT a (ix2 r q) = a (ix2 r ⟨k.val, by omega⟩) := by
  pointwise [WT]
  rw [dif_neg (by omega)]
  rw [dif_pos (by omega)]
  exact congrArg a (congrArg₂ ix2 rfl (Fin.ext (by show (q.val - 3072) = k.val; omega)))

/-- The laid out weights: the columns QM. -/
theorem WT_QM (a : FVec Ideal S1024x5920 .f32) (r : Fin 1024) (q : Fin 6016) (k : Fin 512) (h : q.val = 3584 + k.val) :
    WT a (ix2 r q) = a (ix2 r ⟨2336 + k.val, by omega⟩) := by
  pointwise [WT]
  rw [dif_neg (by omega)]
  rw [dif_neg (by omega)]
  rw [dif_pos (by omega)]
  exact congrArg a (congrArg₂ ix2 rfl (Fin.ext (by show 2336 + (q.val - 3072 - 512) = 2336 + k.val; omega)))

/-- The laid out weights: the columns KA. -/
theorem WT_KA (a : FVec Ideal S1024x5920 .f32) (r : Fin 1024) (q : Fin 6016) (k : Fin 128) (h : q.val = 4096 + k.val) :
    WT a (ix2 r q) = a (ix2 r ⟨512 + k.val, by omega⟩) := by
  pointwise [WT]
  rw [dif_neg (by omega)]
  rw [dif_neg (by omega)]
  rw [dif_neg (by omega)]
  rw [dif_pos (by omega)]
  exact congrArg a (congrArg₂ ix2 rfl (Fin.ext (by show 512 + (q.val - 3072 - 512 - 512) = 512 + k.val; omega)))

/-- The laid out weights: the columns VA. -/
theorem WT_VA (a : FVec Ideal S1024x5920 .f32) (r : Fin 1024) (q : Fin 6016) (k : Fin 128) (h : q.val = 4224 + k.val) :
    WT a (ix2 r q) = a (ix2 r ⟨640 + k.val, by omega⟩) := by
  pointwise [WT]
  rw [dif_neg (by omega)]
  rw [dif_neg (by omega)]
  rw [dif_neg (by omega)]
  rw [dif_neg (by omega)]
  rw [dif_pos (by omega)]
  exact congrArg a (congrArg₂ ix2 rfl (Fin.ext (by show 640 + (q.val - 3072 - 512 - 512 - 128) = 640 + k.val; omega)))

/-- The laid out weights: the columns QB. -/
theorem WT_QB (a : FVec Ideal S1024x5920 .f32) (r : Fin 1024) (q : Fin 6016) (k : Fin 256) (h : q.val = 4352 + k.val) :
    WT a (ix2 r q) = a (ix2 r ⟨768 + k.val, by omega⟩) := by
  pointwise [WT]
  rw [dif_neg (by omega)]
  rw [dif_neg (by omega)]
  rw [dif_neg (by omega)]
  rw [dif_neg (by omega)]
  rw [dif_neg (by omega)]
  rw [dif_pos (by omega)]
  exact congrArg a (congrArg₂ ix2 rfl (Fin.ext (by show 768 + (q.val - 3072 - 512 - 512 - 128 - 128) = 768 + k.val; omega)))

/-- The laid out weights: the columns KB. -/
theorem WT_KB (a : FVec Ideal S1024x5920 .f32) (r : Fin 1024) (q : Fin 6016) (k : Fin 256) (h : q.val = 4608 + k.val) :
    WT a (ix2 r q) = a (ix2 r ⟨1024 + k.val, by omega⟩) := by
  pointwise [WT]
  rw [dif_neg (by omega)]
  rw [dif_neg (by omega)]
  rw [dif_neg (by omega)]
  rw [dif_neg (by omega)]
  rw [dif_neg (by omega)]
  rw [dif_neg (by omega)]
  rw [dif_pos (by omega)]
  exact congrArg a (congrArg₂ ix2 rfl (Fin.ext (by show 1024 + (q.val - 3072 - 512 - 512 - 128 - 128 - 256) = 1024 + k.val; omega)))

/-- The laid out weights: the columns VB. -/
theorem WT_VB (a : FVec Ideal S1024x5920 .f32) (r : Fin 1024) (q : Fin 6016) (k : Fin 512) (h : q.val = 4864 + k.val) :
    WT a (ix2 r q) = a (ix2 r ⟨1280 + k.val, by omega⟩) := by
  pointwise [WT]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg a (congrArg₂ ix2 rfl (Fin.ext (by show 1280 + (q.val - 3072 - 512 - 512 - 128 - 128 - 256 - 256) = 1280 + k.val; omega)))

/-- The laid out weights: the columns GB. -/
theorem WT_GB (a : FVec Ideal S1024x5920 .f32) (r : Fin 1024) (q : Fin 6016) (k : Fin 512) (h : q.val = 5376 + k.val) :
    WT a (ix2 r q) = a (ix2 r ⟨1792 + k.val, by omega⟩) := by
  pointwise [WT]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg a (congrArg₂ ix2 rfl (Fin.ext (by show 1792 + (q.val - 3072 - 512 - 512 - 128 - 128 - 256 - 256 - 512) = 1792 + k.val; omega)))

/-- The laid out weights: the columns LR. -/
theorem WT_LR (a : FVec Ideal S1024x5920 .f32) (r : Fin 1024) (q : Fin 6016) (k : Fin 32) (h : q.val = 5888 + k.val) :
    WT a (ix2 r q) = a (ix2 r ⟨2304 + k.val, by omega⟩) := by
  pointwise [WT]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg a (congrArg₂ ix2 rfl (Fin.ext (by show 2304 + (q.val - 3072 - 512 - 512 - 128 - 128 - 256 - 256 - 512 - 512) = 2304 + k.val; omega)))

/-- The laid out weights: the columns ZP. -/
theorem WT_ZP (a : FVec Ideal S1024x5920 .f32) (r : Fin 1024) (q : Fin 6016) (k : Fin 96) (h : q.val = 5920 + k.val) :
    WT a (ix2 r q) = 0 := by
  pointwise [WT]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]

/-- A block of products at one element. -/
theorem pay5_at (x : FVec Ideal S512x1024 .f32) (g : FVec Ideal S1x1024 .f32) (w : FVec Ideal S1024x512 .bf16) (y : S512x512.Idx) :
    k0_pay5 (F := Ideal) x g w y = prod (fun j => x (ix2 (y 0) j)) (fun j => g (ix2 0 j)) (fun j => w (ix2 j (y 1))) := by
  pointwise [k0_pay5, k0_pay4, prod, rinv]

/-- A block of products at one element. -/
theorem pay6_at (x : FVec Ideal S512x1024 .f32) (g : FVec Ideal S1x1024 .f32) (w : FVec Ideal S1024x512 .bf16) (y : S512x512.Idx) :
    k0_pay6 (F := Ideal) x g w y = prod (fun j => x (ix2 (y 0) j)) (fun j => g (ix2 0 j)) (fun j => w (ix2 j (y 1))) := by
  pointwise [k0_pay6, k0_pay4, prod, rinv]

/-- A block of products at one element. -/
theorem pay7_at (x : FVec Ideal S512x1024 .f32) (g : FVec Ideal S1x1024 .f32) (w : FVec Ideal S1024x512 .bf16) (y : S512x512.Idx) :
    k0_pay7 (F := Ideal) x g w y = prod (fun j => x (ix2 (y 0) j)) (fun j => g (ix2 0 j)) (fun j => w (ix2 j (y 1))) := by
  pointwise [k0_pay7, k0_pay4, prod, rinv]

/-- A block of products at one element. -/
theorem pay1_at (x : FVec Ideal S512x1024 .f32) (g : FVec Ideal S1x1024 .f32) (w : FVec Ideal S1024x512 .bf16) (y : S512x512.Idx) :
    k0_pay1 (F := Ideal) (k0_pay4 x g) w y = prod (fun j => x (ix2 (y 0) j)) (fun j => g (ix2 0 j)) (fun j => w (ix2 j (y 1))) := by
  pointwise [k0_pay1, k0_pay4, prod, rinv]

/-- A block of products at one element. -/
theorem pay2_at (x : FVec Ideal S512x1024 .f32) (g : FVec Ideal S1x1024 .f32) (w : FVec Ideal S1024x512 .bf16) (y : S512x512.Idx) :
    k0_pay2 (F := Ideal) (k0_pay4 x g) w y = prod (fun j => x (ix2 (y 0) j)) (fun j => g (ix2 0 j)) (fun j => w (ix2 j (y 1))) := by
  pointwise [k0_pay2, k0_pay4, prod, rinv]

/-- A block of products at one element. -/
theorem pay8_at (x : FVec Ideal S512x1024 .f32) (g : FVec Ideal S1x1024 .f32) (w : FVec Ideal S1024x512 .bf16) (y : S512x512.Idx) :
    k0_pay8 (F := Ideal) (k0_pay4 x g) w y = prod (fun j => x (ix2 (y 0) j)) (fun j => g (ix2 0 j)) (fun j => w (ix2 j (y 1))) := by
  pointwise [k0_pay8, k0_pay4, prod, rinv]

/-- A block of products at one element. -/
theorem pay9_at (x : FVec Ideal S512x1024 .f32) (g : FVec Ideal S1x1024 .f32) (w : FVec Ideal S1024x512 .bf16) (y : S512x512.Idx) :
    k0_pay9 (F := Ideal) (k0_pay4 x g) w y = prod (fun j => x (ix2 (y 0) j)) (fun j => g (ix2 0 j)) (fun j => w (ix2 j (y 1))) := by
  pointwise [k0_pay9, k0_pay4, prod, rinv]

/-- A block of products at one element. -/
theorem pay10_at (x : FVec Ideal S512x1024 .f32) (g : FVec Ideal S1x1024 .f32) (w : FVec Ideal S1024x512 .bf16) (y : S512x512.Idx) :
    k0_pay10 (F := Ideal) (k0_pay4 x g) w y = prod (fun j => x (ix2 (y 0) j)) (fun j => g (ix2 0 j)) (fun j => w (ix2 j (y 1))) := by
  pointwise [k0_pay10, k0_pay4, prod, rinv]

/-- A block of products at one element. -/
theorem pay11_at (x : FVec Ideal S512x1024 .f32) (g : FVec Ideal S1x1024 .f32) (w : FVec Ideal S1024x512 .bf16) (y : S512x512.Idx) :
    k0_pay11 (F := Ideal) (k0_pay4 x g) w y = prod (fun j => x (ix2 (y 0) j)) (fun j => g (ix2 0 j)) (fun j => w (ix2 j (y 1))) := by
  pointwise [k0_pay11, k0_pay4, prod, rinv]

/-- A block of products at one element. -/
theorem pay46_at (x : FVec Ideal S512x1024 .f32) (g : FVec Ideal S1x1024 .f32) (w : FVec Ideal S1024x512 .bf16) (y : S512x512.Idx) :
    k0_pay46 (F := Ideal) (k0_pay4 x g) w y = prod (fun j => x (ix2 (y 0) j)) (fun j => g (ix2 0 j)) (fun j => w (ix2 j (y 1))) := by
  pointwise [k0_pay46, k0_pay4, prod, rinv]

/-- A block of products at one element. -/
theorem pay3_at (x : FVec Ideal S512x1024 .f32) (g : FVec Ideal S1x1024 .f32) (w : FVec Ideal S1024x128 .bf16) (y : S512x128.Idx) :
    k0_pay3 (F := Ideal) (k0_pay4 x g) w y = prod (fun j => x (ix2 (y 0) j)) (fun j => g (ix2 0 j)) (fun j => w (ix2 j (y 1))) := by
  pointwise [k0_pay3, k0_pay4, prod, rinv]

/-- A block of products at one element. -/
theorem pay37_at (x : FVec Ideal S512x1024 .f32) (g : FVec Ideal S1x1024 .f32) (w : FVec Ideal S1024x256 .bf16) (y : S512x256.Idx) :
    k0_pay37 (F := Ideal) (k0_pay4 x g) w y = prod (fun j => x (ix2 (y 0) j)) (fun j => g (ix2 0 j)) (fun j => w (ix2 j (y 1))) := by
  pointwise [k0_pay37, k0_pay4, prod, rinv]

/-- A block of products at one element. -/
theorem pay28_at (x : FVec Ideal S512x1024 .f32) (g : FVec Ideal S1x1024 .f32) (w : FVec Ideal S1024x512 .bf16) (y : S512x512.Idx) :
    k0_pay28 (F := Ideal) (k0_pay4 x g) (k0_pay27 w) y = prod (fun j => x (ix2 (y 0) j)) (fun j => g (ix2 0 j)) (fun j => w (ix2 j (y 1))) := by
  pointwise [k0_pay28, k0_pay27, k0_pay4, prod, rinv]

/-- The lanes below 64 are those the kernel's comparison picks. -/
theorem lane : ∀ l : Fin 128, IntOp.cmpi CmpIPredicate.slt (BitVec.ofNat 32 l.val) 64#32 = if l.val < 64 then 1#1 else 0#1 := by
  decide +kernel

/-- A pair of heads side by side: the masked sums of squares are the sums over each head's own lanes. -/
theorem pair (f : Fin 128 → EReal) (l : Fin 128) (gk C E : EReal) :
    f l * Scalar.select (IntOp.cmpi CmpIPredicate.slt (BitVec.ofNat 32 l.val) 64#32)
        (Ideal.rsqrt ((∑ x : Fin 128, Scalar.select (IntOp.cmpi CmpIPredicate.slt (BitVec.ofNat 32 x.val) 64#32) (f x * f x) 0) * C + E))
        (Ideal.rsqrt ((∑ x : Fin 128, Scalar.select (IntOp.cmpi CmpIPredicate.slt (BitVec.ofNat 32 x.val) 64#32) 0 (f x * f x)) * C + E)) * gk
      = f l * Ideal.rsqrt ((∑ x : Fin 64, f ⟨l.val / 64 * 64 + x.val, by omega⟩ * f ⟨l.val / 64 * 64 + x.val, by omega⟩) * C + E) * gk := by
  simp only [lane]
  rw [Fin.sum_univ_two_halves 64 64 rfl, Fin.sum_univ_two_halves 64 64 rfl]
  by_cases h : l.val < 64
  · have e : l.val / 64 = 0 := by omega
    simp [Scalar.select, h, e]
  · have e : l.val / 64 = 1 := by omega
    simp [Scalar.select, h, e]

/-- Multiplying by one sixty-fourth divides by sixty-four. -/
theorem div64 (x : EReal) : Ideal.div x (Ideal.ofBits FTy.f32 0x42800000#32) = x * Ideal.ofBits FTy.f32 0x3C800000#32 := by
  have h : Ideal.ofBits FTy.f32 0x42800000#32 = ((64 : ℝ) : EReal) := by
    simp [Ideal.ofBits, Ideal.ieee]; refine (EReal.coe_mul _ _).symm.trans (congrArg _ ?_); norm_num
  have h' : Ideal.ofBits FTy.f32 0x3C800000#32 = ((1 / 64 : ℝ) : EReal) := by
    simp [Ideal.ofBits, Ideal.ieee]; refine (EReal.coe_mul _ _).symm.trans (congrArg _ ?_); norm_num
  rw [h, h', Ideal.div_coe (by norm_num)]

/-- A pair of heads of 64 lanes, normed. -/
theorem qa0_at (h : FVec Ideal S512x1024 .bf16) (w : FVec Ideal S1024x512 .bf16) (gk : FVec Ideal S1x512 .f32) (y : S512x128.Idx) :
    k0_pay18 (F := Ideal) (k0_pay12 gk) k0_pay13 (k0_pay14 h w) (k0_pay16 h w) (k0_pay17 h w) y
      = normed64 (fun k => k0_pay11 (F := Ideal) h w (ix2 (y 0) ⟨((y 1).val / 64 * 64 + k.val), by have h1 : (y 1).val < 128 := (y 1).isLt; omega⟩)) (k0_pay11 (F := Ideal) h w (ix2 (y 0) ⟨(y 1).val, by have h1 : (y 1).val < 128 := (y 1).isLt; omega⟩))
          (gk (ix2 0 ⟨(y 1).val, by have h1 : (y 1).val < 128 := (y 1).isLt; omega⟩)) := by
  have h1 : (y 1).val < 128 := (y 1).isLt
  unfold normed64
  rw [div64]
  pointwise [k0_pay18, k0_pay12, k0_pay13, k0_pay14, k0_pay16, k0_pay17, k0_pay15]
  exact pair (fun l => k0_pay11 (F := Ideal) h w (ix2 (y 0) ⟨l.val, by omega⟩)) ⟨(y 1).val, h1⟩ _ _ _

/-- A pair of heads of 64 lanes, normed. -/
theorem qa2_at (p : FVec Ideal S512x512 .f32) (gk : FVec Ideal S1x512 .f32) (y : S512x128.Idx) :
    k0_pay25 (F := Ideal) (k0_pay12 gk) (k0_pay24 p k0_pay13) y
      = normed64 (fun k => p (ix2 (y 0) ⟨256 + ((y 1).val / 64 * 64 + k.val), by have h1 : (y 1).val < 128 := (y 1).isLt; omega⟩)) (p (ix2 (y 0) ⟨256 + (y 1).val, by have h1 : (y 1).val < 128 := (y 1).isLt; omega⟩))
          (gk (ix2 0 ⟨256 + (y 1).val, by have h1 : (y 1).val < 128 := (y 1).isLt; omega⟩)) := by
  have h1 : (y 1).val < 128 := (y 1).isLt
  unfold normed64
  rw [div64]
  pointwise [k0_pay25, k0_pay12, k0_pay24, k0_pay13]
  exact pair (fun l => p (ix2 (y 0) ⟨256 + l.val, by omega⟩)) ⟨(y 1).val, h1⟩ _ _ _

/-- A pair of heads of 64 lanes, normed. -/
theorem qa1_at (p : FVec Ideal S512x512 .f32) (gk : FVec Ideal S1x512 .f32) (y : S512x128.Idx) :
    k0_pay23 (F := Ideal) (k0_pay12 gk) k0_pay13 (k0_pay19 p) (k0_pay21 p k0_pay13) (k0_pay22 p k0_pay13) y
      = normed64 (fun k => p (ix2 (y 0) ⟨128 + ((y 1).val / 64 * 64 + k.val), by have h1 : (y 1).val < 128 := (y 1).isLt; omega⟩)) (p (ix2 (y 0) ⟨128 + (y 1).val, by have h1 : (y 1).val < 128 := (y 1).isLt; omega⟩))
          (gk (ix2 0 ⟨128 + (y 1).val, by have h1 : (y 1).val < 128 := (y 1).isLt; omega⟩)) := by
  have h1 : (y 1).val < 128 := (y 1).isLt
  unfold normed64
  rw [div64]
  pointwise [k0_pay23, k0_pay12, k0_pay19, k0_pay20, k0_pay21, k0_pay22, k0_pay13]
  exact pair (fun l => p (ix2 (y 0) ⟨128 + l.val, by omega⟩)) ⟨(y 1).val, h1⟩ _ _ _

/-- A pair of heads of 64 lanes, normed. -/
theorem qa3_at (p : FVec Ideal S512x512 .f32) (gk : FVec Ideal S1x512 .f32) (y : S512x128.Idx) :
    k0_pay26 (F := Ideal) p (k0_pay12 gk) k0_pay13 y
      = normed64 (fun k => p (ix2 (y 0) ⟨384 + ((y 1).val / 64 * 64 + k.val), by have h1 : (y 1).val < 128 := (y 1).isLt; omega⟩)) (p (ix2 (y 0) ⟨384 + (y 1).val, by have h1 : (y 1).val < 128 := (y 1).isLt; omega⟩))
          (gk (ix2 0 ⟨384 + (y 1).val, by have h1 : (y 1).val < 128 := (y 1).isLt; omega⟩)) := by
  have h1 : (y 1).val < 128 := (y 1).isLt
  unfold normed64
  rw [div64]
  pointwise [k0_pay26, k0_pay12, k0_pay13]
  exact pair (fun l => p (ix2 (y 0) ⟨384 + l.val, by omega⟩)) ⟨(y 1).val, h1⟩ _ _ _

/-- A pair of heads of 64 lanes, normed. -/
theorem ka_at (h : FVec Ideal S512x1024 .bf16) (w : FVec Ideal S1024x256 .bf16) (gk : FVec Ideal S1x128 .f32) (y : S512x128.Idx) :
    k0_pay44 (F := Ideal) (k0_pay38 h w) (k0_pay39 gk) k0_pay40 (k0_pay41 h w) (k0_pay42 h w) (FloatOps.ofBits FTy.f32 0#32) k0_pay43 y
      = normed64 (fun k => k0_pay37 (F := Ideal) h w (ix2 (y 0) ⟨((y 1).val / 64 * 64 + k.val), by have h1 : (y 1).val < 128 := (y 1).isLt; omega⟩)) (k0_pay37 (F := Ideal) h w (ix2 (y 0) ⟨(y 1).val, by have h1 : (y 1).val < 128 := (y 1).isLt; omega⟩))
          (gk (ix2 0 ⟨(y 1).val, by have h1 : (y 1).val < 128 := (y 1).isLt; omega⟩)) := by
  have h1 : (y 1).val < 128 := (y 1).isLt
  unfold normed64
  rw [div64]
  pointwise [k0_pay44, k0_pay38, k0_pay39, k0_pay40, k0_pay41, k0_pay42, k0_pay43]
  exact pair (fun l => k0_pay37 (F := Ideal) h w (ix2 (y 0) ⟨l.val, by omega⟩)) ⟨(y 1).val, h1⟩ _ _ _

/-- A head of 128 lanes, normed. -/
theorem qm0_at (h : FVec Ideal S512x1024 .bf16) (w : FVec Ideal S1024x512 .bf16) (gk : FVec Ideal S1x512 .f32) (y : S512x128.Idx) :
    k0_pay30 (F := Ideal) h w gk y
      = normed (fun k => k0_pay28 (F := Ideal) h w (ix2 (y 0) ⟨k.val, by omega⟩)) (k0_pay28 (F := Ideal) h w (ix2 (y 0) ⟨(y 1).val, by have h1 : (y 1).val < 128 := (y 1).isLt; omega⟩))
          (gk (ix2 0 ⟨(y 1).val, by have h1 : (y 1).val < 128 := (y 1).isLt; omega⟩)) := by
  pointwise [k0_pay30, k0_pay29, normed]

/-- A head of 128 lanes, normed. -/
theorem qm1_at (h : FVec Ideal S512x1024 .bf16) (w : FVec Ideal S1024x512 .bf16) (gk : FVec Ideal S1x512 .f32) (y : S512x128.Idx) :
    k0_pay31 (F := Ideal) h w gk y
      = normed (fun k => k0_pay28 (F := Ideal) h w (ix2 (y 0) ⟨128 + k.val, by omega⟩)) (k0_pay28 (F := Ideal) h w (ix2 (y 0) ⟨128 + (y 1).val, by have h1 : (y 1).val < 128 := (y 1).isLt; omega⟩))
          (gk (ix2 0 ⟨128 + (y 1).val, by have h1 : (y 1).val < 128 := (y 1).isLt; omega⟩)) := by
  pointwise [k0_pay31, k0_pay29, normed]

/-- A head of 128 lanes, normed. -/
theorem qm2_at (h : FVec Ideal S512x1024 .bf16) (w : FVec Ideal S1024x512 .bf16) (gk : FVec Ideal S1x512 .f32) (y : S512x128.Idx) :
    k0_pay35 (F := Ideal) (k0_pay29 gk) (k0_pay32 h w) (k0_pay33 h w) k0_pay34 y
      = normed (fun k => k0_pay28 (F := Ideal) h w (ix2 (y 0) ⟨256 + k.val, by omega⟩)) (k0_pay28 (F := Ideal) h w (ix2 (y 0) ⟨256 + (y 1).val, by have h1 : (y 1).val < 128 := (y 1).isLt; omega⟩))
          (gk (ix2 0 ⟨256 + (y 1).val, by have h1 : (y 1).val < 128 := (y 1).isLt; omega⟩)) := by
  pointwise [k0_pay35, k0_pay29, k0_pay32, k0_pay33, k0_pay34, normed]

/-- A head of 128 lanes, normed. -/
theorem qm3_at (p : FVec Ideal S512x512 .f32) (gk : FVec Ideal S1x512 .f32) (y : S512x128.Idx) :
    k0_pay36 (F := Ideal) p (k0_pay29 gk) y
      = normed (fun k => p (ix2 (y 0) ⟨384 + k.val, by omega⟩)) (p (ix2 (y 0) ⟨384 + (y 1).val, by have h1 : (y 1).val < 128 := (y 1).isLt; omega⟩))
          (gk (ix2 0 ⟨384 + (y 1).val, by have h1 : (y 1).val < 128 := (y 1).isLt; omega⟩)) := by
  pointwise [k0_pay36, k0_pay29, normed]

/-- The windowed values at one element. -/
theorem va_at (p : FVec Ideal S512x256 .f32) (y : S512x128.Idx) :
    k0_pay45 (F := Ideal) p y = p (ix2 (y 0) ⟨128 + (y 1).val, by have h1 : (y 1).val < 128 := (y 1).isLt; omega⟩) := by
  pointwise [k0_pay45]

/-- The recurrence's queries at one element. -/
theorem qb_at (h : FVec Ideal S512x1024 .bf16) (w : FVec Ideal S1024x512 .bf16) (y : S512x256.Idx) :
    k0_pay47 (F := Ideal) h w y = k0_pay46 (F := Ideal) h w (ix2 (y 0) ⟨(y 1).val, by have h1 : (y 1).val < 256 := (y 1).isLt; omega⟩) * Ideal.ofBits FTy.f32 0x3E000000#32 := by
  pointwise [k0_pay47]

/-- The recurrence's keys at one element. -/
theorem kb_at (h : FVec Ideal S512x1024 .bf16) (w : FVec Ideal S1024x512 .bf16) (y : S512x256.Idx) :
    k0_pay48 (F := Ideal) h w y = k0_pay46 (F := Ideal) h w (ix2 (y 0) ⟨256 + (y 1).val, by have h1 : (y 1).val < 256 := (y 1).isLt; omega⟩) := by
  pointwise [k0_pay48]

/-- The input window at a grid point: the point's rows. -/
theorem x_at (c : Dev nD) (t : Fin cfg0.N) (p : Fin 512) (j : Fin 1024) :
    iblk m c 0 t (ix2 p j) = m ((c : Thread nD τ).loc main_arg0)
      (ix2 ⟨512 * t.val + p.val, by have h1 : t.val < 64 := t.isLt; omega⟩ j) := by
  blk_point [iblk, V, idx t]
  try omega

/-- The gain window: the norm's gain. -/
theorem g_at (c : Dev nD) (t : Fin cfg0.N) (j : Fin 1024) :
    iblk m c 1 t (ix2 0 j) = m ((c : Thread nD τ).loc main_arg1) (ix1 j) := by
  have h : iblk m c 1 t = V m c main_v0 := by
    blk_point [iblk, idx t]
  rw [h]
  exact V_g m c (ix2 0 j)

/-- The weight window: the weights laid out. -/
theorem w_blk (c : Dev nD) (t : Fin cfg0.N) : iblk m c 2 t = WT (m ((c : Thread nD τ).loc main_arg2)) := by
  have h : iblk m c 2 t = V m c main_v13 := by
    blk_point [iblk, idx t]
  exact h.trans (V_w m c)

/-- The windowed queries' gain window. -/
theorem gq_at (c : Dev nD) (t : Fin cfg0.N) (k : Fin 512) :
    @Eq EReal (iblk m c 3 t (ix2 0 k))
      (@HMul.hMul EReal EReal EReal _ (m ((c : Thread nD τ).loc main_arg3) (ix1 ⟨k.val % 64, Nat.mod_lt _ (by decide)⟩)) (Ideal.ofBits FTy.f32 0x3E000000#32)) := by
  have h : iblk m c 3 t = V m c main_v19 := by
    blk_point [iblk, idx t]
  rw [h]
  exact V_gq m c (ix2 0 k)

/-- The memory queries' gain window. -/
theorem gm_at (c : Dev nD) (t : Fin cfg0.N) (k : Fin 512) :
    iblk m c 4 t (ix2 0 k) = m ((c : Thread nD τ).loc main_arg4) (ix1 ⟨k.val % 128, Nat.mod_lt _ (by decide)⟩) := by
  have h : iblk m c 4 t = V m c main_v23 := by
    blk_point [iblk, idx t]
  rw [h]
  exact V_gm m c (ix2 0 k)

/-- The windowed keys' gain window. -/
theorem gk_at (c : Dev nD) (t : Fin cfg0.N) (k : Fin 128) :
    iblk m c 5 t (ix2 0 k) = m ((c : Thread nD τ).loc main_arg5) (ix1 ⟨k.val % 64, Nat.mod_lt _ (by decide)⟩) := by
  have h : iblk m c 5 t = V m c main_v27 := by
    blk_point [iblk, idx t]
  rw [h]
  exact V_gk m c (ix2 0 k)

/-- The place in the result of an element of a grid point's block. -/
theorem emb_at (t : Fin cfg0.N) (y : S512x6016.Idx) :
    ((View.whole main_v28).slice (win0_6.rect t)).emb y
      = ix2 ⟨512 * t.val + (y 0).val, by have h1 : t.val < 64 := t.isLt; have h2 : (y 0).val < 512 := (y 0).isLt; omega⟩ (y 1) := by
  funext a
  apply Fin.ext
  fin_cases a
  · refine Eq.trans (b := 512 * t.val + (y 0).val) ?_ rfl
    blk_simp [idx t]
    exact congrArg (· + (y 0).val) (Nat.mul_comm t.val 512)
  · refine Eq.trans (b := (y 1).val) ?_ rfl
    blk_simp [idx t]
    rfl

/-- A row of the point's block times one column of a loaded block of weights, from what that column is. -/
theorem col (c : Dev nD) (t : Fin cfg0.N) (p : Fin 512) (off wd : Nat)
    (inb : ∀ a, (![0, off] : Fin 2 → Nat) a + (![1024, wd] : Fin 2 → Nat) a ≤ S1024x6016.size a) (k : Fin wd) (q : Fin 6016) (hq : q.val = off + k.val)
    (f : Fin 1024 → EReal) (hf : ∀ j, WT (m ((c : Thread nD τ).loc main_arg2)) (ix2 j q) = f j) :
    prod (fun j => iblk m c 0 t (ix2 p j)) (fun j => iblk m c 1 t (ix2 0 j))
        (fun j => View.ld (iblk m c 2 t) (Rect.unit ![0, off] ![1024, wd] inb) (ix2 j k))
      = prod (fun j => (m ((c : Thread nD τ).loc main_arg0)) (ix2 ⟨512 * t.val + p.val, by have h1 : t.val < 64 := t.isLt; omega⟩ j))
          (fun j => (m ((c : Thread nD τ).loc main_arg1)) (ix1 j)) f := by
  have hx : (fun j => iblk m c 0 t (ix2 p j)) = (fun j => (m ((c : Thread nD τ).loc main_arg0)) (ix2 ⟨512 * t.val + p.val, by have h1 : t.val < 64 := t.isLt; omega⟩ j)) :=
    funext fun j => x_at m c t p j
  have hg : (fun j => iblk m c 1 t (ix2 0 j)) = (fun j => (m ((c : Thread nD τ).loc main_arg1)) (ix1 j)) := funext fun j => g_at m c t j
  have hw : (fun j => View.ld (iblk m c 2 t) (Rect.unit ![0, off] ![1024, wd] inb) (ix2 j k)) = f := by
    funext j
    rw [w_blk]
    refine Eq.trans ?_ (hf j)
    refine congrArg (WT (m ((c : Thread nD τ).loc main_arg2))) ?_
    funext a
    apply Fin.ext
    fin_cases a
    · show 0 + 1 * j.val = j.val
      omega
    · show off + 1 * k.val = q.val
      omega
  exact congr (congr (congrArg prod hx) hg) hw

/-- A column of zero weights gives zero. -/
theorem prod_zero (xr g : Fin 1024 → EReal) : prod xr g (fun _ => 0) = 0 := by
  unfold prod
  exact Finset.sum_eq_zero fun k _ => mul_zero _

/-- Heads of 64 with equal lanes, elements and gains are normed alike. -/
theorem normed64_congr {p p' : Fin 64 → EReal} {q q' g g' : EReal} (h : ∀ k, p k = p' k) (hq : q = q') (hg : g = g') :
    normed64 p q g = normed64 p' q' g' := by
  rw [funext h, hq, hg]

/-- The same where the gain is scaled. -/
theorem normed64_scaled {p p' : Fin 64 → EReal} {q q' g g' s : EReal} (h : ∀ k, p k = p' k) (hq : q = q') (hg : g = g' * s) :
    normed64 p q g = normed64 p' q' g' * s := by
  rw [funext h, hq, hg]
  exact (mul_assoc _ _ _).symm

/-- Heads of 128 with equal lanes, elements and gains are normed alike. -/
theorem normed_congr {p p' : Fin 128 → EReal} {q q' g g' : EReal} (h : ∀ k, p k = p' k) (hq : q = q') (hg : g = g') :
    normed p q g = normed p' q' g' := by
  rw [funext h, hq, hg]

/-- The stored block 20, against the reference. -/
theorem block20 (c : Dev nD) (t : Fin cfg0.N) (x : S512x512.Idx) (q : Fin 6016) (hq : q.val = 0 + (x 1).val) :
    k0_pay5 (F := Ideal) (iblk m c 0 t) (iblk m c 1 t) (View.ld (iblk m c 2 t) (Rect.unit ![0, 0] ![1024, 512] inb_S1024x6016_S1024x512_0_0)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 512 := (x 1).isLt
  have ht : t.val < 64 := t.isLt
  refine (pay5_at _ _ _ x).trans (Eq.trans ?_ (Cert.ProjRefIdeal.Whole.REF_CG _ _ _ _ _ _ _ q ⟨0 + (x 1).val, by omega⟩ (by show q.val = 0 + (0 + (x 1).val); omega)).symm)
  exact col m c t (x 0) 0 512 _ (x 1) q hq _ (fun j => WT_CG _ j q ⟨0 + (x 1).val, by omega⟩ (by show q.val = 0 + (0 + (x 1).val); omega))

/-- The stored block 19, against the reference. -/
theorem block19 (c : Dev nD) (t : Fin cfg0.N) (x : S512x512.Idx) (q : Fin 6016) (hq : q.val = 512 + (x 1).val) :
    k0_pay6 (F := Ideal) (iblk m c 0 t) (iblk m c 1 t) (View.ld (iblk m c 2 t) (Rect.unit ![0, 512] ![1024, 512] inb_S1024x6016_S1024x512_0_512)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 512 := (x 1).isLt
  have ht : t.val < 64 := t.isLt
  refine (pay6_at _ _ _ x).trans (Eq.trans ?_ (Cert.ProjRefIdeal.Whole.REF_CG _ _ _ _ _ _ _ q ⟨512 + (x 1).val, by omega⟩ (by show q.val = 0 + (512 + (x 1).val); omega)).symm)
  exact col m c t (x 0) 512 512 _ (x 1) q hq _ (fun j => WT_CG _ j q ⟨512 + (x 1).val, by omega⟩ (by show q.val = 0 + (512 + (x 1).val); omega))

/-- The stored block 18, against the reference. -/
theorem block18 (c : Dev nD) (t : Fin cfg0.N) (x : S512x512.Idx) (q : Fin 6016) (hq : q.val = 1024 + (x 1).val) :
    k0_pay7 (F := Ideal) (iblk m c 0 t) (iblk m c 1 t) (View.ld (iblk m c 2 t) (Rect.unit ![0, 1024] ![1024, 512] inb_S1024x6016_S1024x512_0_1024)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 512 := (x 1).isLt
  have ht : t.val < 64 := t.isLt
  refine (pay7_at _ _ _ x).trans (Eq.trans ?_ (Cert.ProjRefIdeal.Whole.REF_CG _ _ _ _ _ _ _ q ⟨1024 + (x 1).val, by omega⟩ (by show q.val = 0 + (1024 + (x 1).val); omega)).symm)
  exact col m c t (x 0) 1024 512 _ (x 1) q hq _ (fun j => WT_CG _ j q ⟨1024 + (x 1).val, by omega⟩ (by show q.val = 0 + (1024 + (x 1).val); omega))

/-- The stored block 17, against the reference. -/
theorem block17 (c : Dev nD) (t : Fin cfg0.N) (x : S512x512.Idx) (q : Fin 6016) (hq : q.val = 1536 + (x 1).val) :
    k0_pay8 (F := Ideal) (k0_pay4 (iblk m c 0 t) (iblk m c 1 t)) (View.ld (iblk m c 2 t) (Rect.unit ![0, 1536] ![1024, 512] inb_S1024x6016_S1024x512_0_1536)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 512 := (x 1).isLt
  have ht : t.val < 64 := t.isLt
  refine (pay8_at _ _ _ x).trans (Eq.trans ?_ (Cert.ProjRefIdeal.Whole.REF_CG _ _ _ _ _ _ _ q ⟨1536 + (x 1).val, by omega⟩ (by show q.val = 0 + (1536 + (x 1).val); omega)).symm)
  exact col m c t (x 0) 1536 512 _ (x 1) q hq _ (fun j => WT_CG _ j q ⟨1536 + (x 1).val, by omega⟩ (by show q.val = 0 + (1536 + (x 1).val); omega))

/-- The stored block 16, against the reference. -/
theorem block16 (c : Dev nD) (t : Fin cfg0.N) (x : S512x512.Idx) (q : Fin 6016) (hq : q.val = 2048 + (x 1).val) :
    k0_pay9 (F := Ideal) (k0_pay4 (iblk m c 0 t) (iblk m c 1 t)) (View.ld (iblk m c 2 t) (Rect.unit ![0, 2048] ![1024, 512] inb_S1024x6016_S1024x512_0_2048)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 512 := (x 1).isLt
  have ht : t.val < 64 := t.isLt
  refine (pay9_at _ _ _ x).trans (Eq.trans ?_ (Cert.ProjRefIdeal.Whole.REF_CG _ _ _ _ _ _ _ q ⟨2048 + (x 1).val, by omega⟩ (by show q.val = 0 + (2048 + (x 1).val); omega)).symm)
  exact col m c t (x 0) 2048 512 _ (x 1) q hq _ (fun j => WT_CG _ j q ⟨2048 + (x 1).val, by omega⟩ (by show q.val = 0 + (2048 + (x 1).val); omega))

/-- The stored block 15, against the reference. -/
theorem block15 (c : Dev nD) (t : Fin cfg0.N) (x : S512x512.Idx) (q : Fin 6016) (hq : q.val = 2560 + (x 1).val) :
    k0_pay10 (F := Ideal) (k0_pay4 (iblk m c 0 t) (iblk m c 1 t)) (View.ld (iblk m c 2 t) (Rect.unit ![0, 2560] ![1024, 512] inb_S1024x6016_S1024x512_0_2560)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 512 := (x 1).isLt
  have ht : t.val < 64 := t.isLt
  refine (pay10_at _ _ _ x).trans (Eq.trans ?_ (Cert.ProjRefIdeal.Whole.REF_CG _ _ _ _ _ _ _ q ⟨2560 + (x 1).val, by omega⟩ (by show q.val = 0 + (2560 + (x 1).val); omega)).symm)
  exact col m c t (x 0) 2560 512 _ (x 1) q hq _ (fun j => WT_CG _ j q ⟨2560 + (x 1).val, by omega⟩ (by show q.val = 0 + (2560 + (x 1).val); omega))

/-- The stored block 2, against the reference. -/
theorem block2 (c : Dev nD) (t : Fin cfg0.N) (x : S512x512.Idx) (q : Fin 6016) (hq : q.val = 4864 + (x 1).val) :
    k0_pay1 (F := Ideal) (k0_pay4 (iblk m c 0 t) (iblk m c 1 t)) (View.ld (iblk m c 2 t) (Rect.unit ![0, 4864] ![1024, 512] inb_S1024x6016_S1024x512_0_4864)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 512 := (x 1).isLt
  have ht : t.val < 64 := t.isLt
  refine (pay1_at _ _ _ x).trans (Eq.trans ?_ (Cert.ProjRefIdeal.Whole.REF_VB _ _ _ _ _ _ _ q ⟨0 + (x 1).val, by omega⟩ (by show q.val = 4864 + (0 + (x 1).val); omega)).symm)
  exact col m c t (x 0) 4864 512 _ (x 1) q hq _ (fun j => WT_VB _ j q ⟨0 + (x 1).val, by omega⟩ (by show q.val = 4864 + (0 + (x 1).val); omega))

/-- The stored block 1, against the reference. -/
theorem block1 (c : Dev nD) (t : Fin cfg0.N) (x : S512x512.Idx) (q : Fin 6016) (hq : q.val = 5376 + (x 1).val) :
    k0_pay2 (F := Ideal) (k0_pay4 (iblk m c 0 t) (iblk m c 1 t)) (View.ld (iblk m c 2 t) (Rect.unit ![0, 5376] ![1024, 512] inb_S1024x6016_S1024x512_0_5376)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 512 := (x 1).isLt
  have ht : t.val < 64 := t.isLt
  refine (pay2_at _ _ _ x).trans (Eq.trans ?_ (Cert.ProjRefIdeal.Whole.REF_GB _ _ _ _ _ _ _ q ⟨0 + (x 1).val, by omega⟩ (by show q.val = 5376 + (0 + (x 1).val); omega)).symm)
  exact col m c t (x 0) 5376 512 _ (x 1) q hq _ (fun j => WT_GB _ j q ⟨0 + (x 1).val, by omega⟩ (by show q.val = 5376 + (0 + (x 1).val); omega))

/-- The stored block 0, against the reference. -/
theorem block0 (c : Dev nD) (t : Fin cfg0.N) (x : S512x128.Idx) (q : Fin 6016) (hq : q.val = 5888 + (x 1).val) :
    k0_pay3 (F := Ideal) (k0_pay4 (iblk m c 0 t) (iblk m c 1 t)) (View.ld (iblk m c 2 t) (Rect.unit ![0, 5888] ![1024, 128] inb_S1024x6016_S1024x128_0_5888)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (pay3_at _ _ _ x).trans ?_
  by_cases hl : (x 1).val < 32
  · refine Eq.trans ?_ (Cert.ProjRefIdeal.Whole.REF_LR _ _ _ _ _ _ _ q ⟨(x 1).val, hl⟩ hq).symm
    exact col m c t (x 0) 5888 128 _ (x 1) q hq _ (fun j => WT_LR _ j q ⟨(x 1).val, hl⟩ hq)
  · refine Eq.trans ?_ (Cert.ProjRefIdeal.Whole.REF_ZP _ _ _ _ _ _ _ q ⟨(x 1).val - 32, by omega⟩ (by show q.val = 5920 + ((x 1).val - 32); omega)).symm
    refine (col m c t (x 0) 5888 128 _ (x 1) q hq (fun _ => 0) (fun j => WT_ZP _ j q ⟨(x 1).val - 32, by omega⟩ (by show q.val = 5920 + ((x 1).val - 32); omega))).trans ?_
    exact prod_zero _ _

/-- The stored block 5, against the reference. -/
theorem block5 (c : Dev nD) (t : Fin cfg0.N) (x : S512x128.Idx) (q : Fin 6016) (hq : q.val = 4224 + (x 1).val) :
    k0_pay45 (F := Ideal) (k0_pay37 (k0_pay4 (iblk m c 0 t) (iblk m c 1 t)) (View.ld (iblk m c 2 t) (Rect.unit ![0, 4096] ![1024, 256] inb_S1024x6016_S1024x256_0_4096))) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (va_at _ x).trans (Eq.trans ?_ (Cert.ProjRefIdeal.Whole.REF_VA _ _ _ _ _ _ _ q ⟨(x 1).val, by omega⟩ (by show q.val = 4224 + ((x 1).val); omega)).symm)
  exact (pay37_at _ _ _ _).trans (col m c t (x 0) 4096 256 _ ⟨128 + (x 1).val, by omega⟩ ⟨4096 + (128 + (x 1).val), by omega⟩ rfl _ (fun j => WT_VA _ j _ ⟨(x 1).val, by omega⟩ (by show 4096 + (128 + (x 1).val) = 4224 + ((x 1).val); omega)))

/-- The stored block 4, against the reference. -/
theorem block4 (c : Dev nD) (t : Fin cfg0.N) (x : S512x256.Idx) (q : Fin 6016) (hq : q.val = 4352 + (x 1).val) :
    k0_pay47 (F := Ideal) (k0_pay4 (iblk m c 0 t) (iblk m c 1 t)) (View.ld (iblk m c 2 t) (Rect.unit ![0, 4352] ![1024, 512] inb_S1024x6016_S1024x512_0_4352)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 256 := (x 1).isLt
  have ht : t.val < 64 := t.isLt
  refine (qb_at _ _ x).trans (Eq.trans ?_ (Cert.ProjRefIdeal.Whole.REF_QB _ _ _ _ _ _ _ q ⟨(x 1).val, by omega⟩ (by show q.val = 4352 + ((x 1).val); omega)).symm)
  refine congrArg (· * Ideal.ofBits FTy.f32 0x3E000000#32) ?_
  exact (pay46_at _ _ _ _).trans (col m c t (x 0) 4352 512 _ ⟨(x 1).val, by omega⟩ ⟨4352 + ((x 1).val), by omega⟩ rfl _ (fun j => WT_QB _ j _ ⟨(x 1).val, by omega⟩ (by show 4352 + ((x 1).val) = 4352 + ((x 1).val); omega)))

/-- The stored block 3, against the reference. -/
theorem block3 (c : Dev nD) (t : Fin cfg0.N) (x : S512x256.Idx) (q : Fin 6016) (hq : q.val = 4608 + (x 1).val) :
    k0_pay48 (F := Ideal) (k0_pay4 (iblk m c 0 t) (iblk m c 1 t)) (View.ld (iblk m c 2 t) (Rect.unit ![0, 4352] ![1024, 512] inb_S1024x6016_S1024x512_0_4352)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 256 := (x 1).isLt
  have ht : t.val < 64 := t.isLt
  refine (kb_at _ _ x).trans (Eq.trans ?_ (Cert.ProjRefIdeal.Whole.REF_KB _ _ _ _ _ _ _ q ⟨(x 1).val, by omega⟩ (by show q.val = 4608 + ((x 1).val); omega)).symm)
  exact (pay46_at _ _ _ _).trans (col m c t (x 0) 4352 512 _ ⟨256 + (x 1).val, by omega⟩ ⟨4352 + (256 + (x 1).val), by omega⟩ rfl _ (fun j => WT_KB _ j _ ⟨(x 1).val, by omega⟩ (by show 4352 + (256 + (x 1).val) = 4608 + ((x 1).val); omega)))

/-- The stored block 14, against the reference. -/
theorem block14 (c : Dev nD) (t : Fin cfg0.N) (x : S512x128.Idx) (q : Fin 6016) (hq : q.val = 3072 + (x 1).val) :
    k0_pay18 (F := Ideal) (k0_pay12 (iblk m c 3 t)) k0_pay13 (k0_pay14 (k0_pay4 (iblk m c 0 t) (iblk m c 1 t)) (View.ld (iblk m c 2 t) (Rect.unit ![0, 3072] ![1024, 512] inb_S1024x6016_S1024x512_0_3072))) (k0_pay16 (k0_pay4 (iblk m c 0 t) (iblk m c 1 t)) (View.ld (iblk m c 2 t) (Rect.unit ![0, 3072] ![1024, 512] inb_S1024x6016_S1024x512_0_3072))) (k0_pay17 (k0_pay4 (iblk m c 0 t) (iblk m c 1 t)) (View.ld (iblk m c 2 t) (Rect.unit ![0, 3072] ![1024, 512] inb_S1024x6016_S1024x512_0_3072))) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (qa0_at _ _ _ x).trans (Eq.trans ?_ (Cert.ProjRefIdeal.Whole.REF_QA _ _ _ _ _ _ _ q ⟨(x 1).val, by omega⟩ (by show q.val = 3072 + ((x 1).val); omega)).symm)
  exact normed64_scaled (fun k => (pay11_at _ _ _ _).trans (col m c t (x 0) 3072 512 _ ⟨((x 1).val / 64 * 64 + k.val), by omega⟩ ⟨3072 + (((x 1).val / 64 * 64 + k.val)), by omega⟩ rfl _ (fun j => WT_QA _ j _ ⟨((x 1).val) / 64 * 64 + k.val, by omega⟩ (by show 3072 + (((x 1).val / 64 * 64 + k.val)) = 3072 + (((x 1).val) / 64 * 64 + k.val); omega)))) ((pay11_at _ _ _ _).trans (col m c t (x 0) 3072 512 _ ⟨(x 1).val, by omega⟩ ⟨3072 + ((x 1).val), by omega⟩ rfl _ (fun j => WT_QA _ j _ ⟨(x 1).val, by omega⟩ (by show 3072 + ((x 1).val) = 3072 + ((x 1).val); omega)))) (gq_at m c t ⟨(x 1).val, by omega⟩)

/-- The stored block 13, against the reference. -/
theorem block13 (c : Dev nD) (t : Fin cfg0.N) (x : S512x128.Idx) (q : Fin 6016) (hq : q.val = 3200 + (x 1).val) :
    k0_pay23 (F := Ideal) (k0_pay12 (iblk m c 3 t)) k0_pay13 (k0_pay19 (k0_pay11 (k0_pay4 (iblk m c 0 t) (iblk m c 1 t)) (View.ld (iblk m c 2 t) (Rect.unit ![0, 3072] ![1024, 512] inb_S1024x6016_S1024x512_0_3072)))) (k0_pay21 (k0_pay11 (k0_pay4 (iblk m c 0 t) (iblk m c 1 t)) (View.ld (iblk m c 2 t) (Rect.unit ![0, 3072] ![1024, 512] inb_S1024x6016_S1024x512_0_3072))) k0_pay13) (k0_pay22 (k0_pay11 (k0_pay4 (iblk m c 0 t) (iblk m c 1 t)) (View.ld (iblk m c 2 t) (Rect.unit ![0, 3072] ![1024, 512] inb_S1024x6016_S1024x512_0_3072))) k0_pay13) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (qa1_at _ _ x).trans (Eq.trans ?_ (Cert.ProjRefIdeal.Whole.REF_QA _ _ _ _ _ _ _ q ⟨128 + (x 1).val, by omega⟩ (by show q.val = 3072 + (128 + (x 1).val); omega)).symm)
  exact normed64_scaled (fun k => (pay11_at _ _ _ _).trans (col m c t (x 0) 3072 512 _ ⟨128 + ((x 1).val / 64 * 64 + k.val), by omega⟩ ⟨3072 + (128 + ((x 1).val / 64 * 64 + k.val)), by omega⟩ rfl _ (fun j => WT_QA _ j _ ⟨(128 + (x 1).val) / 64 * 64 + k.val, by omega⟩ (by show 3072 + (128 + ((x 1).val / 64 * 64 + k.val)) = 3072 + ((128 + (x 1).val) / 64 * 64 + k.val); omega)))) ((pay11_at _ _ _ _).trans (col m c t (x 0) 3072 512 _ ⟨128 + (x 1).val, by omega⟩ ⟨3072 + (128 + (x 1).val), by omega⟩ rfl _ (fun j => WT_QA _ j _ ⟨128 + (x 1).val, by omega⟩ (by show 3072 + (128 + (x 1).val) = 3072 + (128 + (x 1).val); omega)))) (gq_at m c t ⟨128 + (x 1).val, by omega⟩)

/-- The stored block 12, against the reference. -/
theorem block12 (c : Dev nD) (t : Fin cfg0.N) (x : S512x128.Idx) (q : Fin 6016) (hq : q.val = 3328 + (x 1).val) :
    k0_pay25 (F := Ideal) (k0_pay12 (iblk m c 3 t)) (k0_pay24 (k0_pay11 (k0_pay4 (iblk m c 0 t) (iblk m c 1 t)) (View.ld (iblk m c 2 t) (Rect.unit ![0, 3072] ![1024, 512] inb_S1024x6016_S1024x512_0_3072))) k0_pay13) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (qa2_at _ _ x).trans (Eq.trans ?_ (Cert.ProjRefIdeal.Whole.REF_QA _ _ _ _ _ _ _ q ⟨256 + (x 1).val, by omega⟩ (by show q.val = 3072 + (256 + (x 1).val); omega)).symm)
  exact normed64_scaled (fun k => (pay11_at _ _ _ _).trans (col m c t (x 0) 3072 512 _ ⟨256 + ((x 1).val / 64 * 64 + k.val), by omega⟩ ⟨3072 + (256 + ((x 1).val / 64 * 64 + k.val)), by omega⟩ rfl _ (fun j => WT_QA _ j _ ⟨(256 + (x 1).val) / 64 * 64 + k.val, by omega⟩ (by show 3072 + (256 + ((x 1).val / 64 * 64 + k.val)) = 3072 + ((256 + (x 1).val) / 64 * 64 + k.val); omega)))) ((pay11_at _ _ _ _).trans (col m c t (x 0) 3072 512 _ ⟨256 + (x 1).val, by omega⟩ ⟨3072 + (256 + (x 1).val), by omega⟩ rfl _ (fun j => WT_QA _ j _ ⟨256 + (x 1).val, by omega⟩ (by show 3072 + (256 + (x 1).val) = 3072 + (256 + (x 1).val); omega)))) (gq_at m c t ⟨256 + (x 1).val, by omega⟩)

/-- The stored block 11, against the reference. -/
theorem block11 (c : Dev nD) (t : Fin cfg0.N) (x : S512x128.Idx) (q : Fin 6016) (hq : q.val = 3456 + (x 1).val) :
    k0_pay26 (F := Ideal) (k0_pay11 (k0_pay4 (iblk m c 0 t) (iblk m c 1 t)) (View.ld (iblk m c 2 t) (Rect.unit ![0, 3072] ![1024, 512] inb_S1024x6016_S1024x512_0_3072))) (k0_pay12 (iblk m c 3 t)) k0_pay13 x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (qa3_at _ _ x).trans (Eq.trans ?_ (Cert.ProjRefIdeal.Whole.REF_QA _ _ _ _ _ _ _ q ⟨384 + (x 1).val, by omega⟩ (by show q.val = 3072 + (384 + (x 1).val); omega)).symm)
  exact normed64_scaled (fun k => (pay11_at _ _ _ _).trans (col m c t (x 0) 3072 512 _ ⟨384 + ((x 1).val / 64 * 64 + k.val), by omega⟩ ⟨3072 + (384 + ((x 1).val / 64 * 64 + k.val)), by omega⟩ rfl _ (fun j => WT_QA _ j _ ⟨(384 + (x 1).val) / 64 * 64 + k.val, by omega⟩ (by show 3072 + (384 + ((x 1).val / 64 * 64 + k.val)) = 3072 + ((384 + (x 1).val) / 64 * 64 + k.val); omega)))) ((pay11_at _ _ _ _).trans (col m c t (x 0) 3072 512 _ ⟨384 + (x 1).val, by omega⟩ ⟨3072 + (384 + (x 1).val), by omega⟩ rfl _ (fun j => WT_QA _ j _ ⟨384 + (x 1).val, by omega⟩ (by show 3072 + (384 + (x 1).val) = 3072 + (384 + (x 1).val); omega)))) (gq_at m c t ⟨384 + (x 1).val, by omega⟩)

/-- The stored block 6, against the reference. -/
theorem block6 (c : Dev nD) (t : Fin cfg0.N) (x : S512x128.Idx) (q : Fin 6016) (hq : q.val = 4096 + (x 1).val) :
    k0_pay44 (F := Ideal) (k0_pay38 (k0_pay4 (iblk m c 0 t) (iblk m c 1 t)) (View.ld (iblk m c 2 t) (Rect.unit ![0, 4096] ![1024, 256] inb_S1024x6016_S1024x256_0_4096))) (k0_pay39 (iblk m c 5 t)) k0_pay40 (k0_pay41 (k0_pay4 (iblk m c 0 t) (iblk m c 1 t)) (View.ld (iblk m c 2 t) (Rect.unit ![0, 4096] ![1024, 256] inb_S1024x6016_S1024x256_0_4096))) (k0_pay42 (k0_pay4 (iblk m c 0 t) (iblk m c 1 t)) (View.ld (iblk m c 2 t) (Rect.unit ![0, 4096] ![1024, 256] inb_S1024x6016_S1024x256_0_4096))) (FloatOps.ofBits FTy.f32 0#32) k0_pay43 x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (ka_at _ _ _ x).trans (Eq.trans ?_ (Cert.ProjRefIdeal.Whole.REF_KA _ _ _ _ _ _ _ q ⟨(x 1).val, by omega⟩ (by show q.val = 4096 + ((x 1).val); omega)).symm)
  exact normed64_congr (fun k => (pay37_at _ _ _ _).trans (col m c t (x 0) 4096 256 _ ⟨((x 1).val / 64 * 64 + k.val), by omega⟩ ⟨4096 + (((x 1).val / 64 * 64 + k.val)), by omega⟩ rfl _ (fun j => WT_KA _ j _ ⟨((x 1).val) / 64 * 64 + k.val, by omega⟩ (by show 4096 + (((x 1).val / 64 * 64 + k.val)) = 4096 + (((x 1).val) / 64 * 64 + k.val); omega)))) ((pay37_at _ _ _ _).trans (col m c t (x 0) 4096 256 _ ⟨(x 1).val, by omega⟩ ⟨4096 + ((x 1).val), by omega⟩ rfl _ (fun j => WT_KA _ j _ ⟨(x 1).val, by omega⟩ (by show 4096 + ((x 1).val) = 4096 + ((x 1).val); omega)))) (gk_at m c t ⟨(x 1).val, by omega⟩)

/-- The stored block 10, against the reference. -/
theorem block10 (c : Dev nD) (t : Fin cfg0.N) (x : S512x128.Idx) (q : Fin 6016) (hq : q.val = 3584 + (x 1).val) :
    k0_pay30 (F := Ideal) (k0_pay4 (iblk m c 0 t) (iblk m c 1 t)) (k0_pay27 (View.ld (iblk m c 2 t) (Rect.unit ![0, 3584] ![1024, 512] inb_S1024x6016_S1024x512_0_3584))) (iblk m c 4 t) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (qm0_at _ _ _ x).trans (Eq.trans ?_ (Cert.ProjRefIdeal.Whole.REF_QM _ _ _ _ _ _ _ q ⟨(x 1).val, by omega⟩ (by show q.val = 3584 + ((x 1).val); omega)).symm)
  exact normed_congr (fun k => (pay28_at _ _ _ _).trans (col m c t (x 0) 3584 512 _ ⟨k.val, by omega⟩ ⟨3584 + (k.val), by omega⟩ rfl _ (fun j => WT_QM _ j _ ⟨((x 1).val) / 128 * 128 + k.val, by omega⟩ (by show 3584 + (k.val) = 3584 + (((x 1).val) / 128 * 128 + k.val); omega)))) ((pay28_at _ _ _ _).trans (col m c t (x 0) 3584 512 _ ⟨(x 1).val, by omega⟩ ⟨3584 + ((x 1).val), by omega⟩ rfl _ (fun j => WT_QM _ j _ ⟨(x 1).val, by omega⟩ (by show 3584 + ((x 1).val) = 3584 + ((x 1).val); omega)))) (gm_at m c t ⟨(x 1).val, by omega⟩)

/-- The stored block 9, against the reference. -/
theorem block9 (c : Dev nD) (t : Fin cfg0.N) (x : S512x128.Idx) (q : Fin 6016) (hq : q.val = 3712 + (x 1).val) :
    k0_pay31 (F := Ideal) (k0_pay4 (iblk m c 0 t) (iblk m c 1 t)) (k0_pay27 (View.ld (iblk m c 2 t) (Rect.unit ![0, 3584] ![1024, 512] inb_S1024x6016_S1024x512_0_3584))) (iblk m c 4 t) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (qm1_at _ _ _ x).trans (Eq.trans ?_ (Cert.ProjRefIdeal.Whole.REF_QM _ _ _ _ _ _ _ q ⟨128 + (x 1).val, by omega⟩ (by show q.val = 3584 + (128 + (x 1).val); omega)).symm)
  exact normed_congr (fun k => (pay28_at _ _ _ _).trans (col m c t (x 0) 3584 512 _ ⟨128 + k.val, by omega⟩ ⟨3584 + (128 + k.val), by omega⟩ rfl _ (fun j => WT_QM _ j _ ⟨(128 + (x 1).val) / 128 * 128 + k.val, by omega⟩ (by show 3584 + (128 + k.val) = 3584 + ((128 + (x 1).val) / 128 * 128 + k.val); omega)))) ((pay28_at _ _ _ _).trans (col m c t (x 0) 3584 512 _ ⟨128 + (x 1).val, by omega⟩ ⟨3584 + (128 + (x 1).val), by omega⟩ rfl _ (fun j => WT_QM _ j _ ⟨128 + (x 1).val, by omega⟩ (by show 3584 + (128 + (x 1).val) = 3584 + (128 + (x 1).val); omega)))) (gm_at m c t ⟨128 + (x 1).val, by omega⟩)

/-- The stored block 8, against the reference. -/
theorem block8 (c : Dev nD) (t : Fin cfg0.N) (x : S512x128.Idx) (q : Fin 6016) (hq : q.val = 3840 + (x 1).val) :
    k0_pay35 (F := Ideal) (k0_pay29 (iblk m c 4 t)) (k0_pay32 (k0_pay4 (iblk m c 0 t) (iblk m c 1 t)) (k0_pay27 (View.ld (iblk m c 2 t) (Rect.unit ![0, 3584] ![1024, 512] inb_S1024x6016_S1024x512_0_3584)))) (k0_pay33 (k0_pay4 (iblk m c 0 t) (iblk m c 1 t)) (k0_pay27 (View.ld (iblk m c 2 t) (Rect.unit ![0, 3584] ![1024, 512] inb_S1024x6016_S1024x512_0_3584)))) k0_pay34 x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (qm2_at _ _ _ x).trans (Eq.trans ?_ (Cert.ProjRefIdeal.Whole.REF_QM _ _ _ _ _ _ _ q ⟨256 + (x 1).val, by omega⟩ (by show q.val = 3584 + (256 + (x 1).val); omega)).symm)
  exact normed_congr (fun k => (pay28_at _ _ _ _).trans (col m c t (x 0) 3584 512 _ ⟨256 + k.val, by omega⟩ ⟨3584 + (256 + k.val), by omega⟩ rfl _ (fun j => WT_QM _ j _ ⟨(256 + (x 1).val) / 128 * 128 + k.val, by omega⟩ (by show 3584 + (256 + k.val) = 3584 + ((256 + (x 1).val) / 128 * 128 + k.val); omega)))) ((pay28_at _ _ _ _).trans (col m c t (x 0) 3584 512 _ ⟨256 + (x 1).val, by omega⟩ ⟨3584 + (256 + (x 1).val), by omega⟩ rfl _ (fun j => WT_QM _ j _ ⟨256 + (x 1).val, by omega⟩ (by show 3584 + (256 + (x 1).val) = 3584 + (256 + (x 1).val); omega)))) (gm_at m c t ⟨256 + (x 1).val, by omega⟩)

/-- The stored block 7, against the reference. -/
theorem block7 (c : Dev nD) (t : Fin cfg0.N) (x : S512x128.Idx) (q : Fin 6016) (hq : q.val = 3968 + (x 1).val) :
    k0_pay36 (F := Ideal) (k0_pay28 (k0_pay4 (iblk m c 0 t) (iblk m c 1 t)) (k0_pay27 (View.ld (iblk m c 2 t) (Rect.unit ![0, 3584] ![1024, 512] inb_S1024x6016_S1024x512_0_3584)))) (k0_pay29 (iblk m c 4 t)) x
      = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + (x 0).val, by have h1 : t.val < 64 := t.isLt; have h2 : (x 0).val < 512 := (x 0).isLt; omega⟩ q) := by
  have hx0 : (x 0).val < 512 := (x 0).isLt
  have hx1 : (x 1).val < 128 := (x 1).isLt
  have ht : t.val < 64 := t.isLt
  refine (qm3_at _ _ x).trans (Eq.trans ?_ (Cert.ProjRefIdeal.Whole.REF_QM _ _ _ _ _ _ _ q ⟨384 + (x 1).val, by omega⟩ (by show q.val = 3584 + (384 + (x 1).val); omega)).symm)
  exact normed_congr (fun k => (pay28_at _ _ _ _).trans (col m c t (x 0) 3584 512 _ ⟨384 + k.val, by omega⟩ ⟨3584 + (384 + k.val), by omega⟩ rfl _ (fun j => WT_QM _ j _ ⟨(384 + (x 1).val) / 128 * 128 + k.val, by omega⟩ (by show 3584 + (384 + k.val) = 3584 + ((384 + (x 1).val) / 128 * 128 + k.val); omega)))) ((pay28_at _ _ _ _).trans (col m c t (x 0) 3584 512 _ ⟨384 + (x 1).val, by omega⟩ ⟨3584 + (384 + (x 1).val), by omega⟩ rfl _ (fun j => WT_QM _ j _ ⟨384 + (x 1).val, by omega⟩ (by show 3584 + (384 + (x 1).val) = 3584 + (384 + (x 1).val); omega)))) (gm_at m c t ⟨384 + (x 1).val, by omega⟩)

/-- The result array after the run is the reference's. -/
theorem final (c : Dev nD) : (dats m 0 c).arrAt 6 (cfgs 0).N
    = Cert.ProjRefIdeal.Whole.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp; rw [after0_6]; unfold Gen.outsAt0; frame_out
  rw [emb_at]
  canon_tiles x h using View.cover_of_tiledBy _ ![512, 128] (by sl_kernel_rfl) y
  case piece0 =>
    refine (block0 m c t x (y 1) (by simpa using h1)).trans ?_
    exact congrArg _ (congrArg₂ ix2 (Fin.ext (by show 512 * t.val + (x 0).val = 512 * t.val + (y 0).val; omega)) rfl)
  case piece1 =>
    refine (block1 m c t x (y 1) (by simpa using h1)).trans ?_
    exact congrArg _ (congrArg₂ ix2 (Fin.ext (by show 512 * t.val + (x 0).val = 512 * t.val + (y 0).val; omega)) rfl)
  case piece2 =>
    refine (block2 m c t x (y 1) (by simpa using h1)).trans ?_
    exact congrArg _ (congrArg₂ ix2 (Fin.ext (by show 512 * t.val + (x 0).val = 512 * t.val + (y 0).val; omega)) rfl)
  case piece3 =>
    refine (block3 m c t x (y 1) (by simpa using h1)).trans ?_
    exact congrArg _ (congrArg₂ ix2 (Fin.ext (by show 512 * t.val + (x 0).val = 512 * t.val + (y 0).val; omega)) rfl)
  case piece4 =>
    refine (block4 m c t x (y 1) (by simpa using h1)).trans ?_
    exact congrArg _ (congrArg₂ ix2 (Fin.ext (by show 512 * t.val + (x 0).val = 512 * t.val + (y 0).val; omega)) rfl)
  case piece5 =>
    refine (block5 m c t x (y 1) (by simpa using h1)).trans ?_
    exact congrArg _ (congrArg₂ ix2 (Fin.ext (by show 512 * t.val + (x 0).val = 512 * t.val + (y 0).val; omega)) rfl)
  case piece6 =>
    refine (block6 m c t x (y 1) (by simpa using h1)).trans ?_
    exact congrArg _ (congrArg₂ ix2 (Fin.ext (by show 512 * t.val + (x 0).val = 512 * t.val + (y 0).val; omega)) rfl)
  case piece7 =>
    refine (block7 m c t x (y 1) (by simpa using h1)).trans ?_
    exact congrArg _ (congrArg₂ ix2 (Fin.ext (by show 512 * t.val + (x 0).val = 512 * t.val + (y 0).val; omega)) rfl)
  case piece8 =>
    refine (block8 m c t x (y 1) (by simpa using h1)).trans ?_
    exact congrArg _ (congrArg₂ ix2 (Fin.ext (by show 512 * t.val + (x 0).val = 512 * t.val + (y 0).val; omega)) rfl)
  case piece9 =>
    refine (block9 m c t x (y 1) (by simpa using h1)).trans ?_
    exact congrArg _ (congrArg₂ ix2 (Fin.ext (by show 512 * t.val + (x 0).val = 512 * t.val + (y 0).val; omega)) rfl)
  case piece10 =>
    refine (block10 m c t x (y 1) (by simpa using h1)).trans ?_
    exact congrArg _ (congrArg₂ ix2 (Fin.ext (by show 512 * t.val + (x 0).val = 512 * t.val + (y 0).val; omega)) rfl)
  case piece11 =>
    refine (block11 m c t x (y 1) (by simpa using h1)).trans ?_
    exact congrArg _ (congrArg₂ ix2 (Fin.ext (by show 512 * t.val + (x 0).val = 512 * t.val + (y 0).val; omega)) rfl)
  case piece12 =>
    refine (block12 m c t x (y 1) (by simpa using h1)).trans ?_
    exact congrArg _ (congrArg₂ ix2 (Fin.ext (by show 512 * t.val + (x 0).val = 512 * t.val + (y 0).val; omega)) rfl)
  case piece13 =>
    refine (block13 m c t x (y 1) (by simpa using h1)).trans ?_
    exact congrArg _ (congrArg₂ ix2 (Fin.ext (by show 512 * t.val + (x 0).val = 512 * t.val + (y 0).val; omega)) rfl)
  case piece14 =>
    refine (block14 m c t x (y 1) (by simpa using h1)).trans ?_
    exact congrArg _ (congrArg₂ ix2 (Fin.ext (by show 512 * t.val + (x 0).val = 512 * t.val + (y 0).val; omega)) rfl)
  case piece15 =>
    refine (block15 m c t x (y 1) (by simpa using h1)).trans ?_
    exact congrArg _ (congrArg₂ ix2 (Fin.ext (by show 512 * t.val + (x 0).val = 512 * t.val + (y 0).val; omega)) rfl)
  case piece16 =>
    refine (block16 m c t x (y 1) (by simpa using h1)).trans ?_
    exact congrArg _ (congrArg₂ ix2 (Fin.ext (by show 512 * t.val + (x 0).val = 512 * t.val + (y 0).val; omega)) rfl)
  case piece17 =>
    refine (block17 m c t x (y 1) (by simpa using h1)).trans ?_
    exact congrArg _ (congrArg₂ ix2 (Fin.ext (by show 512 * t.val + (x 0).val = 512 * t.val + (y 0).val; omega)) rfl)
  case piece18 =>
    refine (block18 m c t x (y 1) (by simpa using h1)).trans ?_
    exact congrArg _ (congrArg₂ ix2 (Fin.ext (by show 512 * t.val + (x 0).val = 512 * t.val + (y 0).val; omega)) rfl)
  case piece19 =>
    refine (block19 m c t x (y 1) (by simpa using h1)).trans ?_
    exact congrArg _ (congrArg₂ ix2 (Fin.ext (by show 512 * t.val + (x 0).val = 512 * t.val + (y 0).val; omega)) rfl)
  case piece20 =>
    refine (block20 m c t x (y 1) (by simpa using h1)).trans ?_
    exact congrArg _ (congrArg₂ ix2 (Fin.ext (by show 512 * t.val + (x 0).val = 512 * t.val + (y 0).val; omega)) rfl)
end Cert.ProjIdeal.RefValue

end
-- ==== Proof.MemKvValue.lean ====
module

public import proofs.«01_k».proof.Proof.Gen.MemKvIdeal.Frame
public import proofs.«01_k».proof.Proof.Gen.MemKvRefIdeal.Run
public import Idealize.ShloMosaic.Lib.Pipeline.ValueKit
public import Idealize.ShloMosaic.Lib.Pointwise

@[expose] public section

set_option maxRecDepth 16384

noncomputable section

namespace Cert.MemKvRefIdeal.Whole
open Idealize.ShloMosaic Idealize.ShloMosaic.TcCoe Idealize.SL.Sem
open Cert.MemKvRefIdeal Cert.MemKvRefIdeal.Gen

/-- The memory projection's reference result as one term over the memory, the norm's gain, the weights and the key norm's gain. -/
abbrev REF (a0 : FVec Ideal S2048x1024 .f32) (a1 : FVec Ideal S1024 .f32) (a2 : FVec Ideal S1024x1024 .f32) (a3 : FVec Ideal S128 .f32) :
    FVec Ideal S2048x1024 .bf16 :=
  truncf .bf16 (concatenate S2048x1024 1 [⟨S2048x512, (shapeCast _ (mulf (mulf (shapeCast _ (extractStridedSlice S2048x512 ![0, 0] (Host.dotGeneral dot_S2048x1024_S1024x1024_S2048x1024_1_0_0_1_n_n none (mulf (mulf a0 (broadcastInDim S2048x1024 ![0, 1] bcast_S2048x1_S2048x1024_0_1 (Host.rsqrt (addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 a1))) a2) slices_S2048x1024_S2048x512_0_0) shapeCasts_S2048x512_S2048x4x128) (broadcastInDim S2048x4x128 ![0, 1, 2] bcast_S2048x4x1_S2048x4x128_0_1_2 (Host.rsqrt (addf (Host.divf (broadcastInDim S2048x4x1 ![0, 1] bcast_S2048x4_S2048x4x1_0_1 (Host.reduceAdd (mulf (shapeCast _ (extractStridedSlice S2048x512 ![0, 0] (Host.dotGeneral dot_S2048x1024_S1024x1024_S2048x1024_1_0_0_1_n_n none (mulf (mulf a0 (broadcastInDim S2048x1024 ![0, 1] bcast_S2048x1_S2048x1024_0_1 (Host.rsqrt (addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 a1))) a2) slices_S2048x1024_S2048x512_0_0) shapeCasts_S2048x512_S2048x4x128) (shapeCast _ (extractStridedSlice S2048x512 ![0, 0] (Host.dotGeneral dot_S2048x1024_S1024x1024_S2048x1024_1_0_0_1_n_n none (mulf (mulf a0 (broadcastInDim S2048x1024 ![0, 1] bcast_S2048x1_S2048x1024_0_1 (Host.rsqrt (addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 a1))) a2) slices_S2048x1024_S2048x512_0_0) shapeCasts_S2048x512_S2048x4x128)) (constant S_ .f32 0x00000000#32) reducesTo_S2048x4x128_S2048x4_d2 h_S_)) (broadcastInDim S2048x4x1 ![] bcast_S_S2048x4x1 (constant S_ .f32 0x43000000#32))) (broadcastInDim S2048x4x1 ![] bcast_S_S2048x4x1 (constant S_ .f32 0x358637BD#32)))))) (broadcastInDim S2048x4x128 ![0, 1, 2] bcast_S1x1x128_S2048x4x128_0_1_2 (broadcastInDim S1x1x128 ![2] bcast_S128_S1x1x128_2 a3))) shapeCasts_S2048x4x128_S2048x512)⟩, ⟨S2048x512, (extractStridedSlice S2048x512 ![0, 512] (Host.dotGeneral dot_S2048x1024_S1024x1024_S2048x1024_1_0_0_1_n_n none (mulf (mulf a0 (broadcastInDim S2048x1024 ![0, 1] bcast_S2048x1_S2048x1024_0_1 (Host.rsqrt (addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 a1))) a2) slices_S2048x1024_S2048x512_0_512)⟩] concatenates_S2048x512_S2048x512_S2048x1024_d1) bitsLt_bf16_f32

end Cert.MemKvRefIdeal.Whole

namespace Cert.MemKvIdeal.RefValue
open Idealize.ShloMosaic Idealize.ShloMosaic.TcCoe Idealize.SL.Sem
open Idealize.ShloMosaic.Pipeline (Dat)
open Cert.MemKvIdeal Cert.MemKvIdeal.Gen

variable (m : (ℓ : Loc nD τ sig) → Buf (Elt Ideal) ℓ)

/-- The scale of a row: the reciprocal root of its mean square plus the small constant. -/
def rinv (xr : Fin 1024 → EReal) : EReal :=
  Ideal.rsqrt (Ideal.div (∑ x, xr x * xr x) (Ideal.ofBits FTy.f32 1149239296#32) + Ideal.ofBits FTy.f32 897988541#32)

/-- A normed row times one column of weights. -/
def prod (xr g w : Fin 1024 → EReal) : EReal := ∑ k, xr k * rinv xr * g k * w k

/-- One element `q` of a head's 128 elements `p`, normed by the head's mean square, times its gain. -/
def normed (p : Fin 128 → EReal) (q gk : EReal) : EReal :=
  q * Ideal.rsqrt (Ideal.div (∑ x, p x * p x) (Ideal.ofBits FTy.f32 0x43000000#32) + Ideal.ofBits FTy.f32 897988541#32) * gk

/-- The reference at one element: a normed key in the first 512 columns, a plain product in the others. -/
theorem ref_at (a0 : FVec Ideal Cert.MemKvRefIdeal.S2048x1024 .f32) (a1 : FVec Ideal Cert.MemKvRefIdeal.S1024 .f32)
    (a2 : FVec Ideal Cert.MemKvRefIdeal.S1024x1024 .f32) (a3 : FVec Ideal Cert.MemKvRefIdeal.S128 .f32)
    (y : Cert.MemKvRefIdeal.S2048x1024.Idx) :
    Cert.MemKvRefIdeal.Whole.REF a0 a1 a2 a3 y
      = if hy : (y 1).val < 512 then
          normed (fun k => prod (fun j => a0 (ix2 (y 0) j)) (fun j => a1 (ix1 j)) (fun j => a2 (ix2 j ⟨(y 1).val / 128 * 128 + k.val, by omega⟩)))
            (prod (fun j => a0 (ix2 (y 0) j)) (fun j => a1 (ix1 j)) (fun j => a2 (ix2 j (y 1)))) (a3 (ix1 ⟨(y 1).val % 128, by omega⟩))
        else prod (fun j => a0 (ix2 (y 0) j)) (fun j => a1 (ix1 j)) (fun j => a2 (ix2 j (y 1))) := by
  pointwise [Cert.MemKvRefIdeal.Whole.REF, normed, prod, rinv]
  by_cases hy : (y 1).val < 512
  · rw [dif_pos hy, dif_pos hy]; blk_point []
  · rw [dif_neg hy, dif_neg hy]; blk_point []

/-- The values' payload at one element. -/
theorem pay1_at (x : FVec Ideal S512x1024 .f32) (g : FVec Ideal S1x1024 .f32) (w : FVec Ideal S1024x512 .bf16) (y : S512x512.Idx) :
    k0_pay1 (F := Ideal) (k0_pay2 x g) w y
      = prod (fun j => x (ix2 (y 0) j)) (fun j => g (ix2 0 j)) (fun j => w (ix2 j (y 1))) := by
  pointwise [k0_pay1, k0_pay2, prod, rinv]

/-- The key product at one element. -/
theorem pay3_at (x : FVec Ideal S512x1024 .f32) (g : FVec Ideal S1x1024 .f32) (w : FVec Ideal S1024x512 .bf16) (y : S512x512.Idx) :
    k0_pay3 (F := Ideal) x g w y
      = prod (fun j => x (ix2 (y 0) j)) (fun j => g (ix2 0 j)) (fun j => w (ix2 j (y 1))) := by
  pointwise [k0_pay3, k0_pay2, prod, rinv]

/-- The first head's keys: its elements of the key product, normed. -/
theorem head0_at (x : FVec Ideal S512x1024 .f32) (g : FVec Ideal S1x1024 .f32) (w : FVec Ideal S1024x512 .bf16)
    (gk : FVec Ideal S1x512 .f32) (y : S512x128.Idx) :
    k0_pay5 (F := Ideal) x g w gk y
      = normed (fun k => k0_pay3 (F := Ideal) x g w (ix2 (y 0) ⟨k.val, by omega⟩)) (k0_pay3 (F := Ideal) x g w (ix2 (y 0) ⟨(y 1).val, by have h1 : (y 1).val < 128 := (y 1).isLt; omega⟩))
          (gk (ix2 0 ⟨(y 1).val, by have h1 : (y 1).val < 128 := (y 1).isLt; omega⟩)) := by
  pointwise [k0_pay5, k0_pay4, normed]

/-- The second head's keys. -/
theorem head1_at (x : FVec Ideal S512x1024 .f32) (g : FVec Ideal S1x1024 .f32) (w : FVec Ideal S1024x512 .bf16)
    (gk : FVec Ideal S1x512 .f32) (y : S512x128.Idx) :
    k0_pay8 (F := Ideal) (k0_pay4 gk) (k0_pay6 x g w) (k0_pay7 x g w) y
      = normed (fun k => k0_pay3 (F := Ideal) x g w (ix2 (y 0) ⟨128 + k.val, by omega⟩)) (k0_pay3 (F := Ideal) x g w (ix2 (y 0) ⟨128 + (y 1).val, by have h1 : (y 1).val < 128 := (y 1).isLt; omega⟩))
          (gk (ix2 0 ⟨128 + (y 1).val, by have h1 : (y 1).val < 128 := (y 1).isLt; omega⟩)) := by
  pointwise [k0_pay8, k0_pay4, k0_pay6, k0_pay7, normed]

/-- The third head's keys. -/
theorem head2_at (p : FVec Ideal S512x512 .f32) (gk : FVec Ideal S1x512 .f32) (y : S512x128.Idx) :
    k0_pay9 (F := Ideal) p (k0_pay4 gk) y
      = normed (fun k => p (ix2 (y 0) ⟨256 + k.val, by omega⟩)) (p (ix2 (y 0) ⟨256 + (y 1).val, by have h1 : (y 1).val < 128 := (y 1).isLt; omega⟩))
          (gk (ix2 0 ⟨256 + (y 1).val, by have h1 : (y 1).val < 128 := (y 1).isLt; omega⟩)) := by
  pointwise [k0_pay9, k0_pay4, normed]

/-- The fourth head's keys. -/
theorem head3_at (p : FVec Ideal S512x512 .f32) (gk : FVec Ideal S1x512 .f32) (y : S512x128.Idx) :
    k0_pay10 (F := Ideal) p (k0_pay4 gk) y
      = normed (fun k => p (ix2 (y 0) ⟨384 + k.val, by omega⟩)) (p (ix2 (y 0) ⟨384 + (y 1).val, by have h1 : (y 1).val < 128 := (y 1).isLt; omega⟩))
          (gk (ix2 0 ⟨384 + (y 1).val, by have h1 : (y 1).val < 128 := (y 1).isLt; omega⟩)) := by
  pointwise [k0_pay10, k0_pay4, normed]

/-- Every window's block index. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The result array after the run is the reference's. -/
theorem final (c : Dev nD) : (dats m 0 c).arrAt 4 (cfgs 0).N
    = Cert.MemKvRefIdeal.Whole.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]; unfold Gen.outsAt0; frame_out
  rw [ref_at]
  canon_tiles x h using View.cover_of_tiledBy _ ![512, 128] (by sl_kernel_rfl) y
  case piece0 =>
    rw [dif_neg (by blk_simp [idx t]; omega)]
    refine (pay1_at _ _ _ x).trans ?_
    simp only [prod, rinv]
    blk_point [iblk, V, idx t]
  case piece1 =>
    rw [dif_pos (by blk_simp [idx t]; omega)]
    refine (head3_at _ _ x).trans ?_
    simp only [pay3_at]
    simp only [normed, prod, rinv]
    blk_point [iblk, V, idx t]
  case piece2 =>
    rw [dif_pos (by blk_simp [idx t]; omega)]
    refine (head2_at _ _ x).trans ?_
    simp only [pay3_at]
    simp only [normed, prod, rinv]
    blk_point [iblk, V, idx t]
  case piece3 =>
    rw [dif_pos (by blk_simp [idx t]; omega)]
    refine (head1_at _ _ _ _ x).trans ?_
    simp only [pay3_at]
    simp only [normed, prod, rinv]
    blk_point [iblk, V, idx t]
  case piece4 =>
    rw [dif_pos (by blk_simp [idx t]; omega)]
    refine (head0_at _ _ _ _ x).trans ?_
    simp only [pay3_at]
    simp only [normed, prod, rinv]
    blk_point [iblk, V, idx t]

end Cert.MemKvIdeal.RefValue

end
-- ==== Proof.BiasRefValue.lean ====
module

public import proofs.«01_k».proof.Proof.Gen.BiasRefIdeal.Run
public import Idealize.ShloMosaic.Lib.Pipeline.ValueKit
public import Idealize.ShloMosaic.Lib.Pointwise

@[expose] public section

set_option maxRecDepth 16384

noncomputable section

namespace Cert.BiasRefIdeal.Whole
open Idealize.ShloMosaic Idealize.ShloMosaic.TcCoe Idealize.SL.Sem
open Cert.BiasRefIdeal Cert.BiasRefIdeal.Gen

/-- The same number at every query and key. -/
abbrev ALL (n : BitVec 32) : IVec S128x384 32 := broadcastInDim S128x384 ![] bcast_S_S128x384 (constantI S_ 32 n)

/-- The distance from a query to a key, signed. -/
def REL : IVec S128x384 32 :=
  subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0)))

/-- One where the squared distance reaches `n`, else zero. -/
def STEP (D : IVec S128x384 32) (n : BitVec 32) : IVec S128x384 32 := extui 32 (cmpi .sge (muli D D) (ALL n)) natLt_1_32

/-- The bucket of a large distance. -/
def LARGE (D : IVec S128x384 32) : IVec S128x384 32 :=
  addi (addi (addi (addi (addi (addi (addi (addi (ALL 0#32) (STEP D 128#32)) (STEP D 256#32)) (STEP D 512#32)) (STEP D 1024#32)) (STEP D 2048#32)) (STEP D 4096#32)) (STEP D 8192#32)) (ALL 8#32)

/-- The bucket of a signed distance `R` of size `D`. -/
def BUCKET (R D : IVec S128x384 32) : IVec S128x384 32 :=
  addi (muli (extui 32 (cmpi .sgt R (ALL 0#32)) natLt_1_32) (ALL 16#32)) (select (cmpi .slt D (ALL 8#32)) D (LARGE D))

/-- A row number, counted from the end where it is negative. -/
def WRAP (B : IVec S128x384 32) : IVec S128x384 32 := select (cmpi .slt B (ALL 0#32)) (addi B (ALL 32#32)) B

/-- The rows of the table `a0` at the row numbers `B`, heads first. -/
def ROWS (a0 : FVec Ideal S32x8 .f32) (B : IVec S128x384 32) : FVec Ideal S8x128x384 .f32 :=
  transpose S8x128x384 [2, 0, 1] (Host.gather gather_S32x8_S128x384x1_S128x384x8_2_0_n_n_0_2_18 a0 (broadcastInDim S128x384x1 ![0, 1] bcast_S128x384_S128x384x1_0_1 B)) transposes_S128x384x8_S8x128x384_2_0_1

/-- The table's rows `X` within the window's distance, minus infinity outside it. -/
def BAND (D : IVec S128x384 32) (X : FVec Ideal S8x128x384 .f32) : FVec Ideal S8x128x384 .f32 :=
  select (broadcastInDim S8x128x384 ![1, 2] bcast_S128x384_S8x128x384_1_2 (cmpi .sle D (ALL 128#32))) X (broadcastInDim S8x128x384 ![] bcast_S_S8x128x384 (id (constant S_ .f32 0xFF800000#32)))

/-- The position bias's reference result as one term over the table. -/
def REF (a0 : FVec Ideal S32x8 .f32) : FVec Ideal S8x128x384 .f32 :=
  BAND (absi REL) (ROWS a0 (WRAP (BUCKET REL (absi REL))))

/-- The signed distance of query `r` and key `j`, as a number. -/
def rel (r : Fin 128) (j : Fin 384) : BitVec 32 := (BitVec.ofNat 32 j.val - 128#32) - BitVec.ofNat 32 r.val

/-- A signed distance. -/
theorem rel_at (r : Fin 128) (j : Fin 384) : REL (ix2 r j) = rel r j := by
  pointwise [REL, rel]
  rfl

/-- One where the squared number reaches `n`, else zero. -/
def step (d n : BitVec 32) : BitVec 32 := (IntOp.cmpi .sge (d * d) n).setWidth 32

/-- The bucket of a large distance `d`. -/
def large (d : BitVec 32) : BitVec 32 :=
  0#32 + step d 128#32 + step d 256#32 + step d 512#32 + step d 1024#32 + step d 2048#32 + step d 4096#32 + step d 8192#32 + 8#32

/-- The bucket of a signed distance `z`. -/
def bucket (z : BitVec 32) : BitVec 32 :=
  (IntOp.cmpi .sgt z 0#32).setWidth 32 * 16#32 + Scalar.select (IntOp.cmpi .slt (IntOp.absi z) 8#32) (IntOp.absi z) (large (IntOp.absi z))

/-- A row number, counted from the end where it is negative. -/
def wrap (b : BitVec 32) : BitVec 32 := Scalar.select (IntOp.cmpi .slt b 0#32) (b + 32#32) b

/-- The table's row a row number reads: itself, held within the table. -/
def row (b : BitVec 32) : Fin 32 := ⟨min b.toInt.toNat 31, by omega⟩

/-- Whether a signed distance is within the window. -/
def near (z : BitVec 32) : BitVec 1 := IntOp.cmpi .sle (IntOp.absi z) 128#32

/-- The row number of one query and key. -/
theorem wrap_at (i : S128x384.Idx) : WRAP (BUCKET REL (absi REL)) i = wrap (bucket (REL i)) := rfl

/-- One element of the rows read from the table. -/
theorem rows_at (a0 : FVec Ideal S32x8 .f32) (B : IVec S128x384 32) (h : Fin 8) (r : Fin 128) (j : Fin 384) :
    ROWS a0 B (ix3 h r j) = a0 (ix2 (row (B (ix2 r j))) h) := by
  pointwise [ROWS]
  unfold Host.gather
  generalize hD : gather_S32x8_S128x384x1_S128x384x8_2_0_n_n_0_2_18 = D
  refine congrArg a0 (funext fun a => Fin.ext ?_)
  change D.start _ _ a + D.batchCoord _ a + D.offCoord _ a = _
  subst hD
  rw [GatherDims.batchCoord_eq_zero _ _ _ (by decide +revert)]
  have ha : a = 0 ∨ a = 1 := by
    match a with
    | ⟨0, _⟩ => exact Or.inl rfl
    | ⟨1, _⟩ => exact Or.inr rfl
  rcases ha with rfl | rfl
  · rw [GatherDims.offCoord_eq_zero _ _ _ (by decide)]
    unfold GatherDims.start
    rw [dif_pos (by decide)]
    refine congrArg (fun n : BitVec 32 => min n.toInt.toNat 31) ?_
    change B _ = B _
    refine congrArg B (funext fun b => Fin.ext ?_)
    match b with
    | ⟨0, _⟩ => rfl
    | ⟨1, _⟩ => rfl
  · unfold GatherDims.start GatherDims.offCoord
    rw [dif_neg (by decide), dif_pos (by decide)]
    simp only [Nat.zero_add]
    exact congrArg (fun b : Fin 3 => ((ix3 r j h : S128x384x8.Idx) b).val) (show _ = (2 : Fin 3) by decide)

/-- The reference at one element: the table's entry of the distance's bucket within the window, minus infinity outside. -/
theorem ref_at (a0 : FVec Ideal S32x8 .f32) (h : Fin 8) (r : Fin 128) (j : Fin 384) :
    REF a0 (ix3 h r j)
      = Scalar.select (near (rel r j)) (a0 (ix2 (row (wrap (bucket (rel r j)))) h)) (Ideal.ofBits FTy.f32 0xFF800000#32) := by
  rw [← rel_at, ← wrap_at, ← rows_at a0 (WRAP (BUCKET REL (absi REL)))]
  generalize hX : ROWS a0 (WRAP (BUCKET REL (absi REL))) = X
  unfold REF
  rw [hX]
  pointwise [BAND, near]
  rfl

end Cert.BiasRefIdeal.Whole
-- ==== Proof.BiasEntry.lean ====
module

public import proofs.«01_k».proof.Proof.Gen.BiasIdeal.Frame
public import proofs.«01_k».proof.Proof.BiasRefValue

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel row wrap bucket)
open Cert.BiasIdeal Cert.BiasIdeal.Gen

variable (m : (ℓ : Loc nD τ sig) → Buf (Elt Ideal) ℓ)

/-- What the bucket table should hold for a signed distance: the reference's row within the window, a number that is no row outside it. -/
def entry (z : BitVec 32) : BitVec 32 := Scalar.select (near z) (BitVec.ofNat 32 (row (wrap (bucket z))).val) 4294967295#32

end Cert.BiasIdeal.RefValue

end
-- ==== Proof.BiasRows0.lean ====
module

public import proofs.«01_k».proof.Proof.Gen.BiasIdeal.Frame
public import proofs.«01_k».proof.Proof.BiasEntry

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel row wrap bucket)
open Cert.BiasIdeal Cert.BiasIdeal.Gen

variable (m : (ℓ : Loc nD τ sig) → Buf (Elt Ideal) ℓ)

/-- The table's rows 0 to 7. -/
theorem rows0 : ∀ s : Fin 8, ∀ j : Fin 384, lit0t ((0 + s.val) * 384 + j.val) = entry (rel ⟨0 + s.val, by omega⟩ j) := by
  decide +kernel

/-- The table's rows 8 to 15. -/
theorem rows1 : ∀ s : Fin 8, ∀ j : Fin 384, lit0t ((8 + s.val) * 384 + j.val) = entry (rel ⟨8 + s.val, by omega⟩ j) := by
  decide +kernel

end Cert.BiasIdeal.RefValue

end
-- ==== Proof.BiasRows1.lean ====
module

public import proofs.«01_k».proof.Proof.Gen.BiasIdeal.Frame
public import proofs.«01_k».proof.Proof.BiasEntry

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel row wrap bucket)
open Cert.BiasIdeal Cert.BiasIdeal.Gen

variable (m : (ℓ : Loc nD τ sig) → Buf (Elt Ideal) ℓ)

/-- The table's rows 16 to 23. -/
theorem rows2 : ∀ s : Fin 8, ∀ j : Fin 384, lit0t ((16 + s.val) * 384 + j.val) = entry (rel ⟨16 + s.val, by omega⟩ j) := by
  decide +kernel

/-- The table's rows 24 to 31. -/
theorem rows3 : ∀ s : Fin 8, ∀ j : Fin 384, lit0t ((24 + s.val) * 384 + j.val) = entry (rel ⟨24 + s.val, by omega⟩ j) := by
  decide +kernel

end Cert.BiasIdeal.RefValue

end
-- ==== Proof.BiasRows2.lean ====
module

public import proofs.«01_k».proof.Proof.Gen.BiasIdeal.Frame
public import proofs.«01_k».proof.Proof.BiasEntry

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel row wrap bucket)
open Cert.BiasIdeal Cert.BiasIdeal.Gen

variable (m : (ℓ : Loc nD τ sig) → Buf (Elt Ideal) ℓ)

/-- The table's rows 32 to 39. -/
theorem rows4 : ∀ s : Fin 8, ∀ j : Fin 384, lit0t ((32 + s.val) * 384 + j.val) = entry (rel ⟨32 + s.val, by omega⟩ j) := by
  decide +kernel

/-- The table's rows 40 to 47. -/
theorem rows5 : ∀ s : Fin 8, ∀ j : Fin 384, lit0t ((40 + s.val) * 384 + j.val) = entry (rel ⟨40 + s.val, by omega⟩ j) := by
  decide +kernel

end Cert.BiasIdeal.RefValue

end
-- ==== Proof.BiasRows3.lean ====
module

public import proofs.«01_k».proof.Proof.Gen.BiasIdeal.Frame
public import proofs.«01_k».proof.Proof.BiasEntry

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel row wrap bucket)
open Cert.BiasIdeal Cert.BiasIdeal.Gen

variable (m : (ℓ : Loc nD τ sig) → Buf (Elt Ideal) ℓ)

/-- The table's rows 48 to 55. -/
theorem rows6 : ∀ s : Fin 8, ∀ j : Fin 384, lit0t ((48 + s.val) * 384 + j.val) = entry (rel ⟨48 + s.val, by omega⟩ j) := by
  decide +kernel

/-- The table's rows 56 to 63. -/
theorem rows7 : ∀ s : Fin 8, ∀ j : Fin 384, lit0t ((56 + s.val) * 384 + j.val) = entry (rel ⟨56 + s.val, by omega⟩ j) := by
  decide +kernel

end Cert.BiasIdeal.RefValue

end
-- ==== Proof.BiasRows4.lean ====
module

public import proofs.«01_k».proof.Proof.Gen.BiasIdeal.Frame
public import proofs.«01_k».proof.Proof.BiasEntry

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel row wrap bucket)
open Cert.BiasIdeal Cert.BiasIdeal.Gen

variable (m : (ℓ : Loc nD τ sig) → Buf (Elt Ideal) ℓ)

/-- The table's rows 64 to 71. -/
theorem rows8 : ∀ s : Fin 8, ∀ j : Fin 384, lit0t ((64 + s.val) * 384 + j.val) = entry (rel ⟨64 + s.val, by omega⟩ j) := by
  decide +kernel

/-- The table's rows 72 to 79. -/
theorem rows9 : ∀ s : Fin 8, ∀ j : Fin 384, lit0t ((72 + s.val) * 384 + j.val) = entry (rel ⟨72 + s.val, by omega⟩ j) := by
  decide +kernel

end Cert.BiasIdeal.RefValue

end
-- ==== Proof.BiasRows5.lean ====
module

public import proofs.«01_k».proof.Proof.Gen.BiasIdeal.Frame
public import proofs.«01_k».proof.Proof.BiasEntry

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel row wrap bucket)
open Cert.BiasIdeal Cert.BiasIdeal.Gen

variable (m : (ℓ : Loc nD τ sig) → Buf (Elt Ideal) ℓ)

/-- The table's rows 80 to 87. -/
theorem rows10 : ∀ s : Fin 8, ∀ j : Fin 384, lit0t ((80 + s.val) * 384 + j.val) = entry (rel ⟨80 + s.val, by omega⟩ j) := by
  decide +kernel

/-- The table's rows 88 to 95. -/
theorem rows11 : ∀ s : Fin 8, ∀ j : Fin 384, lit0t ((88 + s.val) * 384 + j.val) = entry (rel ⟨88 + s.val, by omega⟩ j) := by
  decide +kernel

end Cert.BiasIdeal.RefValue

end
-- ==== Proof.BiasRows6.lean ====
module

public import proofs.«01_k».proof.Proof.Gen.BiasIdeal.Frame
public import proofs.«01_k».proof.Proof.BiasEntry

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel row wrap bucket)
open Cert.BiasIdeal Cert.BiasIdeal.Gen

variable (m : (ℓ : Loc nD τ sig) → Buf (Elt Ideal) ℓ)

/-- The table's rows 96 to 103. -/
theorem rows12 : ∀ s : Fin 8, ∀ j : Fin 384, lit0t ((96 + s.val) * 384 + j.val) = entry (rel ⟨96 + s.val, by omega⟩ j) := by
  decide +kernel

/-- The table's rows 104 to 111. -/
theorem rows13 : ∀ s : Fin 8, ∀ j : Fin 384, lit0t ((104 + s.val) * 384 + j.val) = entry (rel ⟨104 + s.val, by omega⟩ j) := by
  decide +kernel

end Cert.BiasIdeal.RefValue

end
-- ==== Proof.BiasRows7.lean ====
module

public import proofs.«01_k».proof.Proof.Gen.BiasIdeal.Frame
public import proofs.«01_k».proof.Proof.BiasEntry

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel row wrap bucket)
open Cert.BiasIdeal Cert.BiasIdeal.Gen

variable (m : (ℓ : Loc nD τ sig) → Buf (Elt Ideal) ℓ)

/-- The table's rows 112 to 119. -/
theorem rows14 : ∀ s : Fin 8, ∀ j : Fin 384, lit0t ((112 + s.val) * 384 + j.val) = entry (rel ⟨112 + s.val, by omega⟩ j) := by
  decide +kernel

/-- The table's rows 120 to 127. -/
theorem rows15 : ∀ s : Fin 8, ∀ j : Fin 384, lit0t ((120 + s.val) * 384 + j.val) = entry (rel ⟨120 + s.val, by omega⟩ j) := by
  decide +kernel

end Cert.BiasIdeal.RefValue

end
-- ==== Proof.BiasTable.lean ====
module

public import proofs.«01_k».proof.Proof.Gen.BiasIdeal.Frame
public import proofs.«01_k».proof.Proof.BiasRows0
public import proofs.«01_k».proof.Proof.BiasRows1
public import proofs.«01_k».proof.Proof.BiasRows2
public import proofs.«01_k».proof.Proof.BiasRows3
public import proofs.«01_k».proof.Proof.BiasRows4
public import proofs.«01_k».proof.Proof.BiasRows5
public import proofs.«01_k».proof.Proof.BiasRows6
public import proofs.«01_k».proof.Proof.BiasRows7

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel row wrap bucket)
open Cert.BiasIdeal Cert.BiasIdeal.Gen

variable (m : (ℓ : Loc nD τ sig) → Buf (Elt Ideal) ℓ)

/-- The entry at a row given by its number. -/
theorem at_row (r k : Nat) (hr : r < 128) (hk : k < 128) (j : Fin 384) (h : k = r) (e : lit0t (k * 384 + j.val) = entry (rel ⟨k, hk⟩ j)) : lit0t (r * 384 + j.val) = entry (rel ⟨r, hr⟩ j) := by
  subst h
  exact e

/-- The kernel's bucket table at a query given by its number. -/
theorem table_at (r : Nat) (hr : r < 128) (j : Fin 384) : lit0t (r * 384 + j.val) = entry (rel ⟨r, hr⟩ j) := by
  obtain ⟨s, hs⟩ : ∃ s : Fin 8, s.val = r % 8 := ⟨⟨r % 8, Nat.mod_lt _ (by decide)⟩, rfl⟩
  have h : r / 8 = 0 ∨ r / 8 = 1 ∨ r / 8 = 2 ∨ r / 8 = 3 ∨ r / 8 = 4 ∨ r / 8 = 5 ∨ r / 8 = 6 ∨ r / 8 = 7 ∨ r / 8 = 8 ∨ r / 8 = 9 ∨ r / 8 = 10 ∨ r / 8 = 11 ∨ r / 8 = 12 ∨ r / 8 = 13 ∨ r / 8 = 14 ∨ r / 8 = 15 := by omega
  rcases h with h | h | h | h | h | h | h | h | h | h | h | h | h | h | h | h
  · with_reducible exact at_row r (0 + s.val) hr (by omega) j (by omega) (rows0 s j)
  · with_reducible exact at_row r (8 + s.val) hr (by omega) j (by omega) (rows1 s j)
  · with_reducible exact at_row r (16 + s.val) hr (by omega) j (by omega) (rows2 s j)
  · with_reducible exact at_row r (24 + s.val) hr (by omega) j (by omega) (rows3 s j)
  · with_reducible exact at_row r (32 + s.val) hr (by omega) j (by omega) (rows4 s j)
  · with_reducible exact at_row r (40 + s.val) hr (by omega) j (by omega) (rows5 s j)
  · with_reducible exact at_row r (48 + s.val) hr (by omega) j (by omega) (rows6 s j)
  · with_reducible exact at_row r (56 + s.val) hr (by omega) j (by omega) (rows7 s j)
  · with_reducible exact at_row r (64 + s.val) hr (by omega) j (by omega) (rows8 s j)
  · with_reducible exact at_row r (72 + s.val) hr (by omega) j (by omega) (rows9 s j)
  · with_reducible exact at_row r (80 + s.val) hr (by omega) j (by omega) (rows10 s j)
  · with_reducible exact at_row r (88 + s.val) hr (by omega) j (by omega) (rows11 s j)
  · with_reducible exact at_row r (96 + s.val) hr (by omega) j (by omega) (rows12 s j)
  · with_reducible exact at_row r (104 + s.val) hr (by omega) j (by omega) (rows13 s j)
  · with_reducible exact at_row r (112 + s.val) hr (by omega) j (by omega) (rows14 s j)
  · with_reducible exact at_row r (120 + s.val) hr (by omega) j (by omega) (rows15 s j)

/-- The kernel's bucket table at one query and key. -/
theorem table (r : Fin 128) (j : Fin 384) : lit0t (r.val * 384 + j.val) = entry (rel r j) := table_at r.val r.isLt j

end Cert.BiasIdeal.RefValue

end
-- ==== Proof.BiasValue.lean ====
module

public import proofs.«01_k».proof.Proof.Gen.BiasIdeal.Frame
public import proofs.«01_k».proof.Proof.BiasTable
public import proofs.«01_k».proof.Proof.Softmax

@[expose] public section

set_option maxRecDepth 16384

noncomputable section

namespace Cert.BiasIdeal.RefValue
open Idealize.ShloMosaic Idealize.ShloMosaic.TcCoe Idealize.SL.Sem
open Idealize.ShloMosaic.Pipeline (Dat)
open Cert.BiasRefIdeal.Whole (near rel)
open Cert.BiasIdeal Cert.BiasIdeal.Gen

variable (m : (ℓ : Loc nD τ sig) → Buf (Elt Ideal) ℓ)

/-- The kernel's choice by a bucket number `n` among the entries `e`: each in turn replaces the value `b` before it where its number is `n`. -/
def chain (n : BitVec 32) (e : Fin 32 → EReal) (b : EReal) : EReal :=
  (List.finRange 32).foldl (fun acc k => Scalar.select (IntOp.cmpi .eq n (BitVec.ofNat 32 k.val)) (e k) acc) b

/-- A bucket's number chooses its entry. -/
theorem chain_ofNat (e : Fin 32 → EReal) (b : EReal) : ∀ k : Fin 32, chain (BitVec.ofNat 32 k.val) e b = e k := by
  intro k
  fin_cases k <;> rfl

/-- The number outside the window chooses none. -/
theorem chain_out (e : Fin 32 → EReal) (b : EReal) : chain 4294967295#32 e b = b := rfl

/-- Every window's block index. -/
theorem idx : ∀ t : Fin cfg0.N, win0_0.index t = ![0, 0] ∧ win0_1.index t = ![0, 0] ∧ win0_2.index t = ![0, 0, 0] :=
  (by decide +kernel : ∀ t : Fin grid0.N, _)

/-- The kernel's bucket table as an array. -/
def TAB : IVec S128x384 32 := fun i => lit0 (S128x384.rowMajor i)

/-- The bucket table at one query and key. -/
theorem tab_at (r : Fin 128) (j : Fin 384) : TAB (ix2 r j) = lit0t (r.val * 384 + j.val) :=
  congrArg lit0t (Shape.rowMajor_val_two (ix2 r j))

/-- The second window's array is the bucket table. -/
theorem tab_V (c : Dev nD) : V m c main_c = TAB := by
  funext i
  blk_simp [V]
  rfl

/-- The second window's block is the bucket table. -/
theorem blk_tab (c : Dev nD) (t : Fin cfg0.N) (r : Fin 128) (j : Fin 384) : iblk m c 1 t (ix2 r j) = TAB (ix2 r j) := by
  unfold iblk
  rw [show V m c (Pipeline.arrRef spec0 1) = TAB from tab_V m c]
  blk_ext! [idx t]

/-- The first window's block is the bias table. -/
theorem blk_bias (c : Dev nD) (t : Fin cfg0.N) (k : Fin 32) (q : Fin 8) : iblk m c 0 t (ix2 k q) = m ((c : Thread nD τ).loc main_arg0) (ix2 k q) := by
  blk_point [iblk, V, idx t]

/-- The mask is minus infinity. -/
theorem mask_eq : (Named.named κ "mask" 0xF149F2CA#32 : Ideal .f32) = (⊥ : EReal) := rfl

/-- The kernel's choice by the bucket table is the reference's element. -/
theorem pick (a0 : FVec Ideal S32x8 .f32) (h : Fin 8) (r : Fin 128) (j : Fin 384) :
    chain (entry (rel r j)) (fun k => a0 (ix2 k h)) (Named.named κ "mask" 0xF149F2CA#32 : Ideal .f32)
      = Cert.BiasRefIdeal.Whole.REF a0 (ix3 h r j) := by
  rw [Cert.BiasRefIdeal.Whole.ref_at, Cert.Softmax.ofBits_bot, mask_eq]
  unfold entry Scalar.select
  by_cases hn : near (rel r j) = 1
  · rw [if_pos hn, if_pos hn, chain_ofNat]
  · rw [if_neg hn, if_neg hn, chain_out]

/-- The kernel's choice from its two blocks is the reference's element. -/
theorem pick_blk (c : Dev nD) (t : Fin cfg0.N) (h : Fin 8) (r : Fin 128) (j : Fin 384) :
    chain (iblk m c 1 t (ix2 r j)) (fun k => iblk m c 0 t (ix2 k h)) (Named.named κ "mask" 0xF149F2CA#32 : Ideal .f32)
      = Cert.BiasRefIdeal.Whole.REF (m ((c : Thread nD τ).loc main_arg0)) (ix3 h r j) := by
  rw [blk_tab, tab_at, table, ← pick]
  simp only [blk_bias]

/-- The result array after the run is the reference's. -/
theorem final (c : Dev nD) : (dats m 0 c).arrAt 2 (cfgs 0).N = Cert.BiasRefIdeal.Whole.REF (m ((c : Thread nD τ).loc main_arg0)) := by
  refine (dats m 0 c).arrAt_eq_of_covers 2 _ (by decide +kernel) fun t _ y => ?_
  blk_simp; rw [after0_2]; unfold Gen.outsAt0; frame_out
  canon_tiles x h using View.cover_of_tiledBy _ ![1, 128, 384] (by sl_kernel_rfl) y
  case piece0 =>
    generalize hT : View.read (Elt Ideal) (View.whole cc0_stg1_0) (_ : (View.whole cc0_stg1_0).ref.ty.Contents (Elt Ideal)) = T
    generalize hE : View.read (Elt Ideal) (View.whole cc0_stg0_0) _ = E
    pointwise [k0_pay1, k0_pay74, k0_pay73, k0_pay72, k0_pay71, k0_pay70, k0_pay69, k0_pay68]
    refine Eq.trans (b := chain (T (ix2 (x 1) (x 2))) (fun k => E (ix2 k 7)) (Named.named κ "mask" 0xF149F2CA#32 : Ideal .f32)) rfl ?_
    rw [← hT, (hs0_1 t).read_unread (iblk m c 1 t), ← hE, (hs0_0 t).read_unread (iblk m c 0 t)]
    refine (pick_blk m c t 7 (x 1) (x 2)).trans ?_
    blk_ext! [idx t]
  case piece1 =>
    generalize hT : View.read (Elt Ideal) (View.whole cc0_stg1_0) (_ : (View.whole cc0_stg1_0).ref.ty.Contents (Elt Ideal)) = T
    generalize hE : View.read (Elt Ideal) (View.whole cc0_stg0_0) _ = E
    pointwise [k0_pay67, k0_pay66, k0_pay65, k0_pay64, k0_pay63, k0_pay62, k0_pay61]
    refine Eq.trans (b := chain (T (ix2 (x 1) (x 2))) (fun k => E (ix2 k 6)) (Named.named κ "mask" 0xF149F2CA#32 : Ideal .f32)) rfl ?_
    rw [← hT, (hs0_1 t).read_unread (iblk m c 1 t), ← hE, (hs0_0 t).read_unread (iblk m c 0 t)]
    refine (pick_blk m c t 6 (x 1) (x 2)).trans ?_
    blk_ext! [idx t]
  case piece2 =>
    generalize hT : View.read (Elt Ideal) (View.whole cc0_stg1_0) (_ : (View.whole cc0_stg1_0).ref.ty.Contents (Elt Ideal)) = T
    generalize hE : View.read (Elt Ideal) (View.whole cc0_stg0_0) _ = E
    pointwise [k0_pay60, k0_pay59, k0_pay58, k0_pay57, k0_pay56, k0_pay55, k0_pay54, k0_pay53, k0_pay52]
    refine Eq.trans (b := chain (T (ix2 (x 1) (x 2))) (fun k => E (ix2 k 5)) (Named.named κ "mask" 0xF149F2CA#32 : Ideal .f32)) rfl ?_
    rw [← hT, (hs0_1 t).read_unread (iblk m c 1 t), ← hE, (hs0_0 t).read_unread (iblk m c 0 t)]
    refine (pick_blk m c t 5 (x 1) (x 2)).trans ?_
    blk_ext! [idx t]
  case piece3 =>
    generalize hT : View.read (Elt Ideal) (View.whole cc0_stg1_0) (_ : (View.whole cc0_stg1_0).ref.ty.Contents (Elt Ideal)) = T
    generalize hE : View.read (Elt Ideal) (View.whole cc0_stg0_0) _ = E
    pointwise [k0_pay51, k0_pay50, k0_pay49, k0_pay48, k0_pay47, k0_pay46, k0_pay45, k0_pay44, k0_pay43, k0_pay42, k0_pay41, k0_pay40, k0_pay39, k0_pay38]
    refine Eq.trans (b := chain (T (ix2 (x 1) (x 2))) (fun k => E (ix2 k 4)) (Named.named κ "mask" 0xF149F2CA#32 : Ideal .f32)) rfl ?_
    rw [← hT, (hs0_1 t).read_unread (iblk m c 1 t), ← hE, (hs0_0 t).read_unread (iblk m c 0 t)]
    refine (pick_blk m c t 4 (x 1) (x 2)).trans ?_
    blk_ext! [idx t]
  case piece4 =>
    generalize hT : View.read (Elt Ideal) (View.whole cc0_stg1_0) (_ : (View.whole cc0_stg1_0).ref.ty.Contents (Elt Ideal)) = T
    generalize hE : View.read (Elt Ideal) (View.whole cc0_stg0_0) _ = E
    pointwise [k0_pay37, k0_pay36, k0_pay35, k0_pay34, k0_pay33, k0_pay32, k0_pay31]
    refine Eq.trans (b := chain (T (ix2 (x 1) (x 2))) (fun k => E (ix2 k 3)) (Named.named κ "mask" 0xF149F2CA#32 : Ideal .f32)) rfl ?_
    rw [← hT, (hs0_1 t).read_unread (iblk m c 1 t), ← hE, (hs0_0 t).read_unread (iblk m c 0 t)]
    refine (pick_blk m c t 3 (x 1) (x 2)).trans ?_
    blk_ext! [idx t]
  case piece5 =>
    generalize hT : View.read (Elt Ideal) (View.whole cc0_stg1_0) (_ : (View.whole cc0_stg1_0).ref.ty.Contents (Elt Ideal)) = T
    generalize hE : View.read (Elt Ideal) (View.whole cc0_stg0_0) _ = E
    pointwise [k0_pay30, k0_pay29, k0_pay28, k0_pay27, k0_pay26, k0_pay25, k0_pay24, k0_pay23, k0_pay22]
    refine Eq.trans (b := chain (T (ix2 (x 1) (x 2))) (fun k => E (ix2 k 2)) (Named.named κ "mask" 0xF149F2CA#32 : Ideal .f32)) rfl ?_
    rw [← hT, (hs0_1 t).read_unread (iblk m c 1 t), ← hE, (hs0_0 t).read_unread (iblk m c 0 t)]
    refine (pick_blk m c t 2 (x 1) (x 2)).trans ?_
    blk_ext! [idx t]
  case piece6 =>
    generalize hT : View.read (Elt Ideal) (View.whole cc0_stg1_0) (_ : (View.whole cc0_stg1_0).ref.ty.Contents (Elt Ideal)) = T
    generalize hE : View.read (Elt Ideal) (View.whole cc0_stg0_0) _ = E
    pointwise [k0_pay21, k0_pay20, k0_pay19, k0_pay18, k0_pay17, k0_pay16, k0_pay15, k0_pay14, k0_pay13]
    refine Eq.trans (b := chain (T (ix2 (x 1) (x 2))) (fun k => E (ix2 k 1)) (Named.named κ "mask" 0xF149F2CA#32 : Ideal .f32)) rfl ?_
    rw [← hT, (hs0_1 t).read_unread (iblk m c 1 t), ← hE, (hs0_0 t).read_unread (iblk m c 0 t)]
    refine (pick_blk m c t 1 (x 1) (x 2)).trans ?_
    blk_ext! [idx t]
  case piece7 =>
    generalize hT : View.read (Elt Ideal) (View.whole cc0_stg1_0) (_ : (View.whole cc0_stg1_0).ref.ty.Contents (Elt Ideal)) = T
    generalize hE : View.read (Elt Ideal) (View.whole cc0_stg0_0) _ = E
    pointwise [k0_pay12, k0_pay11, k0_pay10, k0_pay9, k0_pay8, k0_pay7, k0_pay6, k0_pay5, k0_pay4, k0_pay3, k0_pay2]
    refine Eq.trans (b := chain (T (ix2 (x 1) (x 2))) (fun k => E (ix2 k 0)) (Named.named κ "mask" 0xF149F2CA#32 : Ideal .f32)) rfl ?_
    rw [← hT, (hs0_1 t).read_unread (iblk m c 1 t), ← hE, (hs0_0 t).read_unread (iblk m c 0 t)]
    refine (pick_blk m c t 0 (x 1) (x 2)).trans ?_
    blk_ext! [idx t]

end Cert.BiasIdeal.RefValue
-- ==== Proof.lean ====
/- Each conjunct of the claim, and the claim: the kernels and their references run without fault and leave their
   arguments unchanged, each kernel's idealization is sanctioned, and over the extended reals each kernel ends with its
   reference's result. -/
module

public import proofs.«01_k».proof.Defs
public import proofs.«01_k».proof.Proof.Gen.WAttn
public import proofs.«01_k».proof.Proof.Gen.WAttn.Frame
public import proofs.«01_k».proof.Proof.Gen.WAttnIdeal
public import proofs.«01_k».proof.Proof.Gen.WAttnIdeal.Frame
public import proofs.«01_k».proof.Proof.Gen.WAttnRefIdeal
public import proofs.«01_k».proof.Proof.Gen.WAttnRefIdeal.Run
public import proofs.«01_k».proof.Proof.WAttnValue
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.FfnValue
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.MergeValue
public import proofs.«01_k».proof.Proof.Gen.MAttn
public import proofs.«01_k».proof.Proof.Gen.MAttn.Frame
public import proofs.«01_k».proof.Proof.Gen.MAttnIdeal
public import proofs.«01_k».proof.Proof.Gen.MAttnIdeal.Frame
public import proofs.«01_k».proof.Proof.Gen.MAttnRefIdeal
public import proofs.«01_k».proof.Proof.Gen.MAttnRefIdeal.Run
public import proofs.«01_k».proof.Proof.MAttnValue
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.ProjValue
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvRefIdeal
public import proofs.«01_k».proof.Proof.Gen.MemKvRefIdeal.Run
public import proofs.«01_k».proof.Proof.MemKvValue
public import proofs.«01_k».proof.Proof.Gen.Bias
public import proofs.«01_k».proof.Proof.Gen.Bias.Frame
public import proofs.«01_k».proof.Proof.Gen.BiasIdeal
public import proofs.«01_k».proof.Proof.Gen.BiasIdeal.Frame
public import proofs.«01_k».proof.Proof.Gen.BiasRefIdeal
public import proofs.«01_k».proof.Proof.Gen.BiasRefIdeal.Run
public import proofs.«01_k».proof.Proof.BiasValue

@[expose] public section

set_option maxRecDepth 65536

noncomputable section

namespace Cert.Proof
open Idealize.ShloMosaic Idealize.ShloMosaic.TcCoe Idealize.SL.Sem

/-- The side conditions of the precondition `finite_scores_w`. -/
theorem facts_finite_scores_w : Cert.Pre_finite_scores_w.Facts where
  slices_S32768x6016_S32768x512_0_3072 := by decide
  bitsLt_bf16_f32 := by decide
  bcast_S_S32768x512 := by decide
  slices_S32768x6016_S32768x128_0_4096 := by decide
  bcast_S_S32768x128 := by decide
  bcast_S_S8x128x384 := by decide
  bcast_S_S8 := by decide

/-- The side conditions of the precondition `finite_scores_m`. -/
theorem facts_finite_scores_m : Cert.Pre_finite_scores_m.Facts where
  slices_S32768x6016_S32768x512_0_3584 := by decide
  bitsLt_bf16_f32 := by decide
  bcast_S_S32768x512 := by decide
  slices_S2048x1024_S2048x512_0_0 := by decide
  bcast_S_S2048x512 := by decide

/-- The kernel `WAttn` runs and leaves its arguments unchanged. -/
theorem quiescent_WAttn : Cert.quiescent_WAttn := fun m ρ _ => Cert.WAttn.Gen.frame m ρ

/-- The kernel `WAttnIdeal` runs and leaves its arguments unchanged. -/
theorem quiescent_WAttnIdeal : Cert.quiescent_WAttnIdeal := fun m ρ _ => Cert.WAttnIdeal.Gen.frame m ρ

/-- The kernel `WAttnIdeal` runs and leaves its arguments unchanged, under the precondition. -/
theorem quiescent_WAttnIdeal_pre_finite_scores_w : Cert.quiescent_WAttnIdeal_pre_finite_scores_w (hPre_finite_scores_w := facts_finite_scores_w) := fun m ρ _ => Cert.WAttnIdeal.Gen.frame m ρ

/-- The reference `WAttnRefIdeal` runs and leaves its arguments unchanged. -/
theorem quiescent_WAttnRefIdeal : Cert.quiescent_WAttnRefIdeal := fun m ρ _ =>
  (θ_run Cert.WAttnRefIdeal.defs _ _).mono (fun r h => ⟨fun c => (h c).2, sem_eq_zero_of_no_sems (by decide) r.2⟩)
    (Cert.WAttnRefIdeal.Value.run m ρ)

/-- The reference `WAttnRefIdeal` runs and leaves its arguments unchanged, under the precondition. -/
theorem quiescent_WAttnRefIdeal_pre_finite_scores_w : Cert.quiescent_WAttnRefIdeal_pre_finite_scores_w (hPre_finite_scores_w := facts_finite_scores_w) := fun m ρ _ =>
  (θ_run Cert.WAttnRefIdeal.defs _ _).mono (fun r h => ⟨fun c => (h c).2, sem_eq_zero_of_no_sems (by decide) r.2⟩)
    (Cert.WAttnRefIdeal.Value.run m ρ)

/-- The kernel `Ffn` runs and leaves its arguments unchanged. -/
theorem quiescent_Ffn : Cert.quiescent_Ffn := fun m ρ _ => Cert.Ffn.Gen.frame m ρ

/-- The kernel `FfnIdeal` runs and leaves its arguments unchanged. -/
theorem quiescent_FfnIdeal : Cert.quiescent_FfnIdeal := fun m ρ _ => Cert.FfnIdeal.Gen.frame m ρ

/-- The reference `FfnRefIdeal` runs and leaves its arguments unchanged. -/
theorem quiescent_FfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run m ρ)

/-- The kernel `Merge` runs and leaves its arguments unchanged. -/
theorem quiescent_Merge : Cert.quiescent_Merge := fun m ρ _ => Cert.Merge.Gen.frame m ρ

/-- The kernel `MergeIdeal` runs and leaves its arguments unchanged. -/
theorem quiescent_MergeIdeal : Cert.quiescent_MergeIdeal := fun m ρ _ => Cert.MergeIdeal.Gen.frame m ρ

/-- The reference `MergeRefIdeal` runs and leaves its arguments unchanged. -/
theorem quiescent_MergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run m ρ)

/-- The kernel `MAttn` runs and leaves its arguments unchanged. -/
theorem quiescent_MAttn : Cert.quiescent_MAttn := fun m ρ _ => Cert.MAttn.Gen.frame m ρ

/-- The kernel `MAttnIdeal` runs and leaves its arguments unchanged. -/
theorem quiescent_MAttnIdeal : Cert.quiescent_MAttnIdeal := fun m ρ _ => Cert.MAttnIdeal.Gen.frame m ρ

/-- The kernel `MAttnIdeal` runs and leaves its arguments unchanged, under the precondition. -/
theorem quiescent_MAttnIdeal_pre_finite_scores_m : Cert.quiescent_MAttnIdeal_pre_finite_scores_m (hPre_finite_scores_m := facts_finite_scores_m) := fun m ρ _ => Cert.MAttnIdeal.Gen.frame m ρ

/-- The reference `MAttnRefIdeal` runs and leaves its arguments unchanged. -/
theorem quiescent_MAttnRefIdeal : Cert.quiescent_MAttnRefIdeal := fun m ρ _ =>
  (θ_run Cert.MAttnRefIdeal.defs _ _).mono (fun r h => ⟨fun c => (h c).2, sem_eq_zero_of_no_sems (by decide) r.2⟩)
    (Cert.MAttnRefIdeal.Value.run m ρ)

/-- The reference `MAttnRefIdeal` runs and leaves its arguments unchanged, under the precondition. -/
theorem quiescent_MAttnRefIdeal_pre_finite_scores_m : Cert.quiescent_MAttnRefIdeal_pre_finite_scores_m (hPre_finite_scores_m := facts_finite_scores_m) := fun m ρ _ =>
  (θ_run Cert.MAttnRefIdeal.defs _ _).mono (fun r h => ⟨fun c => (h c).2, sem_eq_zero_of_no_sems (by decide) r.2⟩)
    (Cert.MAttnRefIdeal.Value.run m ρ)

/-- The kernel `Proj` runs and leaves its arguments unchanged. -/
theorem quiescent_Proj : Cert.quiescent_Proj := fun m ρ _ => Cert.Proj.Gen.frame m ρ

/-- The kernel `ProjIdeal` runs and leaves its arguments unchanged. -/
theorem quiescent_ProjIdeal : Cert.quiescent_ProjIdeal := fun m ρ _ => Cert.ProjIdeal.Gen.frame m ρ

/-- The reference `ProjRefIdeal` runs and leaves its arguments unchanged. -/
theorem quiescent_ProjRefIdeal : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run m ρ)

/-- The kernel `MemKv` runs and leaves its arguments unchanged. -/
theorem quiescent_MemKv : Cert.quiescent_MemKv := fun m ρ _ => Cert.MemKv.Gen.frame m ρ

/-- The kernel `MemKvIdeal` runs and leaves its arguments unchanged. -/
theorem quiescent_MemKvIdeal : Cert.quiescent_MemKvIdeal := fun m ρ _ => Cert.MemKvIdeal.Gen.frame m ρ

/-- The reference `MemKvRefIdeal` runs and leaves its arguments unchanged. -/
theorem quiescent_MemKvRefIdeal : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run m ρ)

/-- The kernel `Bias` runs and leaves its arguments unchanged. -/
theorem quiescent_Bias : Cert.quiescent_Bias := fun m ρ _ => Cert.Bias.Gen.frame m ρ

/-- The kernel `BiasIdeal` runs and leaves its arguments unchanged. -/
theorem quiescent_BiasIdeal : Cert.quiescent_BiasIdeal := fun m ρ _ => Cert.BiasIdeal.Gen.frame m ρ

/-- The reference `BiasRefIdeal` runs and leaves its arguments unchanged. -/
theorem quiescent_BiasRefIdeal : Cert.quiescent_BiasRefIdeal := fun m ρ _ =>
  (θ_run Cert.BiasRefIdeal.defs _ _).mono (fun r h => ⟨fun c => (h c).2, sem_eq_zero_of_no_sems (by decide) r.2⟩)
    (Cert.BiasRefIdeal.Value.run m ρ)

/-- Window attention: its idealization replaces the named constant alone. -/
theorem preserves_WAttn_WAttnIdeal : Cert.preserves_WAttn_WAttnIdeal :=
  IdealRules.named_const.statement Cert.WAttnIdeal.κ "mask" .f32 0xF149F2CA#32 ⊥ rfl

/-- Window attention and its reference end with equal results, where the scores' operands are finite. -/
theorem algebraic_WAttnIdeal_WAttnRefIdeal_pre_finite_scores_w : Cert.algebraic_WAttnIdeal_WAttnRefIdeal_pre_finite_scores_w (hPre_finite_scores_w := facts_finite_scores_w) := by
  letI := facts_finite_scores_w
  pair_intro
  · run_from Cert.WAttnIdeal.Gen.run_main m g
  · run_from Cert.WAttnRefIdeal.Value.run m' g'
    have h : Cert.WAttnRefIdeal.Value.res_main_v68 m' c = Cert.WAttnRefIdeal.Whole.REF (m' ((c : Thread Cert.WAttnRefIdeal.nD Cert.WAttnRefIdeal.τ).loc Cert.WAttnRefIdeal.main_arg0)) (m' ((c : Thread Cert.WAttnRefIdeal.nD Cert.WAttnRefIdeal.τ).loc Cert.WAttnRefIdeal.main_arg1)) (m' ((c : Thread Cert.WAttnRefIdeal.nD Cert.WAttnRefIdeal.τ).loc Cert.WAttnRefIdeal.main_arg2)) := rfl
    rw [(hagree c).1, (hagree c).2.1, (hagree c).2.2] at h
    exact h.trans (Cert.WAttnIdeal.RefValue.final m hpre c).symm

/-- The SwiGLU feed-forward: its idealization replaces nothing. -/
theorem preserves_Ffn_FfnIdeal : Cert.preserves_Ffn_FfnIdeal := trivial

/-- The SwiGLU feed-forward and its reference end with equal results. -/
theorem algebraic_FfnIdeal_FfnRefIdeal : Cert.algebraic_FfnIdeal_FfnRefIdeal := by
  pair_intro
  · run_from Cert.FfnIdeal.Gen.run_main m g
  · run_from Cert.FfnRefIdeal.Value.run m' g'
    exact (Cert.FfnIdeal.RefValue.final m c).symm

/-- The gated merge: its idealization replaces nothing. -/
theorem preserves_Merge_MergeIdeal : Cert.preserves_Merge_MergeIdeal := trivial

/-- The gated merge and its reference end with equal results. -/
theorem algebraic_MergeIdeal_MergeRefIdeal : Cert.algebraic_MergeIdeal_MergeRefIdeal := by
  pair_intro
  · run_from Cert.MergeIdeal.Gen.run_main m g
  · run_from Cert.MergeRefIdeal.Value.run m' g'
    exact (Cert.MergeIdeal.RefValue.final m c).symm

/-- Memory attention: its idealization replaces the named constant alone. -/
theorem preserves_MAttn_MAttnIdeal : Cert.preserves_MAttn_MAttnIdeal :=
  IdealRules.named_const.statement Cert.MAttnIdeal.κ "s" .f32 0x3DB504F3#32 _ rfl

/-- Memory attention and its reference end with equal results, where the scores' operands are finite. -/
theorem algebraic_MAttnIdeal_MAttnRefIdeal_pre_finite_scores_m : Cert.algebraic_MAttnIdeal_MAttnRefIdeal_pre_finite_scores_m (hPre_finite_scores_m := facts_finite_scores_m) := by
  letI := facts_finite_scores_m
  pair_intro
  · run_from Cert.MAttnIdeal.Gen.run_main m g
  · run_from Cert.MAttnRefIdeal.Value.run m' g'
    exact (Cert.MAttnIdeal.RefValue.final m hpre c).symm

/-- The input projection: its idealization replaces nothing. -/
theorem preserves_Proj_ProjIdeal : Cert.preserves_Proj_ProjIdeal := trivial

/-- The input projection and its reference end with equal results. -/
theorem algebraic_ProjIdeal_ProjRefIdeal : Cert.algebraic_ProjIdeal_ProjRefIdeal := by
  pair_intro
  · run_from Cert.ProjIdeal.Gen.run_main m g
  · run_from Cert.ProjRefIdeal.Value.run m' g'
    have h : Cert.ProjRefIdeal.Value.res_main_v75 m' c = Cert.ProjRefIdeal.Whole.REF (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) (m' ((c : Thread Cert.ProjRefIdeal.nD Cert.ProjRefIdeal.τ).loc Cert.ProjRefIdeal.main_arg2)) (m' ((c : Thread Cert.ProjRefIdeal.nD Cert.ProjRefIdeal.τ).loc Cert.ProjRefIdeal.main_arg3)) (m' ((c : Thread Cert.ProjRefIdeal.nD Cert.ProjRefIdeal.τ).loc Cert.ProjRefIdeal.main_arg4)) (m' ((c : Thread Cert.ProjRefIdeal.nD Cert.ProjRefIdeal.τ).loc Cert.ProjRefIdeal.main_arg5)) := rfl
    rw [(hagree c).1, (hagree c).2.1, (hagree c).2.2.1, (hagree c).2.2.2.1, (hagree c).2.2.2.2.1, (hagree c).2.2.2.2.2] at h
    exact h.trans (Cert.ProjIdeal.RefValue.final m c).symm

/-- The memory keys and values: its idealization replaces nothing. -/
theorem preserves_MemKv_MemKvIdeal : Cert.preserves_MemKv_MemKvIdeal := trivial

/-- The memory keys and values and its reference end with equal results. -/
theorem algebraic_MemKvIdeal_MemKvRefIdeal : Cert.algebraic_MemKvIdeal_MemKvRefIdeal := by
  pair_intro
  · run_from Cert.MemKvIdeal.Gen.run_main m g
  · run_from Cert.MemKvRefIdeal.Value.run m' g'
    have h : Cert.MemKvRefIdeal.Value.res_main_v32 m' c = Cert.MemKvRefIdeal.Whole.REF (m' ((c : Thread Cert.MemKvRefIdeal.nD Cert.MemKvRefIdeal.τ).loc Cert.MemKvRefIdeal.main_arg0)) (m' ((c : Thread Cert.MemKvRefIdeal.nD Cert.MemKvRefIdeal.τ).loc Cert.MemKvRefIdeal.main_arg1)) (m' ((c : Thread Cert.MemKvRefIdeal.nD Cert.MemKvRefIdeal.τ).loc Cert.MemKvRefIdeal.main_arg2)) (m' ((c : Thread Cert.MemKvRefIdeal.nD Cert.MemKvRefIdeal.τ).loc Cert.MemKvRefIdeal.main_arg3)) := rfl
    rw [(hagree c).1, (hagree c).2.1, (hagree c).2.2.1, (hagree c).2.2.2] at h
    exact h.trans (Cert.MemKvIdeal.RefValue.final m c).symm

/-- The position bias: its idealization replaces the named constant alone. -/
theorem preserves_Bias_BiasIdeal : Cert.preserves_Bias_BiasIdeal :=
  IdealRules.named_const.statement Cert.BiasIdeal.κ "mask" .f32 0xF149F2CA#32 ⊥ rfl

/-- The position bias and its reference end with equal results. -/
theorem algebraic_BiasIdeal_BiasRefIdeal : Cert.algebraic_BiasIdeal_BiasRefIdeal := by
  pair_intro
  · run_from Cert.BiasIdeal.Gen.run_main m g
  · run_from Cert.BiasRefIdeal.Value.run m' g'
    have h : Cert.BiasRefIdeal.Value.res_main_v67 m' c = Cert.BiasRefIdeal.Whole.REF (m' ((c : Thread Cert.BiasRefIdeal.nD Cert.BiasRefIdeal.τ).loc Cert.BiasRefIdeal.main_arg0)) := rfl
    rw [(hagree c)] at h
    exact h.trans (Cert.BiasIdeal.RefValue.final m c).symm

/-- The claim: all of the above. -/
theorem claim : Cert.Claim :=
  ⟨Cert.WAttn.Gen.facts, Cert.WAttnIdeal.Gen.facts, Cert.WAttnRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.MAttn.Gen.facts, Cert.MAttnIdeal.Gen.facts, Cert.MAttnRefIdeal.Gen.facts, Cert.Proj.Gen.facts, Cert.ProjIdeal.Gen.facts, Cert.ProjRefIdeal.Gen.facts, Cert.MemKv.Gen.facts, Cert.MemKvIdeal.Gen.facts, Cert.MemKvRefIdeal.Gen.facts, Cert.Bias.Gen.facts, Cert.BiasIdeal.Gen.facts, Cert.BiasRefIdeal.Gen.facts, facts_finite_scores_w, facts_finite_scores_m,
   quiescent_WAttn,
   quiescent_WAttnIdeal,
   quiescent_WAttnIdeal_pre_finite_scores_w,
   quiescent_WAttnRefIdeal,
   quiescent_WAttnRefIdeal_pre_finite_scores_w,
   quiescent_Ffn,
   quiescent_FfnIdeal,
   quiescent_FfnRefIdeal,
   quiescent_Merge,
   quiescent_MergeIdeal,
   quiescent_MergeRefIdeal,
   quiescent_MAttn,
   quiescent_MAttnIdeal,
   quiescent_MAttnIdeal_pre_finite_scores_m,
   quiescent_MAttnRefIdeal,
   quiescent_MAttnRefIdeal_pre_finite_scores_m,
   quiescent_Proj,
   quiescent_ProjIdeal,
   quiescent_ProjRefIdeal,
   quiescent_MemKv,
   quiescent_MemKvIdeal,
   quiescent_MemKvRefIdeal,
   quiescent_Bias,
   quiescent_BiasIdeal,
   quiescent_BiasRefIdeal,
   preserves_WAttn_WAttnIdeal,
   algebraic_WAttnIdeal_WAttnRefIdeal_pre_finite_scores_w,
   preserves_Ffn_FfnIdeal,
   algebraic_FfnIdeal_FfnRefIdeal,
   preserves_Merge_MergeIdeal,
   algebraic_MergeIdeal_MergeRefIdeal,
   preserves_MAttn_MAttnIdeal,
   algebraic_MAttnIdeal_MAttnRefIdeal_pre_finite_scores_m,
   preserves_Proj_ProjIdeal,
   algebraic_ProjIdeal_ProjRefIdeal,
   preserves_MemKv_MemKvIdeal,
   algebraic_MemKvIdeal_MemKvRefIdeal,
   preserves_Bias_BiasIdeal,
   algebraic_BiasIdeal_BiasRefIdeal⟩

end Cert.Proof

end
